-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_heads [hPre_finite_heads : Cert.Pre_finite_heads.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_heads.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).1 = (fun _ => 1#1)
    ∧ (Cert.Pre_finite_heads.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_heads [hPre_finite_heads : Cert.Pre_finite_heads.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_heads.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11))).1 = (fun _ => 1#1)
    ∧ (Cert.Pre_finite_heads.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11))).2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_prep [hPre_finite_prep : Cert.Pre_finite_prep.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_prep.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).1 = (fun _ => 1#1)
    ∧ (Cert.Pre_finite_prep.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).2.1 = (fun _ => 1#1)
    ∧ (Cert.Pre_finite_prep.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).2.2.1 = (fun _ => 1#1)
    ∧ (Cert.Pre_finite_prep.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).2.2.2.1 = (fun _ => 1#1)
    ∧ (Cert.Pre_finite_prep.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).2.2.2.2.1 = (fun _ => 1#1)
    ∧ (Cert.Pre_finite_prep.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).2.2.2.2.2.1 = (fun _ => 1#1)
    ∧ (Cert.Pre_finite_prep.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).2.2.2.2.2.2.1 = (fun _ => 1#1)
    ∧ (Cert.Pre_finite_prep.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).2.2.2.2.2.2.2.1 = (fun _ => 1#1)
    ∧ (Cert.Pre_finite_prep.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))).2.2.2.2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_prep [hPre_finite_prep : Cert.Pre_finite_prep.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_prep.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).1 = (fun _ => 1#1)
    ∧ (Cert.Pre_finite_prep.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).2.1 = (fun _ => 1#1)
    ∧ (Cert.Pre_finite_prep.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).2.2.1 = (fun _ => 1#1)
    ∧ (Cert.Pre_finite_prep.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).2.2.2.1 = (fun _ => 1#1)
    ∧ (Cert.Pre_finite_prep.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).2.2.2.2.1 = (fun _ => 1#1)
    ∧ (Cert.Pre_finite_prep.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).2.2.2.2.2.1 = (fun _ => 1#1)
    ∧ (Cert.Pre_finite_prep.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).2.2.2.2.2.2.1 = (fun _ => 1#1)
    ∧ (Cert.Pre_finite_prep.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).2.2.2.2.2.2.2.1 = (fun _ => 1#1)
    ∧ (Cert.Pre_finite_prep.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))).2.2.2.2.2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_cond [hPre_finite_cond : Cert.Pre_finite_cond.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_cond.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).1 = (fun _ => 1#1)
    ∧ (Cert.Pre_finite_cond.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.1 = (fun _ => 1#1)
    ∧ (Cert.Pre_finite_cond.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_cond [hPre_finite_cond : Cert.Pre_finite_cond.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_cond.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).1 = (fun _ => 1#1)
    ∧ (Cert.Pre_finite_cond.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.1 = (fun _ => 1#1)
    ∧ (Cert.Pre_finite_cond.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Kernel5Ideal_pre_finite_heads [hKernel5Ideal : Cert.Kernel5Ideal.Facts] [hPre_finite_heads : Cert.Pre_finite_heads.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_heads m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Reference5Ideal_pre_finite_heads [hReference5Ideal : Cert.Reference5Ideal.Facts] [hPre_finite_heads : Cert.Pre_finite_heads.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_heads m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Kernel6Ideal_pre_finite_prep [hKernel6Ideal : Cert.Kernel6Ideal.Facts] [hPre_finite_prep : Cert.Pre_finite_prep.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_prep m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Reference6Ideal_pre_finite_prep [hReference6Ideal : Cert.Reference6Ideal.Facts] [hPre_finite_prep : Cert.Pre_finite_prep.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_prep m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite_cond [hKernel7Ideal : Cert.Kernel7Ideal.Facts] [hPre_finite_cond : Cert.Pre_finite_cond.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_cond m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite_cond [hReference7Ideal : Cert.Reference7Ideal.Facts] [hPre_finite_cond : Cert.Pre_finite_cond.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_cond m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_v57) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v56) = v0 c
          ∧ r.2.mem ((c.tc : Thread Cert.Reference4Ideal.nD Cert.Reference4Ideal.τ).loc Cert.Reference4Ideal.main_v57) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite_heads [hKernel5Ideal : Cert.Kernel5Ideal.Facts] [hReference5Ideal : Cert.Reference5Ideal.Facts] [hPre_finite_heads : Cert.Pre_finite_heads.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_heads m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v22)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v53) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal_pre_finite_prep [hKernel6Ideal : Cert.Kernel6Ideal.Facts] [hReference6Ideal : Cert.Reference6Ideal.Facts] [hPre_finite_prep : Cert.Pre_finite_prep.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_prep m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v13_0)) (v1 : (c : Dev Cert.Kernel6Ideal.nD) → Buf (Elt Ideal) ((c.tc : Thread Cert.Kernel6Ideal.nD Cert.Kernel6Ideal.τ).loc Cert.Kernel6Ideal.main_v13_1)) (v2 : (c : Dev Cert.Kernel6Ideal.nD) → Buf (Elt Ideal) ((c.tc : Thread Cert.Kernel6Ideal.nD Cert.Kernel6Ideal.τ).loc Cert.Kernel6Ideal.main_v13_2)) (v3 : (c : Dev Cert.Kernel6Ideal.nD) → Buf (Elt Ideal) ((c.tc : Thread Cert.Kernel6Ideal.nD Cert.Kernel6Ideal.τ).loc Cert.Kernel6Ideal.main_v13_3)) (v4 : (c : Dev Cert.Kernel6Ideal.nD) → Buf (Elt Ideal) ((c.tc : Thread Cert.Kernel6Ideal.nD Cert.Kernel6Ideal.τ).loc Cert.Kernel6Ideal.main_v13_4)) (v5 : (c : Dev Cert.Kernel6Ideal.nD) → Buf (Elt Ideal) ((c.tc : Thread Cert.Kernel6Ideal.nD Cert.Kernel6Ideal.τ).loc Cert.Kernel6Ideal.main_v13_5)) (v6 : (c : Dev Cert.Kernel6Ideal.nD) → Buf (Elt Ideal) ((c.tc : Thread Cert.Kernel6Ideal.nD Cert.Kernel6Ideal.τ).loc Cert.Kernel6Ideal.main_v13_6)) (v7 : (c : Dev Cert.Kernel6Ideal.nD) → Buf (Elt Ideal) ((c.tc : Thread Cert.Kernel6Ideal.nD Cert.Kernel6Ideal.τ).loc Cert.Kernel6Ideal.main_v13_7)) (v8 : (c : Dev Cert.Kernel6Ideal.nD) → Buf (Elt Ideal) ((c.tc : Thread Cert.Kernel6Ideal.nD Cert.Kernel6Ideal.τ).loc Cert.Kernel6Ideal.main_v13_8)) (v9 : (c : Dev Cert.Kernel6Ideal.nD) → Buf (Elt Ideal) ((c.tc : Thread Cert.Kernel6Ideal.nD Cert.Kernel6Ideal.τ).loc Cert.Kernel6Ideal.main_v13_9)) (v10 : (c : Dev Cert.Kernel6Ideal.nD) → Buf (Elt Ideal) ((c.tc : Thread Cert.Kernel6Ideal.nD Cert.Kernel6Ideal.τ).loc Cert.Kernel6Ideal.main_v13_10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13_0) = v0 c
          ∧ r.2.mem ((c.tc : Thread Cert.Kernel6Ideal.nD Cert.Kernel6Ideal.τ).loc Cert.Kernel6Ideal.main_v13_1) = v1 c
          ∧ r.2.mem ((c.tc : Thread Cert.Kernel6Ideal.nD Cert.Kernel6Ideal.τ).loc Cert.Kernel6Ideal.main_v13_2) = v2 c
          ∧ r.2.mem ((c.tc : Thread Cert.Kernel6Ideal.nD Cert.Kernel6Ideal.τ).loc Cert.Kernel6Ideal.main_v13_3) = v3 c
          ∧ r.2.mem ((c.tc : Thread Cert.Kernel6Ideal.nD Cert.Kernel6Ideal.τ).loc Cert.Kernel6Ideal.main_v13_4) = v4 c
          ∧ r.2.mem ((c.tc : Thread Cert.Kernel6Ideal.nD Cert.Kernel6Ideal.τ).loc Cert.Kernel6Ideal.main_v13_5) = v5 c
          ∧ r.2.mem ((c.tc : Thread Cert.Kernel6Ideal.nD Cert.Kernel6Ideal.τ).loc Cert.Kernel6Ideal.main_v13_6) = v6 c
          ∧ r.2.mem ((c.tc : Thread Cert.Kernel6Ideal.nD Cert.Kernel6Ideal.τ).loc Cert.Kernel6Ideal.main_v13_7) = v7 c
          ∧ r.2.mem ((c.tc : Thread Cert.Kernel6Ideal.nD Cert.Kernel6Ideal.τ).loc Cert.Kernel6Ideal.main_v13_8) = v8 c
          ∧ r.2.mem ((c.tc : Thread Cert.Kernel6Ideal.nD Cert.Kernel6Ideal.τ).loc Cert.Kernel6Ideal.main_v13_9) = v9 c
          ∧ r.2.mem ((c.tc : Thread Cert.Kernel6Ideal.nD Cert.Kernel6Ideal.τ).loc Cert.Kernel6Ideal.main_v13_10) = v10 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_v33) = v1 c
          ∧ r.2.mem ((c.tc : Thread Cert.Reference6Ideal.nD Cert.Reference6Ideal.τ).loc Cert.Reference6Ideal.main_v45) = v2 c
          ∧ r.2.mem ((c.tc : Thread Cert.Reference6Ideal.nD Cert.Reference6Ideal.τ).loc Cert.Reference6Ideal.main_v173) = v3 c
          ∧ r.2.mem ((c.tc : Thread Cert.Reference6Ideal.nD Cert.Reference6Ideal.τ).loc Cert.Reference6Ideal.main_v174) = v4 c
          ∧ r.2.mem ((c.tc : Thread Cert.Reference6Ideal.nD Cert.Reference6Ideal.τ).loc Cert.Reference6Ideal.main_v102) = v5 c
          ∧ r.2.mem ((c.tc : Thread Cert.Reference6Ideal.nD Cert.Reference6Ideal.τ).loc Cert.Reference6Ideal.main_v103) = v6 c
          ∧ r.2.mem ((c.tc : Thread Cert.Reference6Ideal.nD Cert.Reference6Ideal.τ).loc Cert.Reference6Ideal.main_v106) = v7 c
          ∧ r.2.mem ((c.tc : Thread Cert.Reference6Ideal.nD Cert.Reference6Ideal.τ).loc Cert.Reference6Ideal.main_v159) = v8 c
          ∧ r.2.mem ((c.tc : Thread Cert.Reference6Ideal.nD Cert.Reference6Ideal.τ).loc Cert.Reference6Ideal.main_v160) = v9 c
          ∧ r.2.mem ((c.tc : Thread Cert.Reference6Ideal.nD Cert.Reference6Ideal.τ).loc Cert.Reference6Ideal.main_v163) = v10 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def preserves_Kernel7_Kernel7Ideal : Prop :=
  True

def algebraic_Kernel7Ideal_Reference7Ideal_pre_finite_cond [hKernel7Ideal : Cert.Kernel7Ideal.Facts] [hReference7Ideal : Cert.Reference7Ideal.Facts] [hPre_finite_cond : Cert.Pre_finite_cond.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_cond m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts) (hPre_finite_heads : Cert.Pre_finite_heads.Facts) (hPre_finite_prep : Cert.Pre_finite_prep.Facts) (hPre_finite_cond : Cert.Pre_finite_cond.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_heads (hKernel5Ideal := hKernel5Ideal) (hPre_finite_heads := hPre_finite_heads)
    ∧ quiescent_Reference5Ideal (hReference5Ideal := hReference5Ideal)
    ∧ quiescent_Reference5Ideal_pre_finite_heads (hReference5Ideal := hReference5Ideal) (hPre_finite_heads := hPre_finite_heads)
    ∧ quiescent_Kernel6 (hKernel6 := hKernel6)
    ∧ quiescent_Kernel6Ideal (hKernel6Ideal := hKernel6Ideal)
    ∧ quiescent_Kernel6Ideal_pre_finite_prep (hKernel6Ideal := hKernel6Ideal) (hPre_finite_prep := hPre_finite_prep)
    ∧ quiescent_Reference6Ideal (hReference6Ideal := hReference6Ideal)
    ∧ quiescent_Reference6Ideal_pre_finite_prep (hReference6Ideal := hReference6Ideal) (hPre_finite_prep := hPre_finite_prep)
    ∧ quiescent_Kernel7 (hKernel7 := hKernel7)
    ∧ quiescent_Kernel7Ideal (hKernel7Ideal := hKernel7Ideal)
    ∧ quiescent_Kernel7Ideal_pre_finite_cond (hKernel7Ideal := hKernel7Ideal) (hPre_finite_cond := hPre_finite_cond)
    ∧ quiescent_Reference7Ideal (hReference7Ideal := hReference7Ideal)
    ∧ quiescent_Reference7Ideal_pre_finite_cond (hReference7Ideal := hReference7Ideal) (hPre_finite_cond := hPre_finite_cond)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_heads (hKernel5Ideal := hKernel5Ideal) (hReference5Ideal := hReference5Ideal) (hPre_finite_heads := hPre_finite_heads)
    ∧ preserves_Kernel6_Kernel6Ideal
    ∧ algebraic_Kernel6Ideal_Reference6Ideal_pre_finite_prep (hKernel6Ideal := hKernel6Ideal) (hReference6Ideal := hReference6Ideal) (hPre_finite_prep := hPre_finite_prep)
    ∧ preserves_Kernel7_Kernel7Ideal
    ∧ algebraic_Kernel7Ideal_Reference7Ideal_pre_finite_cond (hKernel7Ideal := hKernel7Ideal) (hReference7Ideal := hReference7Ideal) (hPre_finite_cond := hPre_finite_cond)
-- ==== Pre_finite_cond.lean ====
abbrev S4x1024 : Shape := ⟨2, ![4, 1024]⟩
abbrev S1024 : Shape := ⟨1, ![1024]⟩
abbrev S1024x6144 : Shape := ⟨2, ![1024, 6144]⟩
abbrev S6144 : Shape := ⟨1, ![6144]⟩
abbrev S_ : Shape := ⟨0, ![]⟩

class Facts : Prop where
  bcast_S_S4x1024 : S_.BroadcastsInDim S4x1024 (![] : Fin 0 → Fin S4x1024.rank)
  bcast_S_S1024 : S_.BroadcastsInDim S1024 (![] : Fin 0 → Fin S1024.rank)
  bcast_S_S1024x6144 : S_.BroadcastsInDim S1024x6144 (![] : Fin 0 → Fin S1024x6144.rank)

variable [Facts]

def fn {F : FTy → Type} [FloatOps F] (main_arg0 : FVec F S4x1024 .f32) (main_arg1 : FVec F S1024 .f32) (main_arg2 : FVec F S1024x6144 .f32) (main_arg3 : FVec F S6144 .f32) : IVec S4x1024 1 × IVec S1024 1 × IVec S1024x6144 1 :=
  let main_v0 : FVec F S4x1024 .f32 := Host.absf main_arg0
  let main_cst : FVec F S_ .f32 := constant S_ .f32 0x7F800000#32
  let main_v1 : FVec F S4x1024 .f32 := broadcastInDim S4x1024 ![] bcast_S_S4x1024 main_cst
  let main_v2 : IVec S4x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x6144 .f32 := Host.absf main_arg2
  let main_cst_1 : FVec F S_ .f32 := constant S_ .f32 0x7F800000#32
  let main_v7 : FVec F S1024x6144 .f32 := broadcastInDim S1024x6144 ![] bcast_S_S1024x6144 main_cst_1
  let main_v8 : IVec S1024x6144 1 := cmpf .olt main_v6 main_v7
  (main_v2, main_v5, main_v8)
-- ==== Pre_finite_heads.lean ====
abbrev S4x8448x768 : Shape := ⟨3, ![4, 8448, 768]⟩
abbrev S768 : Shape := ⟨1, ![768]⟩
abbrev S4x8448x256 : Shape := ⟨3, ![4, 8448, 256]⟩
abbrev S4x8192x1024 : Shape := ⟨3, ![4, 8192, 1024]⟩
abbrev S4x256x1024 : Shape := ⟨3, ![4, 256, 1024]⟩
abbrev S4x6144 : Shape := ⟨2, ![4, 6144]⟩
abbrev S6144 : Shape := ⟨1, ![6144]⟩
abbrev S1024x1024 : Shape := ⟨2, ![1024, 1024]⟩
abbrev S_ : Shape := ⟨0, ![]⟩

class Facts : Prop where
  bcast_S_S4x8448x768 : S_.BroadcastsInDim S4x8448x768 (![] : Fin 0 → Fin S4x8448x768.rank)

variable [Facts]

def fn {F : FTy → Type} [FloatOps F] (main_arg0 : FVec F S4x8448x768 .f32) (main_arg1 : FVec F S4x8448x768 .f32) (main_arg2 : FVec F S4x8448x768 .f32) (main_arg3 : FVec F S4x8448x768 .f32) (main_arg4 : FVec F S768 .f32) (main_arg5 : FVec F S768 .f32) (main_arg6 : FVec F S4x8448x256 .f32) (main_arg7 : FVec F S4x8192x1024 .f32) (main_arg8 : FVec F S4x256x1024 .f32) (main_arg9 : FVec F S4x6144 .f32) (main_arg10 : FVec F S6144 .f32) (main_arg11 : FVec F S1024x1024 .f32) : IVec S4x8448x768 1 × IVec S4x8448x768 1 :=
  let main_v0 : FVec F S4x8448x768 .f32 := Host.absf main_arg0
  let main_cst : FVec F S_ .f32 := constant S_ .f32 0x7F800000#32
  let main_v1 : FVec F S4x8448x768 .f32 := broadcastInDim S4x8448x768 ![] bcast_S_S4x8448x768 main_cst
  let main_v2 : IVec S4x8448x768 1 := cmpf .olt main_v0 main_v1
  let main_v3 : FVec F S4x8448x768 .f32 := Host.absf main_arg1
  let main_cst_0 : FVec F S_ .f32 := constant S_ .f32 0x7F800000#32
  let main_v4 : FVec F S4x8448x768 .f32 := broadcastInDim S4x8448x768 ![] bcast_S_S4x8448x768 main_cst_0
  let main_v5 : IVec S4x8448x768 1 := cmpf .olt main_v3 main_v4
  (main_v2, main_v5)
-- ==== Pre_finite_prep.lean ====
abbrev S4x8448x2688 : Shape := ⟨3, ![4, 8448, 2688]⟩
abbrev S2688 : Shape := ⟨1, ![2688]⟩
abbrev S2x768 : Shape := ⟨2, ![2, 768]⟩
abbrev S2x64x768 : Shape := ⟨3, ![2, 64, 768]⟩
abbrev S128x768 : Shape := ⟨2, ![128, 768]⟩
abbrev S768 : Shape := ⟨1, ![768]⟩
abbrev S12x64 : Shape := ⟨2, ![12, 64]⟩
abbrev S_ : Shape := ⟨0, ![]⟩

class Facts : Prop where
  bcast_S_S4x8448x2688 : S_.BroadcastsInDim S4x8448x2688 (![] : Fin 0 → Fin S4x8448x2688.rank)
  bcast_S_S2688 : S_.BroadcastsInDim S2688 (![] : Fin 0 → Fin S2688.rank)
  bcast_S_S2x64x768 : S_.BroadcastsInDim S2x64x768 (![] : Fin 0 → Fin S2x64x768.rank)
  bcast_S_S128x768 : S_.BroadcastsInDim S128x768 (![] : Fin 0 → Fin S128x768.rank)
  bcast_S_S768 : S_.BroadcastsInDim S768 (![] : Fin 0 → Fin S768.rank)
  bcast_S_S12x64 : S_.BroadcastsInDim S12x64 (![] : Fin 0 → Fin S12x64.rank)

variable [Facts]

def fn_part1 {F : FTy → Type} [FloatOps F] (main_arg8 : FVec F S768 .f32) (main_arg9 : FVec F S768 .f32) (main_arg10 : FVec F S12x64 .f32) (main_v2 : IVec S4x8448x2688 1) (main_v5 : IVec S2688 1) (main_v8 : IVec S2688 1) (main_v11 : IVec S2x64x768 1) (main_v14 : IVec S2x64x768 1) (main_v17 : IVec S128x768 1) : IVec S4x8448x2688 1 × IVec S2688 1 × IVec S2688 1 × IVec S2x64x768 1 × IVec S2x64x768 1 × IVec S128x768 1 × IVec S768 1 × IVec S768 1 × IVec S12x64 1 :=
  let main_v18 : FVec F S768 .f32 := Host.absf main_arg8
  let main_cst_5 : FVec F S_ .f32 := constant S_ .f32 0x7F800000#32
  let main_v19 : FVec F S768 .f32 := broadcastInDim S768 ![] bcast_S_S768 main_cst_5
  let main_v20 : IVec S768 1 := cmpf .olt main_v18 main_v19
  let main_v21 : FVec F S768 .f32 := Host.absf main_arg9
  let main_cst_6 : FVec F S_ .f32 := constant S_ .f32 0x7F800000#32
  let main_v22 : FVec F S768 .f32 := broadcastInDim S768 ![] bcast_S_S768 main_cst_6
  let main_v23 : IVec S768 1 := cmpf .olt main_v21 main_v22
  let main_v24 : FVec F S12x64 .f32 := Host.absf main_arg10
  let main_cst_7 : FVec F S_ .f32 := constant S_ .f32 0x7F800000#32
  let main_v25 : FVec F S12x64 .f32 := broadcastInDim S12x64 ![] bcast_S_S12x64 main_cst_7
  let main_v26 : IVec S12x64 1 := cmpf .olt main_v24 main_v25
  (main_v2, main_v5, main_v8, main_v11, main_v14, main_v17, main_v20, main_v23, main_v26)

def fn {F : FTy → Type} [FloatOps F] (main_arg0 : FVec F S4x8448x2688 .f32) (main_arg1 : FVec F S2688 .f32) (main_arg2 : FVec F S2688 .f32) (main_arg3 : FVec F S2x768 .f32) (main_arg4 : FVec F S2x64x768 .f32) (main_arg5 : FVec F S2x768 .f32) (main_arg6 : FVec F S2x64x768 .f32) (main_arg7 : FVec F S128x768 .f32) (main_arg8 : FVec F S768 .f32) (main_arg9 : FVec F S768 .f32) (main_arg10 : FVec F S12x64 .f32) : IVec S4x8448x2688 1 × IVec S2688 1 × IVec S2688 1 × IVec S2x64x768 1 × IVec S2x64x768 1 × IVec S128x768 1 × IVec S768 1 × IVec S768 1 × IVec S12x64 1 :=
  let main_v0 : FVec F S4x8448x2688 .f32 := Host.absf main_arg0
  let main_cst : FVec F S_ .f32 := constant S_ .f32 0x7F800000#32
  let main_v1 : FVec F S4x8448x2688 .f32 := broadcastInDim S4x8448x2688 ![] bcast_S_S4x8448x2688 main_cst
  let main_v2 : IVec S4x8448x2688 1 := cmpf .olt main_v0 main_v1
  let main_v3 : FVec F S2688 .f32 := Host.absf main_arg1
  let main_cst_0 : FVec F S_ .f32 := constant S_ .f32 0x7F800000#32
  let main_v4 : FVec F S2688 .f32 := broadcastInDim S2688 ![] bcast_S_S2688 main_cst_0
  let main_v5 : IVec S2688 1 := cmpf .olt main_v3 main_v4
  let main_v6 : FVec F S2688 .f32 := Host.absf main_arg2
  let main_cst_1 : FVec F S_ .f32 := constant S_ .f32 0x7F800000#32
  let main_v7 : FVec F S2688 .f32 := broadcastInDim S2688 ![] bcast_S_S2688 main_cst_1
  let main_v8 : IVec S2688 1 := cmpf .olt main_v6 main_v7
  let main_v9 : FVec F S2x64x768 .f32 := Host.absf main_arg4
  let main_cst_2 : FVec F S_ .f32 := constant S_ .f32 0x7F800000#32
  let main_v10 : FVec F S2x64x768 .f32 := broadcastInDim S2x64x768 ![] bcast_S_S2x64x768 main_cst_2
  let main_v11 : IVec S2x64x768 1 := cmpf .olt main_v9 main_v10
  let main_v12 : FVec F S2x64x768 .f32 := Host.absf main_arg6
  let main_cst_3 : FVec F S_ .f32 := constant S_ .f32 0x7F800000#32
  let main_v13 : FVec F S2x64x768 .f32 := broadcastInDim S2x64x768 ![] bcast_S_S2x64x768 main_cst_3
  let main_v14 : IVec S2x64x768 1 := cmpf .olt main_v12 main_v13
  let main_v15 : FVec F S128x768 .f32 := Host.absf main_arg7
  let main_cst_4 : FVec F S_ .f32 := constant S_ .f32 0x7F800000#32
  let main_v16 : FVec F S128x768 .f32 := broadcastInDim S128x768 ![] bcast_S_S128x768 main_cst_4
  let main_v17 : IVec S128x768 1 := cmpf .olt main_v15 main_v16
  fn_part1 (F := F) main_arg8 main_arg9 main_arg10 main_v2 main_v5 main_v8 main_v11 main_v14 main_v17
-- ==== Pre_finite_scores.lean ====
abbrev S4x8192x12x64 : Shape := ⟨4, ![4, 8192, 12, 64]⟩
abbrev S4x8192x4x64 : Shape := ⟨4, ![4, 8192, 4, 64]⟩
abbrev S4x256x4x64 : Shape := ⟨4, ![4, 256, 4, 64]⟩
abbrev S_ : Shape := ⟨0, ![]⟩

class Facts : Prop where
  bcast_S_S4x8192x12x64 : S_.BroadcastsInDim S4x8192x12x64 (![] : Fin 0 → Fin S4x8192x12x64.rank)
  bcast_S_S4x8192x4x64 : S_.BroadcastsInDim S4x8192x4x64 (![] : Fin 0 → Fin S4x8192x4x64.rank)
  bcast_S_S4x256x4x64 : S_.BroadcastsInDim S4x256x4x64 (![] : Fin 0 → Fin S4x256x4x64.rank)

variable [Facts]

def fn {F : FTy → Type} [FloatOps F] (main_arg0 : FVec F S4x8192x12x64 .f32) (main_arg1 : FVec F S4x8192x4x64 .f32) (main_arg2 : FVec F S4x8192x4x64 .f32) (main_arg3 : FVec F S4x256x4x64 .f32) (main_arg4 : FVec F S4x256x4x64 .f32) : IVec S4x8192x12x64 1 × IVec S4x8192x4x64 1 × IVec S4x256x4x64 1 :=
  let main_v0 : FVec F S4x8192x12x64 .f32 := Host.absf main_arg0
  let main_cst : FVec F S_ .f32 := constant S_ .f32 0x7F800000#32
  let main_v1 : FVec F S4x8192x12x64 .f32 := broadcastInDim S4x8192x12x64 ![] bcast_S_S4x8192x12x64 main_cst
  let main_v2 : IVec S4x8192x12x64 1 := cmpf .olt main_v0 main_v1
  let main_v3 : FVec F S4x8192x4x64 .f32 := Host.absf main_arg1
  let main_cst_0 : FVec F S_ .f32 := constant S_ .f32 0x7F800000#32
  let main_v4 : FVec F S4x8192x4x64 .f32 := broadcastInDim S4x8192x4x64 ![] bcast_S_S4x8192x4x64 main_cst_0
  let main_v5 : IVec S4x8192x4x64 1 := cmpf .olt main_v3 main_v4
  let main_v6 : FVec F S4x256x4x64 .f32 := Host.absf main_arg3
  let main_cst_1 : FVec F S_ .f32 := constant S_ .f32 0x7F800000#32
  let main_v7 : FVec F S4x256x4x64 .f32 := broadcastInDim S4x256x4x64 ![] bcast_S_S4x256x4x64 main_cst_1
  let main_v8 : IVec S4x256x4x64 1 := cmpf .olt main_v6 main_v7
  (main_v2, main_v5, main_v8)
-- ==== Kernel.lean ====
abbrev S4x8192x12x64 : Shape := ⟨4, ![4, 8192, 12, 64]⟩
abbrev S4x8192x4x64 : Shape := ⟨4, ![4, 8192, 4, 64]⟩
abbrev S4x256x4x64 : Shape := ⟨4, ![4, 256, 4, 64]⟩
abbrev S_ : Shape := ⟨0, ![]⟩
abbrev S4x8192x768 : Shape := ⟨3, ![4, 8192, 768]⟩
abbrev S4x8448x768 : Shape := ⟨3, ![4, 8448, 768]⟩
abbrev S4x768x8448 : Shape := ⟨3, ![4, 768, 8448]⟩
abbrev S4x8448x4x64 : Shape := ⟨4, ![4, 8448, 4, 64]⟩
abbrev S4x4x8448x64 : Shape := ⟨4, ![4, 4, 8448, 64]⟩
abbrev S4x8448x256 : Shape := ⟨3, ![4, 8448, 256]⟩
abbrev S4x256x8448 : Shape := ⟨3, ![4, 256, 8448]⟩
abbrev S4x768x8192 : Shape := ⟨3, ![4, 768, 8192]⟩
abbrev S1x192x256 : Shape := ⟨3, ![1, 192, 256]⟩
abbrev S1x1x8448x64 : Shape := ⟨4, ![1, 1, 8448, 64]⟩
abbrev S1x64x8448 : Shape := ⟨3, ![1, 64, 8448]⟩
abbrev S3x1x256 : Shape := ⟨3, ![3, 1, 256]⟩
abbrev S3x64x256 : Shape := ⟨3, ![3, 64, 256]⟩
abbrev S1x64x256 : Shape := ⟨3, ![1, 64, 256]⟩
abbrev S64x256 : Shape := ⟨2, ![64, 256]⟩
abbrev S1x1x256 : Shape := ⟨3, ![1, 1, 256]⟩
abbrev S1x256 : Shape := ⟨2, ![1, 256]⟩
abbrev S1x1x256x64 : Shape := ⟨4, ![1, 1, 256, 64]⟩
abbrev S256x64 : Shape := ⟨2, ![256, 64]⟩
abbrev S256x256 : Shape := ⟨2, ![256, 256]⟩
abbrev S256 : Shape := ⟨1, ![256]⟩
abbrev S192x256 : Shape := ⟨2, ![192, 256]⟩

abbrev nBuf : Space → Nat
  | .hbm => 25
  | .vmem => 11
  | .smem => 0
  | _ => 0

abbrev bufTy : (tb : Table) → Fin (tcTables nBuf tb) → BufTy
  | .hbm, ⟨0, _⟩ => ⟨S4x8192x12x64, .f32⟩
  | .hbm, ⟨1, _⟩ => ⟨S4x8192x4x64, .f32⟩
  | .hbm, ⟨2, _⟩ => ⟨S4x8192x4x64, .f32⟩
  | .hbm, ⟨3, _⟩ => ⟨S4x256x4x64, .f32⟩
  | .hbm, ⟨4, _⟩ => ⟨S4x256x4x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x8192x12x64, .f32⟩
  | .hbm, ⟨10, _⟩ => ⟨S4x8192x12x64, .f32⟩
  | .hbm, ⟨11, _⟩ => ⟨S4x8192x768, .f32⟩
  | .hbm, ⟨12, _⟩ => ⟨S_, .i32⟩
  | .hbm, ⟨13, _⟩ => ⟨S_, .f32⟩
  | .hbm, ⟨14, _⟩ => ⟨S4x8448x768, .f32⟩
  | .hbm, ⟨15, _⟩ => ⟨S4x768x8448, .f32⟩
  | .hbm, ⟨16, _⟩ => ⟨S4x768x8448, .bf16⟩
  | .hbm, ⟨17, _⟩ => ⟨S4x8448x4x64, .f32⟩
  | .hbm, ⟨18, _⟩ => ⟨S4x4x8448x64, .f32⟩
  | .hbm, ⟨19, _⟩ => ⟨S4x4x8448x64, .bf16⟩
  | .hbm, ⟨20, _⟩ => ⟨S4x8448x4x64, .f32⟩
  | .hbm, ⟨21, _⟩ => ⟨S4x8448x256, .f32⟩
  | .hbm, ⟨22, _⟩ => ⟨S4x256x8448, .f32⟩
  | .hbm, ⟨23, _⟩ => ⟨S4x256x8448, .bf16⟩
  | .hbm, ⟨24, _⟩ => ⟨S4x768x8192, .bf16⟩
  | .local _ .vmem, ⟨0, _⟩ => ⟨S1x192x256, .bf16⟩
  | .local _ .vmem, ⟨1, _⟩ => ⟨S1x192x256, .bf16⟩
  | .local _ .vmem, ⟨2, _⟩ => ⟨S1x1x8448x64, .bf16⟩
  | .local _ .vmem, ⟨3, _⟩ => ⟨S1x1x8448x64, .bf16⟩
  | .local _ .vmem, ⟨4, _⟩ => ⟨S1x64x8448, .bf16⟩
  | .local _ .vmem, ⟨5, _⟩ => ⟨S1x64x8448, .bf16⟩
  | .local _ .vmem, ⟨6, _⟩ => ⟨S1x192x256, .bf16⟩
  | .local _ .vmem, ⟨7, _⟩ => ⟨S1x192x256, .bf16⟩
  | .local _ .vmem, ⟨8, _⟩ => ⟨S3x1x256, .f32⟩
  | .local _ .vmem, ⟨9, _⟩ => ⟨S3x1x256, .f32⟩
  | .local _ .vmem, ⟨10, _⟩ => ⟨S3x64x256, .f32⟩
  | _, _ => ⟨S4x8192x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![4, 4, 32, 1], ![false, false, false, false]⟩

def k0_cond2 (i : grid0.Coords) : BitVec 1 :=
  let arg3 : BitVec 32 := BitVec.ofNat 32 (i 3).val
  let c0_i32_653 : BitVec 32 := 0#32
  let v1968 : BitVec 1 := Scalar.cmpi .eq arg3 c0_i32_653
  let v1969 : BitVec 32 := Scalar.extui v1968
  let c0_i32_654 : BitVec 32 := 0#32
  let v1970 : BitVec 1 := Scalar.cmpi .ne v1969 c0_i32_654
  v1970

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.addi arg2 c1_i32
  let c0_i32 : BitVec 32 := 0#32
  ![arg0.toNat, arg1.toNat, v0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg3.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x1x8448x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x64x8448 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1x192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== ReferenceIdeal.lean ====
abbrev S4x8192x12x64 : Shape := ⟨4, ![4, 8192, 12, 64]⟩
abbrev S4x8192x4x64 : Shape := ⟨4, ![4, 8192, 4, 64]⟩
abbrev S4x256x4x64 : Shape := ⟨4, ![4, 256, 4, 64]⟩
abbrev S4x8448x4x64 : Shape := ⟨4, ![4, 8448, 4, 64]⟩
abbrev S4x8192x4x3x64 : Shape := ⟨5, ![4, 8192, 4, 3, 64]⟩
abbrev S4x4x8448x8192x3 : Shape := ⟨5, ![4, 4, 8448, 8192, 3]⟩
abbrev S4x4x3x8192x8448 : Shape := ⟨5, ![4, 4, 3, 8192, 8448]⟩
abbrev S_ : Shape := ⟨0, ![]⟩
abbrev S4x4x3x8192 : Shape := ⟨4, ![4, 4, 3, 8192]⟩
abbrev S4x4x3x8192x1 : Shape := ⟨5, ![4, 4, 3, 8192, 1]⟩
abbrev S4x4x64x3x8192 : Shape := ⟨5, ![4, 4, 64, 3, 8192]⟩
abbrev S4x8192x768 : Shape := ⟨3, ![4, 8192, 768]⟩
abbrev S4x768x8192 : Shape := ⟨3, ![4, 768, 8192]⟩

abbrev nBuf : Space → Nat
  | .hbm => 32
  | .vmem => 0
  | .smem => 0
  | _ => 0

abbrev bufTy : (tb : Table) → Fin (tcTables nBuf tb) → BufTy
  | .hbm, ⟨0, _⟩ => ⟨S4x8192x12x64, .f32⟩
  | .hbm, ⟨1, _⟩ => ⟨S4x8192x4x64, .f32⟩
  | .hbm, ⟨2, _⟩ => ⟨S4x8192x4x64, .f32⟩
  | .hbm, ⟨3, _⟩ => ⟨S4x256x4x64, .f32⟩
  | .hbm, ⟨4, _⟩ => ⟨S4x256x4x64, .f32⟩
  | .hbm, ⟨5, _⟩ => ⟨S4x8448x4x64, .f32⟩
  | .hbm, ⟨6, _⟩ => ⟨S4x8448x4x64, .f32⟩
  | .hbm, ⟨7, _⟩ => ⟨S4x8192x4x3x64, .f32⟩
  | .hbm, ⟨8, _⟩ => ⟨S4x4x8448x8192x3, .f32⟩
  | .hbm, ⟨9, _⟩ => ⟨S4x4x3x8192x8448, .f32⟩
  | .hbm, ⟨10, _⟩ => ⟨S_, .f32⟩
  | .hbm, ⟨11, _⟩ => ⟨S4x4x3x8192x8448, .f32⟩
  | .hbm, ⟨12, _⟩ => ⟨S4x4x3x8192x8448, .f32⟩
  | .hbm, ⟨13, _⟩ => ⟨S_, .f32⟩
  | .hbm, ⟨14, _⟩ => ⟨S4x4x3x8192, .f32⟩
  | .hbm, ⟨15, _⟩ => ⟨S_, .f32⟩
  | .hbm, ⟨16, _⟩ => ⟨S4x4x3x8192, .f32⟩
  | .hbm, ⟨17, _⟩ => ⟨S4x4x3x8192, .f32⟩
  | .hbm, ⟨18, _⟩ => ⟨S4x4x3x8192x1, .f32⟩
  | .hbm, ⟨19, _⟩ => ⟨S4x4x3x8192x8448, .f32⟩
  | .hbm, ⟨20, _⟩ => ⟨S4x4x3x8192x8448, .f32⟩
  | .hbm, ⟨21, _⟩ => ⟨S4x4x3x8192x8448, .f32⟩
  | .hbm, ⟨22, _⟩ => ⟨S_, .f32⟩
  | .hbm, ⟨23, _⟩ => ⟨S4x4x3x8192, .f32⟩
  | .hbm, ⟨24, _⟩ => ⟨S4x4x3x8192x1, .f32⟩
  | .hbm, ⟨25, _⟩ => ⟨S4x4x3x8192x8448, .f32⟩
  | .hbm, ⟨26, _⟩ => ⟨S4x4x3x8192x8448, .f32⟩
  | .hbm, ⟨27, _⟩ => ⟨S4x4x64x3x8192, .f32⟩
  | .hbm, ⟨28, _⟩ => ⟨S4x8192x4x3x64, .f32⟩
  | .hbm, ⟨29, _⟩ => ⟨S4x8192x768, .f32⟩
  | .hbm, ⟨30, _⟩ => ⟨S4x768x8192, .f32⟩
  | .hbm, ⟨31, _⟩ => ⟨S4x768x8192, .bf16⟩
  | _, _ => ⟨S4x8192x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x256x1024 : Shape := ⟨3, ![4, 256, 1024]⟩
abbrev S4x6144 : Shape := ⟨2, ![4, 6144]⟩
abbrev S6144 : Shape := ⟨1, ![6144]⟩
abbrev S1024 : Shape := ⟨1, ![1024]⟩
abbrev S1024x2944 : Shape := ⟨2, ![1024, 2944]⟩
abbrev S4x8448x1024 : Shape := ⟨3, ![4, 8448, 1024]⟩
abbrev S4x6x1024 : Shape := ⟨3, ![4, 6, 1024]⟩
abbrev S1x6x1024 : Shape := ⟨3, ![1, 6, 1024]⟩
abbrev S4x1x6x1024 : Shape := ⟨4, ![4, 1, 6, 1024]⟩
abbrev S4x2x6x1024 : Shape := ⟨4, ![4, 2, 6, 1024]⟩
abbrev S1x1024 : Shape := ⟨2, ![1, 1024]⟩
abbrev S4x8448x2688 : Shape := ⟨3, ![4, 8448, 2688]⟩
abbrev S4x8448x256 : Shape := ⟨3, ![4, 8448, 256]⟩
abbrev S1x256x1024 : Shape := ⟨3, ![1, 256, 1024]⟩
abbrev S1x1x6x1024 : Shape := ⟨4, ![1, 1, 6, 1024]⟩
abbrev S1x256x2688 : Shape := ⟨3, ![1, 256, 2688]⟩
abbrev S1x256x256 : Shape := ⟨3, ![1, 256, 256]⟩
abbrev S256x1024 : Shape := ⟨2, ![256, 1024]⟩
abbrev S6x1024 : Shape := ⟨2, ![6, 1024]⟩
abbrev S256 : Shape := ⟨1, ![256]⟩
abbrev S256x1 : Shape := ⟨2, ![256, 1]⟩
abbrev S256x2944 : Shape := ⟨2, ![256, 2944]⟩
abbrev S256x2688 : Shape := ⟨2, ![256, 2688]⟩
abbrev S256x256 : Shape := ⟨2, ![256, 256]⟩

abbrev nBuf : Space → Nat
  | .hbm => 17
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x6144, .f32⟩
  | .hbm, ⟨3, _⟩ => ⟨S6144, .f32⟩
  | .hbm, ⟨4, _⟩ => ⟨S1024, .f32⟩
  | .hbm, ⟨5, _⟩ => ⟨S1024x2944, .f32⟩
  | .hbm, ⟨6, _⟩ => ⟨S4x8448x1024, .f32⟩
  | .hbm, ⟨7, _⟩ => ⟨S4x6x1024, .f32⟩
  | .hbm, ⟨8, _⟩ => ⟨S1x6x1024, .f32⟩
  | .hbm, ⟨9, _⟩ => ⟨S4x6x1024, .f32⟩
  | .hbm, ⟨10, _⟩ => ⟨S4x1x6x1024, .f32⟩
  | .hbm, ⟨11, _⟩ => ⟨S4x1x6x1024, .f32⟩
  | .hbm, ⟨12, _⟩ => ⟨S4x2x6x1024, .f32⟩
  | .hbm, ⟨13, _⟩ => ⟨S1x1024, .f32⟩
  | .hbm, ⟨14, _⟩ => ⟨S1024x2944, .bf16⟩
  | .hbm, ⟨15, _⟩ => ⟨S4x8448x2688, .f32⟩
  | .hbm, ⟨16, _⟩ => ⟨S4x8448x256, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x6x1024, .f32⟩
  | .local _ .vmem, ⟨4, _⟩ => ⟨S1x1x6x1024, .f32⟩
  | .local _ .vmem, ⟨5, _⟩ => ⟨S1024x2944, .bf16⟩
  | .local _ .vmem, ⟨6, _⟩ => ⟨S1x256x2688, .f32⟩
  | .local _ .vmem, ⟨7, _⟩ => ⟨S1x256x2688, .f32⟩
  | .local _ .vmem, ⟨8, _⟩ => ⟨S1x256x256, .f32⟩
  | .local _ .vmem, ⟨9, _⟩ => ⟨S1x256x256, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg0.toNat, v1.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x2944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2688 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4x8192x1024 : Shape := ⟨3, ![4, 8192, 1024]⟩
abbrev S4x256x1024 : Shape := ⟨3, ![4, 256, 1024]⟩
abbrev S4x6144 : Shape := ⟨2, ![4, 6144]⟩
abbrev S6144 : Shape := ⟨1, ![6144]⟩
abbrev S1024 : Shape := ⟨1, ![1024]⟩
abbrev S1024x2944 : Shape := ⟨2, ![1024, 2944]⟩
abbrev S4x1x6144 : Shape := ⟨3, ![4, 1, 6144]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x256 : Shape := ⟨2, ![4, 256]⟩
abbrev S4x256x1 : Shape := ⟨3, ![4, 256, 1]⟩
abbrev S4x256x2944 : Shape := ⟨3, ![4, 256, 2944]⟩
abbrev S4x8192x2944 : Shape := ⟨3, ![4, 8192, 2944]⟩
abbrev S4x8448x2944 : Shape := ⟨3, ![4, 8448, 2944]⟩
abbrev S4x8448x2688 : Shape := ⟨3, ![4, 8448, 2688]⟩
abbrev S4x8448x256 : Shape := ⟨3, ![4, 8448, 256]⟩

abbrev nBuf : Space → Nat
  | .hbm => 72
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x6144, .f32⟩
  | .hbm, ⟨3, _⟩ => ⟨S6144, .f32⟩
  | .hbm, ⟨4, _⟩ => ⟨S1024, .f32⟩
  | .hbm, ⟨5, _⟩ => ⟨S1024x2944, .f32⟩
  | .hbm, ⟨6, _⟩ => ⟨S4x1x6144, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S4x8192x1024, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S4x8192x1, .f32⟩
  | .hbm, ⟨30, _⟩ => ⟨S4x8192x1024, .f32⟩
  | .hbm, ⟨31, _⟩ => ⟨S4x8192x1024, .f32⟩
  | .hbm, ⟨32, _⟩ => ⟨S1x1x1024, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x1x1024, .f32⟩
  | .hbm, ⟨37, _⟩ => ⟨S4x1x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S4x256x1024, .f32⟩
  | .hbm, ⟨43, _⟩ => ⟨S_, .f32⟩
  | .hbm, ⟨44, _⟩ => ⟨S4x256, .f32⟩
  | .hbm, ⟨45, _⟩ => ⟨S4x256x1, .f32⟩
  | .hbm, ⟨46, _⟩ => ⟨S_, .f32⟩
  | .hbm, ⟨47, _⟩ => ⟨S4x256x1, .f32⟩
  | .hbm, ⟨48, _⟩ => ⟨S4x256x1, .f32⟩
  | .hbm, ⟨49, _⟩ => ⟨S_, .f32⟩
  | .hbm, ⟨50, _⟩ => ⟨S4x256x1, .f32⟩
  | .hbm, ⟨51, _⟩ => ⟨S4x256x1, .f32⟩
  | .hbm, ⟨52, _⟩ => ⟨S4x256x1, .f32⟩
  | .hbm, ⟨53, _⟩ => ⟨S4x256x1024, .f32⟩
  | .hbm, ⟨54, _⟩ => ⟨S4x256x1024, .f32⟩
  | .hbm, ⟨55, _⟩ => ⟨S1x1x1024, .f32⟩
  | .hbm, ⟨56, _⟩ => ⟨S4x256x1024, .f32⟩
  | .hbm, ⟨57, _⟩ => ⟨S4x256x1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S1x1x1024, .f32⟩
  | .hbm, ⟨62, _⟩ => ⟨S4x256x1024, .f32⟩
  | .hbm, ⟨63, _⟩ => ⟨S4x256x1024, .f32⟩
  | .hbm, ⟨64, _⟩ => ⟨S1x1x1024, .f32⟩
  | .hbm, ⟨65, _⟩ => ⟨S4x256x1024, .f32⟩
  | .hbm, ⟨66, _⟩ => ⟨S4x256x1024, .f32⟩
  | .hbm, ⟨67, _⟩ => ⟨S4x256x2944, .f32⟩
  | .hbm, ⟨68, _⟩ => ⟨S4x8192x2944, .f32⟩
  | .hbm, ⟨69, _⟩ => ⟨S4x8448x2944, .f32⟩
  | .hbm, ⟨70, _⟩ => ⟨S4x8448x2688, .f32⟩
  | .hbm, ⟨71, _⟩ => ⟨S4x8448x256, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== Kernel3.lean ====
abbrev S4x8192x768 : Shape := ⟨3, ![4, 8192, 768]⟩
abbrev S4x8192x256 : Shape := ⟨3, ![4, 8192, 256]⟩
abbrev S4x8192x1024 : Shape := ⟨3, ![4, 8192, 1024]⟩
abbrev S4x6144 : Shape := ⟨2, ![4, 6144]⟩
abbrev S1024x1024 : Shape := ⟨2, ![1024, 1024]⟩
abbrev S_ : Shape := ⟨0, ![]⟩
abbrev S4x8448x1024 : Shape := ⟨3, ![4, 8448, 1024]⟩
abbrev S4x6x1024 : Shape := ⟨3, ![4, 6, 1024]⟩
abbrev S4x1x6x1024 : Shape := ⟨4, ![4, 1, 6, 1024]⟩
abbrev S4x2x6x1024 : Shape := ⟨4, ![4, 2, 6, 1024]⟩
abbrev S4x768x8192 : Shape := ⟨3, ![4, 768, 8192]⟩
abbrev S768x1024 : Shape := ⟨2, ![768, 1024]⟩
abbrev S256x1024 : Shape := ⟨2, ![256, 1024]⟩
abbrev S1x768x256 : Shape := ⟨3, ![1, 768, 256]⟩
abbrev S1x256x256 : Shape := ⟨3, ![1, 256, 256]⟩
abbrev S1x256x1024 : Shape := ⟨3, ![1, 256, 1024]⟩
abbrev S1x1x6x1024 : Shape := ⟨4, ![1, 1, 6, 1024]⟩
abbrev S768x256 : Shape := ⟨2, ![768, 256]⟩
abbrev S256x768 : Shape := ⟨2, ![256, 768]⟩
abbrev S256x256 : Shape := ⟨2, ![256, 256]⟩
abbrev S6x1024 : Shape := ⟨2, ![6, 1024]⟩
abbrev S1x1024 : Shape := ⟨2, ![1, 1024]⟩

abbrev nBuf : Space → Nat
  | .hbm => 22
  | .vmem => 12
  | .smem => 0
  | _ => 0

abbrev bufTy : (tb : Table) → Fin (tcTables nBuf tb) → BufTy
  | .hbm, ⟨0, _⟩ => ⟨S4x8192x768, .f32⟩
  | .hbm, ⟨1, _⟩ => ⟨S4x8192x256, .f32⟩
  | .hbm, ⟨2, _⟩ => ⟨S4x8192x1024, .f32⟩
  | .hbm, ⟨3, _⟩ => ⟨S4x6144, .f32⟩
  | .hbm, ⟨4, _⟩ => ⟨S1024x1024, .f32⟩
  | .hbm, ⟨5, _⟩ => ⟨S_, .i32⟩
  | .hbm, ⟨6, _⟩ => ⟨S_, .f32⟩
  | .hbm, ⟨7, _⟩ => ⟨S4x8448x1024, .f32⟩
  | .hbm, ⟨8, _⟩ => ⟨S4x6x1024, .f32⟩
  | .hbm, ⟨9, _⟩ => ⟨S_, .f32⟩
  | .hbm, ⟨10, _⟩ => ⟨S4x6x1024, .f32⟩
  | .hbm, ⟨11, _⟩ => ⟨S4x1x6x1024, .f32⟩
  | .hbm, ⟨12, _⟩ => ⟨S4x1x6x1024, .f32⟩
  | .hbm, ⟨13, _⟩ => ⟨S4x2x6x1024, .f32⟩
  | .hbm, ⟨14, _⟩ => ⟨S4x768x8192, .f32⟩
  | .hbm, ⟨15, _⟩ => ⟨S4x768x8192, .bf16⟩
  | .hbm, ⟨16, _⟩ => ⟨S4x8192x256, .bf16⟩
  | .hbm, ⟨17, _⟩ => ⟨S768x1024, .f32⟩
  | .hbm, ⟨18, _⟩ => ⟨S768x1024, .bf16⟩
  | .hbm, ⟨19, _⟩ => ⟨S256x1024, .f32⟩
  | .hbm, ⟨20, _⟩ => ⟨S256x1024, .bf16⟩
  | .hbm, ⟨21, _⟩ => ⟨S4x8192x1024, .f32⟩
  | .local _ .vmem, ⟨0, _⟩ => ⟨S1x768x256, .bf16⟩
  | .local _ .vmem, ⟨1, _⟩ => ⟨S1x768x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x1024, .f32⟩
  | .local _ .vmem, ⟨5, _⟩ => ⟨S1x256x1024, .f32⟩
  | .local _ .vmem, ⟨6, _⟩ => ⟨S1x1x6x1024, .f32⟩
  | .local _ .vmem, ⟨7, _⟩ => ⟨S1x1x6x1024, .f32⟩
  | .local _ .vmem, ⟨8, _⟩ => ⟨S768x1024, .bf16⟩
  | .local _ .vmem, ⟨9, _⟩ => ⟨S256x1024, .bf16⟩
  | .local _ .vmem, ⟨10, _⟩ => ⟨S1x256x1024, .f32⟩
  | .local _ .vmem, ⟨11, _⟩ => ⟨S1x256x1024, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let v1 : BitVec 1 := Scalar.cmpi .sge v0 c1_i32_0
  let c1_i32_1 : BitVec 32 := 1#32
  let c0_i32 : BitVec 32 := 0#32
  let v2 : BitVec 32 := Scalar.select v1 c1_i32_1 c0_i32
  let c0_i32_2 : BitVec 32 := 0#32
  let c0_i32_3 : BitVec 32 := 0#32
  let c0_i32_4 : BitVec 32 := 0#32
  ![arg0.toNat, v2.toNat, c0_i32_2.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S4x8192x768 : Shape := ⟨3, ![4, 8192, 768]⟩
abbrev S4x8192x256 : Shape := ⟨3, ![4, 8192, 256]⟩
abbrev S4x8192x1024 : Shape := ⟨3, ![4, 8192, 1024]⟩
abbrev S4x6144 : Shape := ⟨2, ![4, 6144]⟩
abbrev S1024x1024 : Shape := ⟨2, ![1024, 1024]⟩
abbrev S4x1x6144 : Shape := ⟨3, ![4, 1, 6144]⟩
abbrev S4x1x1024 : Shape := ⟨3, ![4, 1, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S4x8192x256, .f32⟩
  | .hbm, ⟨2, _⟩ => ⟨S4x8192x1024, .f32⟩
  | .hbm, ⟨3, _⟩ => ⟨S4x6144, .f32⟩
  | .hbm, ⟨4, _⟩ => ⟨S1024x1024, .f32⟩
  | .hbm, ⟨5, _⟩ => ⟨S4x1x6144, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x256x1024 : Shape := ⟨3, ![4, 256, 1024]⟩
abbrev S4x6144 : Shape := ⟨2, ![4, 6144]⟩
abbrev S6144 : Shape := ⟨1, ![6144]⟩
abbrev S1024 : Shape := ⟨1, ![1024]⟩
abbrev S1024x1792 : Shape := ⟨2, ![1024, 1792]⟩
abbrev S4x8448x1024 : Shape := ⟨3, ![4, 8448, 1024]⟩
abbrev S4x6x1024 : Shape := ⟨3, ![4, 6, 1024]⟩
abbrev S1x6x1024 : Shape := ⟨3, ![1, 6, 1024]⟩
abbrev S4x1x6x1024 : Shape := ⟨4, ![4, 1, 6, 1024]⟩
abbrev S4x2x6x1024 : Shape := ⟨4, ![4, 2, 6, 1024]⟩
abbrev S1x1024 : Shape := ⟨2, ![1, 1024]⟩
abbrev S4x8448x1280 : Shape := ⟨3, ![4, 8448, 1280]⟩
abbrev S4x8448x512 : Shape := ⟨3, ![4, 8448, 512]⟩
abbrev S1x256x1024 : Shape := ⟨3, ![1, 256, 1024]⟩
abbrev S1x1x6x1024 : Shape := ⟨4, ![1, 1, 6, 1024]⟩
abbrev S1x256x1280 : Shape := ⟨3, ![1, 256, 1280]⟩
abbrev S1x256x512 : Shape := ⟨3, ![1, 256, 512]⟩
abbrev S256x1024 : Shape := ⟨2, ![256, 1024]⟩
abbrev S6x1024 : Shape := ⟨2, ![6, 1024]⟩
abbrev S256 : Shape := ⟨1, ![256]⟩
abbrev S256x1 : Shape := ⟨2, ![256, 1]⟩
abbrev S256x1792 : Shape := ⟨2, ![256, 1792]⟩
abbrev S256x1280 : Shape := ⟨2, ![256, 1280]⟩
abbrev S256x512 : Shape := ⟨2, ![256, 512]⟩

abbrev nBuf : Space → Nat
  | .hbm => 17
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x6144, .f32⟩
  | .hbm, ⟨3, _⟩ => ⟨S6144, .f32⟩
  | .hbm, ⟨4, _⟩ => ⟨S1024, .f32⟩
  | .hbm, ⟨5, _⟩ => ⟨S1024x1792, .f32⟩
  | .hbm, ⟨6, _⟩ => ⟨S4x8448x1024, .f32⟩
  | .hbm, ⟨7, _⟩ => ⟨S4x6x1024, .f32⟩
  | .hbm, ⟨8, _⟩ => ⟨S1x6x1024, .f32⟩
  | .hbm, ⟨9, _⟩ => ⟨S4x6x1024, .f32⟩
  | .hbm, ⟨10, _⟩ => ⟨S4x1x6x1024, .f32⟩
  | .hbm, ⟨11, _⟩ => ⟨S4x1x6x1024, .f32⟩
  | .hbm, ⟨12, _⟩ => ⟨S4x2x6x1024, .f32⟩
  | .hbm, ⟨13, _⟩ => ⟨S1x1024, .f32⟩
  | .hbm, ⟨14, _⟩ => ⟨S1024x1792, .bf16⟩
  | .hbm, ⟨15, _⟩ => ⟨S4x8448x1280, .f32⟩
  | .hbm, ⟨16, _⟩ => ⟨S4x8448x512, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x6x1024, .f32⟩
  | .local _ .vmem, ⟨4, _⟩ => ⟨S1x1x6x1024, .f32⟩
  | .local _ .vmem, ⟨5, _⟩ => ⟨S1024x1792, .bf16⟩
  | .local _ .vmem, ⟨6, _⟩ => ⟨S1x256x1280, .f32⟩
  | .local _ .vmem, ⟨7, _⟩ => ⟨S1x256x1280, .f32⟩
  | .local _ .vmem, ⟨8, _⟩ => ⟨S1x256x512, .f32⟩
  | .local _ .vmem, ⟨9, _⟩ => ⟨S1x256x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg0.toNat, v1.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S4x8192x1024 : Shape := ⟨3, ![4, 8192, 1024]⟩
abbrev S4x256x1024 : Shape := ⟨3, ![4, 256, 1024]⟩
abbrev S4x6144 : Shape := ⟨2, ![4, 6144]⟩
abbrev S6144 : Shape := ⟨1, ![6144]⟩
abbrev S1024 : Shape := ⟨1, ![1024]⟩
abbrev S1024x1792 : Shape := ⟨2, ![1024, 1792]⟩
abbrev S4x1x6144 : Shape := ⟨3, ![4, 1, 6144]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x256 : Shape := ⟨2, ![4, 256]⟩
abbrev S4x256x1 : Shape := ⟨3, ![4, 256, 1]⟩
abbrev S4x256x1792 : Shape := ⟨3, ![4, 256, 1792]⟩
abbrev S4x8192x1792 : Shape := ⟨3, ![4, 8192, 1792]⟩
abbrev S4x8448x1792 : Shape := ⟨3, ![4, 8448, 1792]⟩
abbrev S4x8448x1280 : Shape := ⟨3, ![4, 8448, 1280]⟩
abbrev S4x8448x512 : Shape := ⟨3, ![4, 8448, 512]⟩

abbrev nBuf : Space → Nat
  | .hbm => 72
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x6144, .f32⟩
  | .hbm, ⟨3, _⟩ => ⟨S6144, .f32⟩
  | .hbm, ⟨4, _⟩ => ⟨S1024, .f32⟩
  | .hbm, ⟨5, _⟩ => ⟨S1024x1792, .f32⟩
  | .hbm, ⟨6, _⟩ => ⟨S4x1x6144, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S4x8192x1024, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S4x8192x1, .f32⟩
  | .hbm, ⟨30, _⟩ => ⟨S4x8192x1024, .f32⟩
  | .hbm, ⟨31, _⟩ => ⟨S4x8192x1024, .f32⟩
  | .hbm, ⟨32, _⟩ => ⟨S1x1x1024, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x1x1024, .f32⟩
  | .hbm, ⟨37, _⟩ => ⟨S4x1x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S4x256x1024, .f32⟩
  | .hbm, ⟨43, _⟩ => ⟨S_, .f32⟩
  | .hbm, ⟨44, _⟩ => ⟨S4x256, .f32⟩
  | .hbm, ⟨45, _⟩ => ⟨S4x256x1, .f32⟩
  | .hbm, ⟨46, _⟩ => ⟨S_, .f32⟩
  | .hbm, ⟨47, _⟩ => ⟨S4x256x1, .f32⟩
  | .hbm, ⟨48, _⟩ => ⟨S4x256x1, .f32⟩
  | .hbm, ⟨49, _⟩ => ⟨S_, .f32⟩
  | .hbm, ⟨50, _⟩ => ⟨S4x256x1, .f32⟩
  | .hbm, ⟨51, _⟩ => ⟨S4x256x1, .f32⟩
  | .hbm, ⟨52, _⟩ => ⟨S4x256x1, .f32⟩
  | .hbm, ⟨53, _⟩ => ⟨S4x256x1024, .f32⟩
  | .hbm, ⟨54, _⟩ => ⟨S4x256x1024, .f32⟩
  | .hbm, ⟨55, _⟩ => ⟨S1x1x1024, .f32⟩
  | .hbm, ⟨56, _⟩ => ⟨S4x256x1024, .f32⟩
  | .hbm, ⟨57, _⟩ => ⟨S4x256x1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S1x1x1024, .f32⟩
  | .hbm, ⟨62, _⟩ => ⟨S4x256x1024, .f32⟩
  | .hbm, ⟨63, _⟩ => ⟨S4x256x1024, .f32⟩
  | .hbm, ⟨64, _⟩ => ⟨S1x1x1024, .f32⟩
  | .hbm, ⟨65, _⟩ => ⟨S4x256x1024, .f32⟩
  | .hbm, ⟨66, _⟩ => ⟨S4x256x1024, .f32⟩
  | .hbm, ⟨67, _⟩ => ⟨S4x256x1792, .f32⟩
  | .hbm, ⟨68, _⟩ => ⟨S4x8192x1792, .f32⟩
  | .hbm, ⟨69, _⟩ => ⟨S4x8448x1792, .f32⟩
  | .hbm, ⟨70, _⟩ => ⟨S4x8448x1280, .f32⟩
  | .hbm, ⟨71, _⟩ => ⟨S4x8448x512, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== Kernel5.lean ====
abbrev S4x8448x768 : Shape := ⟨3, ![4, 8448, 768]⟩
abbrev S768 : Shape := ⟨1, ![768]⟩
abbrev S4x8448x256 : Shape := ⟨3, ![4, 8448, 256]⟩
abbrev S4x8192x1024 : Shape := ⟨3, ![4, 8192, 1024]⟩
abbrev S4x256x1024 : Shape := ⟨3, ![4, 256, 1024]⟩
abbrev S4x6144 : Shape := ⟨2, ![4, 6144]⟩
abbrev S6144 : Shape := ⟨1, ![6144]⟩
abbrev S1024x1024 : Shape := ⟨2, ![1024, 1024]⟩
abbrev S4x8448x1024 : Shape := ⟨3, ![4, 8448, 1024]⟩
abbrev S4x6x1024 : Shape := ⟨3, ![4, 6, 1024]⟩
abbrev S1x6x1024 : Shape := ⟨3, ![1, 6, 1024]⟩
abbrev S4x1x6x1024 : Shape := ⟨4, ![4, 1, 6, 1024]⟩
abbrev S4x2x6x1024 : Shape := ⟨4, ![4, 2, 6, 1024]⟩
abbrev S1x768 : Shape := ⟨2, ![1, 768]⟩
abbrev S12x64 : Shape := ⟨2, ![12, 64]⟩
abbrev S768x1 : Shape := ⟨2, ![768, 1]⟩
abbrev S768x768 : Shape := ⟨2, ![768, 768]⟩
abbrev S768x1024 : Shape := ⟨2, ![768, 1024]⟩
abbrev S256x1024 : Shape := ⟨2, ![256, 1024]⟩
abbrev S1x256x768 : Shape := ⟨3, ![1, 256, 768]⟩
abbrev S1x256x256 : Shape := ⟨3, ![1, 256, 256]⟩
abbrev S1x256x1024 : Shape := ⟨3, ![1, 256, 1024]⟩
abbrev S1x1x6x1024 : Shape := ⟨4, ![1, 1, 6, 1024]⟩
abbrev S256x768 : Shape := ⟨2, ![256, 768]⟩
abbrev S256x256 : Shape := ⟨2, ![256, 256]⟩
abbrev S6x1024 : Shape := ⟨2, ![6, 1024]⟩
abbrev S1x1024 : Shape := ⟨2, ![1, 1024]⟩

abbrev nBuf : Space → Nat
  | .hbm => 35
  | .vmem => 21
  | .smem => 0
  | _ => 0

abbrev bufTy : (tb : Table) → Fin (tcTables nBuf tb) → BufTy
  | .hbm, ⟨0, _⟩ => ⟨S4x8448x768, .f32⟩
  | .hbm, ⟨1, _⟩ => ⟨S4x8448x768, .f32⟩
  | .hbm, ⟨2, _⟩ => ⟨S4x8448x768, .f32⟩
  | .hbm, ⟨3, _⟩ => ⟨S4x8448x768, .f32⟩
  | .hbm, ⟨4, _⟩ => ⟨S768, .f32⟩
  | .hbm, ⟨5, _⟩ => ⟨S768, .f32⟩
  | .hbm, ⟨6, _⟩ => ⟨S4x8448x256, .f32⟩
  | .hbm, ⟨7, _⟩ => ⟨S4x8192x1024, .f32⟩
  | .hbm, ⟨8, _⟩ => ⟨S4x256x1024, .f32⟩
  | .hbm, ⟨9, _⟩ => ⟨S4x6144, .f32⟩
  | .hbm, ⟨10, _⟩ => ⟨S6144, .f32⟩
  | .hbm, ⟨11, _⟩ => ⟨S1024x1024, .f32⟩
  | .hbm, ⟨12, _⟩ => ⟨S4x8448x1024, .f32⟩
  | .hbm, ⟨13, _⟩ => ⟨S4x6x1024, .f32⟩
  | .hbm, ⟨14, _⟩ => ⟨S1x6x1024, .f32⟩
  | .hbm, ⟨15, _⟩ => ⟨S4x6x1024, .f32⟩
  | .hbm, ⟨16, _⟩ => ⟨S4x1x6x1024, .f32⟩
  | .hbm, ⟨17, _⟩ => ⟨S4x1x6x1024, .f32⟩
  | .hbm, ⟨18, _⟩ => ⟨S4x2x6x1024, .f32⟩
  | .hbm, ⟨19, _⟩ => ⟨S4x8448x256, .bf16⟩
  | .hbm, ⟨20, _⟩ => ⟨S1x768, .f32⟩
  | .hbm, ⟨21, _⟩ => ⟨S1x768, .f32⟩
  | .hbm, ⟨22, _⟩ => ⟨S12x64, .i32⟩
  | .hbm, ⟨23, _⟩ => ⟨S768, .i32⟩
  | .hbm, ⟨24, _⟩ => ⟨S768x1, .i32⟩
  | .hbm, ⟨25, _⟩ => ⟨S1x768, .i32⟩
  | .hbm, ⟨26, _⟩ => ⟨S768x768, .i32⟩
  | .hbm, ⟨27, _⟩ => ⟨S768x768, .i32⟩
  | .hbm, ⟨28, _⟩ => ⟨S768x768, .i1⟩
  | .hbm, ⟨29, _⟩ => ⟨S768x768, .bf16⟩
  | .hbm, ⟨30, _⟩ => ⟨S768x1024, .f32⟩
  | .hbm, ⟨31, _⟩ => ⟨S768x1024, .bf16⟩
  | .hbm, ⟨32, _⟩ => ⟨S256x1024, .f32⟩
  | .hbm, ⟨33, _⟩ => ⟨S256x1024, .bf16⟩
  | .hbm, ⟨34, _⟩ => ⟨S4x8448x1024, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x768, .f32⟩
  | .local _ .vmem, ⟨9, _⟩ => ⟨S1x768, .f32⟩
  | .local _ .vmem, ⟨10, _⟩ => ⟨S768x768, .bf16⟩
  | .local _ .vmem, ⟨11, _⟩ => ⟨S1x256x256, .bf16⟩
  | .local _ .vmem, ⟨12, _⟩ => ⟨S1x256x256, .bf16⟩
  | .local _ .vmem, ⟨13, _⟩ => ⟨S1x256x1024, .f32⟩
  | .local _ .vmem, ⟨14, _⟩ => ⟨S1x256x1024, .f32⟩
  | .local _ .vmem, ⟨15, _⟩ => ⟨S1x1x6x1024, .f32⟩
  | .local _ .vmem, ⟨16, _⟩ => ⟨S1x1x6x1024, .f32⟩
  | .local _ .vmem, ⟨17, _⟩ => ⟨S768x1024, .bf16⟩
  | .local _ .vmem, ⟨18, _⟩ => ⟨S256x1024, .bf16⟩
  | .local _ .vmem, ⟨19, _⟩ => ⟨S1x256x1024, .f32⟩
  | .local _ .vmem, ⟨20, _⟩ => ⟨S1x256x1024, .f32⟩
  | _, _ => ⟨S4x8448x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg0.toNat, v1.toNat, c0_i32_1.toNat, c0_i32_2.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S768x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x6x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S768x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference5Ideal.lean ====
abbrev S4x8448x768 : Shape := ⟨3, ![4, 8448, 768]⟩
abbrev S768 : Shape := ⟨1, ![768]⟩
abbrev S4x8448x256 : Shape := ⟨3, ![4, 8448, 256]⟩
abbrev S4x8192x1024 : Shape := ⟨3, ![4, 8192, 1024]⟩
abbrev S4x256x1024 : Shape := ⟨3, ![4, 256, 1024]⟩
abbrev S4x6144 : Shape := ⟨2, ![4, 6144]⟩
abbrev S6144 : Shape := ⟨1, ![6144]⟩
abbrev S1024x1024 : Shape := ⟨2, ![1024, 1024]⟩
abbrev S4x1x6144 : Shape := ⟨3, ![4, 1, 6144]⟩
abbrev S4x1x1024 : Shape := ⟨3, ![4, 1, 1024]⟩
abbrev S1024 : Shape := ⟨1, ![1024]⟩
abbrev S4x8448x12x64 : Shape := ⟨4, ![4, 8448, 12, 64]⟩
abbrev S_ : Shape := ⟨0, ![]⟩
abbrev S4x8448x12 : Shape := ⟨3, ![4, 8448, 12]⟩
abbrev S4x8448x12x1 : Shape := ⟨4, ![4, 8448, 12, 1]⟩
abbrev S1x1x768 : Shape := ⟨3, ![1, 1, 768]⟩
abbrev S4x8448x1024 : Shape := ⟨3, ![4, 8448, 1024]⟩
abbrev S1x1x1024 : Shape := ⟨3, ![1, 1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4x8448x768, .f32⟩
  | .hbm, ⟨1, _⟩ => ⟨S4x8448x768, .f32⟩
  | .hbm, ⟨2, _⟩ => ⟨S4x8448x768, .f32⟩
  | .hbm, ⟨3, _⟩ => ⟨S4x8448x768, .f32⟩
  | .hbm, ⟨4, _⟩ => ⟨S768, .f32⟩
  | .hbm, ⟨5, _⟩ => ⟨S768, .f32⟩
  | .hbm, ⟨6, _⟩ => ⟨S4x8448x256, .f32⟩
  | .hbm, ⟨7, _⟩ => ⟨S4x8192x1024, .f32⟩
  | .hbm, ⟨8, _⟩ => ⟨S4x256x1024, .f32⟩
  | .hbm, ⟨9, _⟩ => ⟨S4x6144, .f32⟩
  | .hbm, ⟨10, _⟩ => ⟨S6144, .f32⟩
  | .hbm, ⟨11, _⟩ => ⟨S1024x1024, .f32⟩
  | .hbm, ⟨12, _⟩ => ⟨S4x1x6144, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S4x8448x768, .f32⟩
  | .hbm, ⟨26, _⟩ => ⟨S4x8448x12x64, .f32⟩
  | .hbm, ⟨27, _⟩ => ⟨S_, .f32⟩
  | .hbm, ⟨28, _⟩ => ⟨S4x8448x12, .f32⟩
  | .hbm, ⟨29, _⟩ => ⟨S4x8448x12x1, .f32⟩
  | .hbm, ⟨30, _⟩ => ⟨S_, .f32⟩
  | .hbm, ⟨31, _⟩ => ⟨S4x8448x12x1, .f32⟩
  | .hbm, ⟨32, _⟩ => ⟨S4x8448x12x1, .f32⟩
  | .hbm, ⟨33, _⟩ => ⟨S4x8448x12x64, .f32⟩
  | .hbm, ⟨34, _⟩ => ⟨S4x8448x12x64, .f32⟩
  | .hbm, ⟨35, _⟩ => ⟨S4x8448x12x64, .f32⟩
  | .hbm, ⟨36, _⟩ => ⟨S_, .f32⟩
  | .hbm, ⟨37, _⟩ => ⟨S4x8448x12, .f32⟩
  | .hbm, ⟨38, _⟩ => ⟨S4x8448x12x1, .f32⟩
  | .hbm, ⟨39, _⟩ => ⟨S_, .f32⟩
  | .hbm, ⟨40, _⟩ => ⟨S4x8448x12x1, .f32⟩
  | .hbm, ⟨41, _⟩ => ⟨S4x8448x12x1, .f32⟩
  | .hbm, ⟨42, _⟩ => ⟨S4x8448x12x64, .f32⟩
  | .hbm, ⟨43, _⟩ => ⟨S4x8448x12x64, .f32⟩
  | .hbm, ⟨44, _⟩ => ⟨S_, .f32⟩
  | .hbm, ⟨45, _⟩ => ⟨S4x8448x12x1, .f32⟩
  | .hbm, ⟨46, _⟩ => ⟨S4x8448x12x1, .f32⟩
  | .hbm, ⟨47, _⟩ => ⟨S4x8448x12x1, .f32⟩
  | .hbm, ⟨48, _⟩ => ⟨S4x8448x12x64, .f32⟩
  | .hbm, ⟨49, _⟩ => ⟨S4x8448x12x64, .f32⟩
  | .hbm, ⟨50, _⟩ => ⟨S4x8448x768, .f32⟩
  | .hbm, ⟨51, _⟩ => ⟨S1x1x768, .f32⟩
  | .hbm, ⟨52, _⟩ => ⟨S4x8448x768, .f32⟩
  | .hbm, ⟨53, _⟩ => ⟨S4x8448x768, .f32⟩
  | .hbm, ⟨54, _⟩ => ⟨S1x1x768, .f32⟩
  | .hbm, ⟨55, _⟩ => ⟨S4x8448x768, .f32⟩
  | .hbm, ⟨56, _⟩ => ⟨S4x8448x768, .f32⟩
  | .hbm, ⟨57, _⟩ => ⟨S4x8448x768, .f32⟩
  | .hbm, ⟨58, _⟩ => ⟨S4x8448x768, .f32⟩
  | .hbm, ⟨59, _⟩ => ⟨S4x8448x1024, .f32⟩
  | .hbm, ⟨60, _⟩ => ⟨S4x8448x1024, .f32⟩
  | .hbm, ⟨61, _⟩ => ⟨S4x256x1024, .f32⟩
  | .hbm, ⟨62, _⟩ => ⟨S1x1x1024, .f32⟩
  | .hbm, ⟨63, _⟩ => ⟨S4x256x1024, .f32⟩
  | .hbm, ⟨64, _⟩ => ⟨S4x256x1024, .f32⟩
  | .hbm, ⟨65, _⟩ => ⟨S4x256x1024, .f32⟩
  | .hbm, ⟨66, _⟩ => ⟨S4x8192x1024, .f32⟩
  | .hbm, ⟨67, _⟩ => ⟨S4x8192x1024, .f32⟩
  | .hbm, ⟨68, _⟩ => ⟨S4x8192x1024, .f32⟩
  | .hbm, ⟨69, _⟩ => ⟨S4x8192x1024, .f32⟩
  | .hbm, ⟨70, _⟩ => ⟨S4x8448x1024, .f32⟩
  | _, _ => ⟨S4x8448x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Kernel6.lean ====
abbrev S4x8448x2688 : Shape := ⟨3, ![4, 8448, 2688]⟩
abbrev S2688 : Shape := ⟨1, ![2688]⟩
abbrev S2x768 : Shape := ⟨2, ![2, 768]⟩
abbrev S2x64x768 : Shape := ⟨3, ![2, 64, 768]⟩
abbrev S128x768 : Shape := ⟨2, ![128, 768]⟩
abbrev S768 : Shape := ⟨1, ![768]⟩
abbrev S12x64 : Shape := ⟨2, ![12, 64]⟩
abbrev S1x2688 : Shape := ⟨2, ![1, 2688]⟩
abbrev S1x768 : Shape := ⟨2, ![1, 768]⟩
abbrev S768x1 : Shape := ⟨2, ![768, 1]⟩
abbrev S768x768 : Shape := ⟨2, ![768, 768]⟩
abbrev S4x8448x768 : Shape := ⟨3, ![4, 8448, 768]⟩
abbrev S1x256x2688 : Shape := ⟨3, ![1, 256, 2688]⟩
abbrev S1x8x2688 : Shape := ⟨3, ![1, 8, 2688]⟩
abbrev S1x256x768 : Shape := ⟨3, ![1, 256, 768]⟩
abbrev S256x2688 : Shape := ⟨2, ![256, 2688]⟩
abbrev S8x2688 : Shape := ⟨2, ![8, 2688]⟩
abbrev S256x1 : Shape := ⟨2, ![256, 1]⟩
abbrev S256x768 : Shape := ⟨2, ![256, 768]⟩
abbrev S256x128 : Shape := ⟨2, ![256, 128]⟩
abbrev S256x64 : Shape := ⟨2, ![256, 64]⟩
abbrev S1x64x768 : Shape := ⟨3, ![1, 64, 768]⟩
abbrev S64x768 : Shape := ⟨2, ![64, 768]⟩

abbrev nBuf : Space → Nat
  | .hbm => 35
  | .vmem => 39
  | .smem => 0
  | _ => 0

abbrev bufTy : (tb : Table) → Fin (tcTables nBuf tb) → BufTy
  | .hbm, ⟨0, _⟩ => ⟨S4x8448x2688, .f32⟩
  | .hbm, ⟨1, _⟩ => ⟨S2688, .f32⟩
  | .hbm, ⟨2, _⟩ => ⟨S2688, .f32⟩
  | .hbm, ⟨3, _⟩ => ⟨S2x768, .f32⟩
  | .hbm, ⟨4, _⟩ => ⟨S2x64x768, .f32⟩
  | .hbm, ⟨5, _⟩ => ⟨S2x768, .f32⟩
  | .hbm, ⟨6, _⟩ => ⟨S2x64x768, .f32⟩
  | .hbm, ⟨7, _⟩ => ⟨S128x768, .f32⟩
  | .hbm, ⟨8, _⟩ => ⟨S768, .f32⟩
  | .hbm, ⟨9, _⟩ => ⟨S768, .f32⟩
  | .hbm, ⟨10, _⟩ => ⟨S12x64, .f32⟩
  | .hbm, ⟨11, _⟩ => ⟨S1x2688, .f32⟩
  | .hbm, ⟨12, _⟩ => ⟨S1x2688, .f32⟩
  | .hbm, ⟨13, _⟩ => ⟨S1x768, .f32⟩
  | .hbm, ⟨14, _⟩ => ⟨S1x768, .f32⟩
  | .hbm, ⟨15, _⟩ => ⟨S1x768, .f32⟩
  | .hbm, ⟨16, _⟩ => ⟨S12x64, .i32⟩
  | .hbm, ⟨17, _⟩ => ⟨S768, .i32⟩
  | .hbm, ⟨18, _⟩ => ⟨S768x1, .i32⟩
  | .hbm, ⟨19, _⟩ => ⟨S1x768, .i32⟩
  | .hbm, ⟨20, _⟩ => ⟨S768x768, .i32⟩
  | .hbm, ⟨21, _⟩ => ⟨S768x768, .i32⟩
  | .hbm, ⟨22, _⟩ => ⟨S768x768, .i1⟩
  | .hbm, ⟨23, _⟩ => ⟨S768x768, .bf16⟩
  | .hbm, ⟨24, _⟩ => ⟨S4x8448x768, .f32⟩
  | .hbm, ⟨25, _⟩ => ⟨S4x8448x768, .f32⟩
  | .hbm, ⟨26, _⟩ => ⟨S4x8448x768, .f32⟩
  | .hbm, ⟨27, _⟩ => ⟨S4x8448x768, .f32⟩
  | .hbm, ⟨28, _⟩ => ⟨S4x8448x768, .f32⟩
  | .hbm, ⟨29, _⟩ => ⟨S4x8448x768, .f32⟩
  | .hbm, ⟨30, _⟩ => ⟨S4x8448x768, .f32⟩
  | .hbm, ⟨31, _⟩ => ⟨S4x8448x768, .f32⟩
  | .hbm, ⟨32, _⟩ => ⟨S4x8448x768, .f32⟩
  | .hbm, ⟨33, _⟩ => ⟨S4x8448x768, .f32⟩
  | .hbm, ⟨34, _⟩ => ⟨S4x8448x768, .f32⟩
  | .local _ .vmem, ⟨0, _⟩ => ⟨S1x256x2688, .f32⟩
  | .local _ .vmem, ⟨1, _⟩ => ⟨S1x256x2688, .f32⟩
  | .local _ .vmem, ⟨2, _⟩ => ⟨S1x8x2688, .f32⟩
  | .local _ .vmem, ⟨3, _⟩ => ⟨S1x8x2688, .f32⟩
  | .local _ .vmem, ⟨4, _⟩ => ⟨S1x8x2688, .f32⟩
  | .local _ .vmem, ⟨5, _⟩ => ⟨S1x8x2688, .f32⟩
  | .local _ .vmem, ⟨6, _⟩ => ⟨S1x2688, .f32⟩
  | .local _ .vmem, ⟨7, _⟩ => ⟨S1x2688, .f32⟩
  | .local _ .vmem, ⟨8, _⟩ => ⟨S2x768, .f32⟩
  | .local _ .vmem, ⟨9, _⟩ => ⟨S2x64x768, .f32⟩
  | .local _ .vmem, ⟨10, _⟩ => ⟨S2x768, .f32⟩
  | .local _ .vmem, ⟨11, _⟩ => ⟨S2x64x768, .f32⟩
  | .local _ .vmem, ⟨12, _⟩ => ⟨S128x768, .f32⟩
  | .local _ .vmem, ⟨13, _⟩ => ⟨S1x768, .f32⟩
  | .local _ .vmem, ⟨14, _⟩ => ⟨S1x768, .f32⟩
  | .local _ .vmem, ⟨15, _⟩ => ⟨S1x768, .f32⟩
  | .local _ .vmem, ⟨16, _⟩ => ⟨S768x768, .bf16⟩
  | .local _ .vmem, ⟨17, _⟩ => ⟨S1x256x768, .f32⟩
  | .local _ .vmem, ⟨18, _⟩ => ⟨S1x256x768, .f32⟩
  | .local _ .vmem, ⟨19, _⟩ => ⟨S1x256x768, .f32⟩
  | .local _ .vmem, ⟨20, _⟩ => ⟨S1x256x768, .f32⟩
  | .local _ .vmem, ⟨21, _⟩ => ⟨S1x256x768, .f32⟩
  | .local _ .vmem, ⟨22, _⟩ => ⟨S1x256x768, .f32⟩
  | .local _ .vmem, ⟨23, _⟩ => ⟨S1x256x768, .f32⟩
  | .local _ .vmem, ⟨24, _⟩ => ⟨S1x256x768, .f32⟩
  | .local _ .vmem, ⟨25, _⟩ => ⟨S1x256x768, .f32⟩
  | .local _ .vmem, ⟨26, _⟩ => ⟨S1x256x768, .f32⟩
  | .local _ .vmem, ⟨27, _⟩ => ⟨S1x256x768, .f32⟩
  | .local _ .vmem, ⟨28, _⟩ => ⟨S1x256x768, .f32⟩
  | .local _ .vmem, ⟨29, _⟩ => ⟨S1x256x768, .f32⟩
  | .local _ .vmem, ⟨30, _⟩ => ⟨S1x256x768, .f32⟩
  | .local _ .vmem, ⟨31, _⟩ => ⟨S1x256x768, .f32⟩
  | .local _ .vmem, ⟨32, _⟩ => ⟨S1x256x768, .f32⟩
  | .local _ .vmem, ⟨33, _⟩ => ⟨S1x256x768, .f32⟩
  | .local _ .vmem, ⟨34, _⟩ => ⟨S1x256x768, .f32⟩
  | .local _ .vmem, ⟨35, _⟩ => ⟨S1x256x768, .f32⟩
  | .local _ .vmem, ⟨36, _⟩ => ⟨S1x256x768, .f32⟩
  | .local _ .vmem, ⟨37, _⟩ => ⟨S1x256x768, .f32⟩
  | .local _ .vmem, ⟨38, _⟩ => ⟨S1x256x768, .f32⟩
  | _, _ => ⟨S4x8448x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev main_v13_3 : Ref sig .tc := ⟨.hbm, 27, rfl⟩
abbrev main_v13_4 : Ref sig .tc := ⟨.hbm, 28, rfl⟩
abbrev main_v13_5 : Ref sig .tc := ⟨.hbm, 29, rfl⟩
abbrev main_v13_6 : Ref sig .tc := ⟨.hbm, 30, rfl⟩
abbrev main_v13_7 : Ref sig .tc := ⟨.hbm, 31, rfl⟩
abbrev main_v13_8 : Ref sig .tc := ⟨.hbm, 32, rfl⟩
abbrev main_v13_9 : Ref sig .tc := ⟨.hbm, 33, rfl⟩
abbrev main_v13_10 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1055_i32 : BitVec 32 := 1055#32
  let v2 : BitVec 32 := Scalar.minsi v1 c1055_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2688 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2688 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x2688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2688 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2688 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x64x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x64x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S768x768 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x768 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x768 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x768 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x768 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x768 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x768 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x768 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x768 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x256x768 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== Reference6Ideal.lean ====
abbrev S4x8448x2688 : Shape := ⟨3, ![4, 8448, 2688]⟩
abbrev S2688 : Shape := ⟨1, ![2688]⟩
abbrev S2x768 : Shape := ⟨2, ![2, 768]⟩
abbrev S2x64x768 : Shape := ⟨3, ![2, 64, 768]⟩
abbrev S128x768 : Shape := ⟨2, ![128, 768]⟩
abbrev S768 : Shape := ⟨1, ![768]⟩
abbrev S12x64 : Shape := ⟨2, ![12, 64]⟩
abbrev S4x256x2688 : Shape := ⟨3, ![4, 256, 2688]⟩
abbrev S4x255x2688 : Shape := ⟨3, ![4, 255, 2688]⟩
abbrev S_ : Shape := ⟨0, ![]⟩
abbrev S1x1x2688 : Shape := ⟨3, ![1, 1, 2688]⟩
abbrev S4x8192x2688 : Shape := ⟨3, ![4, 8192, 2688]⟩
abbrev S4x8191x2688 : Shape := ⟨3, ![4, 8191, 2688]⟩
abbrev S4x8448x768 : Shape := ⟨3, ![4, 8448, 768]⟩
abbrev S4x8448x128 : Shape := ⟨3, ![4, 8448, 128]⟩
abbrev S4x8448x2x64 : Shape := ⟨4, ![4, 8448, 2, 64]⟩
abbrev S1x1x768 : Shape := ⟨3, ![1, 1, 768]⟩
abbrev S4x8448x12x64 : Shape := ⟨4, ![4, 8448, 12, 64]⟩
abbrev S4x8448x12 : Shape := ⟨3, ![4, 8448, 12]⟩
abbrev S4x8448x12x1 : Shape := ⟨4, ![4, 8448, 12, 1]⟩
abbrev S1x768 : Shape := ⟨2, ![1, 768]⟩
abbrev S4x8448x1x64 : Shape := ⟨4, ![4, 8448, 1, 64]⟩
abbrev S4x8448x64 : Shape := ⟨3, ![4, 8448, 64]⟩
abbrev S1x64x768 : Shape := ⟨3, ![1, 64, 768]⟩
abbrev S64x768 : Shape := ⟨2, ![64, 768]⟩
abbrev S1x1x12x64 : Shape := ⟨4, ![1, 1, 12, 64]⟩

abbrev nBuf : Space → Nat
  | .hbm => 237
  | .vmem => 0
  | .smem => 0
  | _ => 0

abbrev hbmTy0_0 (i : Nat) : BufTy := match i % 128 with
  | 0 => ⟨S4x8448x2688, .f32⟩
  | 1 => ⟨S2688, .f32⟩
  | 2 => ⟨S2688, .f32⟩
  | 3 => ⟨S2x768, .f32⟩
  | 4 => ⟨S2x64x768, .f32⟩
  | 5 => ⟨S2x768, .f32⟩
  | 6 => ⟨S2x64x768, .f32⟩
  | 7 => ⟨S128x768, .f32⟩
  | 8 => ⟨S768, .f32⟩
  | 9 => ⟨S768, .f32⟩
  | 10 => ⟨S12x64, .f32⟩
  | 11 => ⟨S4x256x2688, .f32⟩
  | 12 => ⟨S4x255x2688, .f32⟩
  | 13 => ⟨S_, .i32⟩
  | 14 => ⟨S_, .f32⟩
  | 15 => ⟨S4x256x2688, .f32⟩
  | 16 => ⟨S4x255x2688, .f32⟩
  | 17 => ⟨S_, .i32⟩
  | 18 => ⟨S_, .f32⟩
  | 19 => ⟨S4x256x2688, .f32⟩
  | 20 => ⟨S4x256x2688, .f32⟩
  | 21 => ⟨S1x1x2688, .f32⟩
  | 22 => ⟨S4x256x2688, .f32⟩
  | 23 => ⟨S4x256x2688, .f32⟩
  | 24 => ⟨S4x256x2688, .f32⟩
  | 25 => ⟨S4x256x2688, .f32⟩
  | 26 => ⟨S1x1x2688, .f32⟩
  | 27 => ⟨S4x256x2688, .f32⟩
  | 28 => ⟨S4x256x2688, .f32⟩
  | 29 => ⟨S4x256x2688, .f32⟩
  | 30 => ⟨S4x8192x2688, .f32⟩
  | 31 => ⟨S4x8191x2688, .f32⟩
  | 32 => ⟨S_, .i32⟩
  | 33 => ⟨S_, .f32⟩
  | 34 => ⟨S4x8192x2688, .f32⟩
  | 35 => ⟨S4x8191x2688, .f32⟩
  | 36 => ⟨S_, .i32⟩
  | 37 => ⟨S_, .f32⟩
  | 38 => ⟨S4x8192x2688, .f32⟩
  | 39 => ⟨S4x8192x2688, .f32⟩
  | 40 => ⟨S1x1x2688, .f32⟩
  | 41 => ⟨S4x8192x2688, .f32⟩
  | 42 => ⟨S4x8192x2688, .f32⟩
  | 43 => ⟨S4x8192x2688, .f32⟩
  | 44 => ⟨S4x8192x2688, .f32⟩
  | 45 => ⟨S1x1x2688, .f32⟩
  | 46 => ⟨S4x8192x2688, .f32⟩
  | 47 => ⟨S4x8192x2688, .f32⟩
  | 48 => ⟨S4x8192x2688, .f32⟩
  | 49 => ⟨S4x8448x2688, .f32⟩
  | 50 => ⟨S4x8448x768, .f32⟩
  | 51 => ⟨S4x8448x768, .f32⟩
  | 52 => ⟨S4x8448x768, .f32⟩
  | 53 => ⟨S4x8448x128, .f32⟩
  | 54 => ⟨S4x8448x128, .f32⟩
  | 55 => ⟨S4x8448x128, .f32⟩
  | 56 => ⟨S4x8448x2x64, .f32⟩
  | 57 => ⟨S4x8448x2x64, .f32⟩
  | 58 => ⟨S4x8448x128, .f32⟩
  | 59 => ⟨S4x8448x128, .f32⟩
  | 60 => ⟨S_, .f32⟩
  | 61 => ⟨S4x8448x128, .f32⟩
  | 62 => ⟨S4x8448x128, .f32⟩
  | 63 => ⟨S_, .f32⟩
  | 64 => ⟨S4x8448x128, .f32⟩
  | 65 => ⟨S4x8448x128, .f32⟩
  | 66 => ⟨S4x8448x768, .f32⟩
  | 67 => ⟨S1x1x768, .f32⟩
  | 68 => ⟨S4x8448x768, .f32⟩
  | 69 => ⟨S4x8448x768, .f32⟩
  | 70 => ⟨S4x8448x12x64, .f32⟩
  | 71 => ⟨S4x8448x12x64, .f32⟩
  | 72 => ⟨S_, .f32⟩
  | 73 => ⟨S4x8448x12, .f32⟩
  | 74 => ⟨S4x8448x12x1, .f32⟩
  | 75 => ⟨S4x8448x12x1, .f32⟩
  | 76 => ⟨S_, .f32⟩
  | 77 => ⟨S4x8448x12x1, .f32⟩
  | 78 => ⟨S4x8448x12x1, .f32⟩
  | 79 => ⟨S4x8448x12x64, .f32⟩
  | 80 => ⟨S4x8448x12x64, .f32⟩
  | 81 => ⟨S4x8448x12x64, .f32⟩
  | 82 => ⟨S4x8448x12x64, .f32⟩
  | 83 => ⟨S1x768, .f32⟩
  | 84 => ⟨S768, .f32⟩
  | 85 => ⟨S4x8448x1x64, .f32⟩
  | 86 => ⟨S4x8448x64, .f32⟩
  | 87 => ⟨S4x8448x64, .f32⟩
  | 88 => ⟨S1x64x768, .f32⟩
  | 89 => ⟨S64x768, .f32⟩
  | 90 => ⟨S4x8448x768, .f32⟩
  | 91 => ⟨S1x1x768, .f32⟩
  | 92 => ⟨S4x8448x768, .f32⟩
  | 93 => ⟨S4x8448x768, .f32⟩
  | 94 => ⟨S4x8448x768, .f32⟩
  | 95 => ⟨S_, .f32⟩
  | 96 => ⟨S4x8448x768, .f32⟩
  | 97 => ⟨S4x8448x768, .f32⟩
  | 98 => ⟨S4x8448x768, .f32⟩
  | 99 => ⟨S4x8448x768, .f32⟩
  | 100 => ⟨S4x8448x768, .i1⟩
  | 101 => ⟨S4x8448x768, .f32⟩
  | 102 => ⟨S4x8448x768, .f32⟩
  | 103 => ⟨S4x8448x768, .f32⟩
  | 104 => ⟨S4x8448x768, .f32⟩
  | 105 => ⟨S4x8448x768, .f32⟩
  | 106 => ⟨S4x8448x768, .f32⟩
  | 107 => ⟨S4x8448x768, .f32⟩
  | 108 => ⟨S4x8448x768, .f32⟩
  | 109 => ⟨S4x8448x768, .f32⟩
  | 110 => ⟨S_, .f32⟩
  | 111 => ⟨S4x8448x768, .f32⟩
  | 112 => ⟨S4x8448x768, .f32⟩
  | 113 => ⟨S1x768, .f32⟩
  | 114 => ⟨S768, .f32⟩
  | 115 => ⟨S4x8448x1x64, .f32⟩
  | 116 => ⟨S4x8448x64, .f32⟩
  | 117 => ⟨S1x64x768, .f32⟩
  | 118 => ⟨S64x768, .f32⟩
  | 119 => ⟨S4x8448x768, .f32⟩
  | 120 => ⟨S1x1x768, .f32⟩
  | 121 => ⟨S4x8448x768, .f32⟩
  | 122 => ⟨S4x8448x768, .f32⟩
  | 123 => ⟨S4x8448x768, .f32⟩
  | 124 => ⟨S4x8448x768, .f32⟩
  | 125 => ⟨S_, .f32⟩
  | 126 => ⟨S4x8448x768, .f32⟩
  | 127 => ⟨S4x8448x768, .f32⟩
  | _ => ⟨S4x8448x2688, .f32⟩

abbrev hbmTy0_1 (i : Nat) : BufTy := match i % 128 with
  | 0 => ⟨S_, .f32⟩
  | 1 => ⟨S4x8448x768, .f32⟩
  | 2 => ⟨S4x8448x768, .f32⟩
  | 3 => ⟨S_, .f32⟩
  | 4 => ⟨S4x8448x768, .f32⟩
  | 5 => ⟨S4x8448x768, .f32⟩
  | 6 => ⟨S1x1x768, .f32⟩
  | 7 => ⟨S4x8448x768, .f32⟩
  | 8 => ⟨S4x8448x768, .f32⟩
  | 9 => ⟨S_, .f32⟩
  | 10 => ⟨S4x8448x768, .f32⟩
  | 11 => ⟨S4x8448x768, .f32⟩
  | 12 => ⟨S4x8448x768, .f32⟩
  | 13 => ⟨S4x8448x12x64, .f32⟩
  | 14 => ⟨S4x8448x768, .f32⟩
  | 15 => ⟨S4x8448x768, .f32⟩
  | 16 => ⟨S4x8448x768, .f32⟩
  | 17 => ⟨S4x8448x12x64, .f32⟩
  | 18 => ⟨S4x8448x12x64, .f32⟩
  | 19 => ⟨S4x8448x768, .f32⟩
  | 20 => ⟨S4x8448x12x64, .f32⟩
  | 21 => ⟨S1x1x12x64, .f32⟩
  | 22 => ⟨S4x8448x12x64, .f32⟩
  | 23 => ⟨S4x8448x12x64, .f32⟩
  | 24 => ⟨S_, .f32⟩
  | 25 => ⟨S4x8448x12, .f32⟩
  | 26 => ⟨S4x8448x12x1, .f32⟩
  | 27 => ⟨S4x8448x12x64, .f32⟩
  | 28 => ⟨S4x8448x12x64, .f32⟩
  | 29 => ⟨S_, .f32⟩
  | 30 => ⟨S4x8448x12x64, .f32⟩
  | 31 => ⟨S4x8448x12x64, .f32⟩
  | 32 => ⟨S1x768, .f32⟩
  | 33 => ⟨S768, .f32⟩
  | 34 => ⟨S4x8448x1x64, .f32⟩
  | 35 => ⟨S4x8448x64, .f32⟩
  | 36 => ⟨S4x8448x64, .f32⟩
  | 37 => ⟨S1x64x768, .f32⟩
  | 38 => ⟨S64x768, .f32⟩
  | 39 => ⟨S4x8448x768, .f32⟩
  | 40 => ⟨S1x1x768, .f32⟩
  | 41 => ⟨S4x8448x768, .f32⟩
  | 42 => ⟨S4x8448x768, .f32⟩
  | 43 => ⟨S4x8448x768, .f32⟩
  | 44 => ⟨S_, .f32⟩
  | 45 => ⟨S4x8448x768, .f32⟩
  | 46 => ⟨S4x8448x768, .f32⟩
  | 47 => ⟨S4x8448x768, .f32⟩
  | 48 => ⟨S4x8448x768, .f32⟩
  | 49 => ⟨S4x8448x768, .i1⟩
  | 50 => ⟨S4x8448x768, .f32⟩
  | 51 => ⟨S4x8448x768, .f32⟩
  | 52 => ⟨S4x8448x768, .f32⟩
  | 53 => ⟨S4x8448x768, .f32⟩
  | 54 => ⟨S4x8448x768, .f32⟩
  | 55 => ⟨S4x8448x768, .f32⟩
  | 56 => ⟨S4x8448x768, .f32⟩
  | 57 => ⟨S4x8448x768, .f32⟩
  | 58 => ⟨S4x8448x768, .f32⟩
  | 59 => ⟨S_, .f32⟩
  | 60 => ⟨S4x8448x768, .f32⟩
  | 61 => ⟨S4x8448x768, .f32⟩
  | 62 => ⟨S1x768, .f32⟩
  | 63 => ⟨S768, .f32⟩
  | 64 => ⟨S4x8448x1x64, .f32⟩
  | 65 => ⟨S4x8448x64, .f32⟩
  | 66 => ⟨S1x64x768, .f32⟩
  | 67 => ⟨S64x768, .f32⟩
  | 68 => ⟨S4x8448x768, .f32⟩
  | 69 => ⟨S1x1x768, .f32⟩
  | 70 => ⟨S4x8448x768, .f32⟩
  | 71 => ⟨S4x8448x768, .f32⟩
  | 72 => ⟨S4x8448x768, .f32⟩
  | 73 => ⟨S4x8448x768, .f32⟩
  | 74 => ⟨S_, .f32⟩
  | 75 => ⟨S4x8448x768, .f32⟩
  | 76 => ⟨S4x8448x768, .f32⟩
  | 77 => ⟨S_, .f32⟩
  | 78 => ⟨S4x8448x768, .f32⟩
  | 79 => ⟨S4x8448x768, .f32⟩
  | 80 => ⟨S_, .f32⟩
  | 81 => ⟨S4x8448x768, .f32⟩
  | 82 => ⟨S4x8448x768, .f32⟩
  | 83 => ⟨S1x1x768, .f32⟩
  | 84 => ⟨S4x8448x768, .f32⟩
  | 85 => ⟨S4x8448x768, .f32⟩
  | 86 => ⟨S_, .f32⟩
  | 87 => ⟨S4x8448x768, .f32⟩
  | 88 => ⟨S4x8448x768, .f32⟩
  | 89 => ⟨S4x8448x768, .f32⟩
  | 90 => ⟨S4x8448x12x64, .f32⟩
  | 91 => ⟨S4x8448x768, .f32⟩
  | 92 => ⟨S4x8448x768, .f32⟩
  | 93 => ⟨S4x8448x768, .f32⟩
  | 94 => ⟨S4x8448x12x64, .f32⟩
  | 95 => ⟨S4x8448x12x64, .f32⟩
  | 96 => ⟨S4x8448x768, .f32⟩
  | 97 => ⟨S4x8448x12x64, .f32⟩
  | 98 => ⟨S1x1x12x64, .f32⟩
  | 99 => ⟨S4x8448x12x64, .f32⟩
  | 100 => ⟨S4x8448x12x64, .f32⟩
  | 101 => ⟨S_, .f32⟩
  | 102 => ⟨S4x8448x12, .f32⟩
  | 103 => ⟨S4x8448x12x1, .f32⟩
  | 104 => ⟨S4x8448x12x64, .f32⟩
  | 105 => ⟨S4x8448x12x64, .f32⟩
  | 106 => ⟨S4x8448x12x64, .f32⟩
  | 107 => ⟨S4x8448x768, .f32⟩
  | 108 => ⟨S4x8448x768, .f32⟩
  | _ => ⟨S4x8448x2688, .f32⟩

abbrev hbmTy (i : Nat) : BufTy := match i / 128 with
  | 0 => hbmTy0_0 i
  | 1 => hbmTy0_1 i
  | _ => ⟨S4x8448x2688, .f32⟩

abbrev bufTy : (tb : Table) → Fin (tcTables nBuf tb) → BufTy
  | .hbm, ⟨i, _⟩ => hbmTy i
  | _, _ => ⟨S4x8448x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_call1_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_call2_v0 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_call3_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst : Ref sig .tc := ⟨.hbm, 60, rfl⟩
abbrev main_v41 : Ref sig .tc := ⟨.hbm, 61, rfl⟩
abbrev main_v42 : Ref sig .tc := ⟨.hbm, 62, rfl⟩
abbrev main_cst_3 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_4 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_5 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_call4_cst : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_v5 : Ref sig .tc := ⟨.hbm, 101, rfl⟩
abbrev main_call4_v6 : Ref sig .tc := ⟨.hbm, 102, rfl⟩
abbrev main_call4_v7 : Ref sig .tc := ⟨.hbm, 103, rfl⟩
abbrev main_call4_v8 : Ref sig .tc := ⟨.hbm, 104, rfl⟩
abbrev main_call4_v9 : Ref sig .tc := ⟨.hbm, 105, rfl⟩
abbrev main_call4_v10 : Ref sig .tc := ⟨.hbm, 106, rfl⟩
abbrev main_call4_v11 : Ref sig .tc := ⟨.hbm, 107, rfl⟩
abbrev main_v72 : Ref sig .tc := ⟨.hbm, 108, rfl⟩
abbrev main_v73 : Ref sig .tc := ⟨.hbm, 109, rfl⟩
abbrev main_cst_6 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_7 : Ref sig .tc := ⟨.hbm, 125, rfl⟩
abbrev main_v88 : Ref sig .tc := ⟨.hbm, 126, rfl⟩
abbrev main_v89 : Ref sig .tc := ⟨.hbm, 127, rfl⟩
abbrev main_cst_8 : Ref sig .tc := ⟨.hbm, 128, rfl⟩
abbrev main_v90 : Ref sig .tc := ⟨.hbm, 129, rfl⟩
abbrev main_v91 : Ref sig .tc := ⟨.hbm, 130, rfl⟩
abbrev main_cst_9 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_10 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_cst_11 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_12 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_call5_cst : Ref sig .tc := ⟨.hbm, 172, rfl⟩
abbrev main_call5_v0 : Ref sig .tc := ⟨.hbm, 173, rfl⟩
abbrev main_call5_v1 : Ref sig .tc := ⟨.hbm, 174, rfl⟩
abbrev main_call5_v2 : Ref sig .tc := ⟨.hbm, 175, rfl⟩
abbrev main_call5_v3 : Ref sig .tc := ⟨.hbm, 176, rfl⟩
abbrev main_call5_v4 : Ref sig .tc := ⟨.hbm, 177, rfl⟩
abbrev main_call5_v5 : Ref sig .tc := ⟨.hbm, 178, rfl⟩
abbrev main_call5_v6 : Ref sig .tc := ⟨.hbm, 179, rfl⟩
abbrev main_call5_v7 : Ref sig .tc := ⟨.hbm, 180, rfl⟩
abbrev main_call5_v8 : Ref sig .tc := ⟨.hbm, 181, rfl⟩
abbrev main_call5_v9 : Ref sig .tc := ⟨.hbm, 182, rfl⟩
abbrev main_call5_v10 : Ref sig .tc := ⟨.hbm, 183, rfl⟩
abbrev main_call5_v11 : Ref sig .tc := ⟨.hbm, 184, rfl⟩
abbrev main_v129 : Ref sig .tc := ⟨.hbm, 185, rfl⟩
abbrev main_v130 : Ref sig .tc := ⟨.hbm, 186, rfl⟩
abbrev main_cst_13 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_cst_14 : Ref sig .tc := ⟨.hbm, 202, rfl⟩
abbrev main_v145 : Ref sig .tc := ⟨.hbm, 203, rfl⟩
abbrev main_v146 : Ref sig .tc := ⟨.hbm, 204, rfl⟩
abbrev main_cst_15 : Ref sig .tc := ⟨.hbm, 205, rfl⟩
abbrev main_v147 : Ref sig .tc := ⟨.hbm, 206, rfl⟩
abbrev main_v148 : Ref sig .tc := ⟨.hbm, 207, rfl⟩
abbrev main_cst_16 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_cst_17 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_cst_18 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩

abbrev nD : Nat := 1
abbrev τ : Topo := Topo.v7x

variable {F : FTy → Type} [FloatOps F]
-- ==== Kernel7.lean ====
abbrev S4x1024 : Shape := ⟨2, ![4, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S8x1024 : Shape := ⟨2, ![8, 1024]⟩
abbrev S1 : Shape := ⟨1, ![1]⟩
abbrev S1x6144 : Shape := ⟨2, ![1, 6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩

abbrev nBuf : Space → Nat
  | .hbm => 14
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S_, .f32⟩
  | .hbm, ⟨5, _⟩ => ⟨S8x1024, .f32⟩
  | .hbm, ⟨6, _⟩ => ⟨S_, .i32⟩
  | .hbm, ⟨7, _⟩ => ⟨S1, .i32⟩
  | .hbm, ⟨8, _⟩ => ⟨S8x1024, .f32⟩
  | .hbm, ⟨9, _⟩ => ⟨S_, .i32⟩
  | .hbm, ⟨10, _⟩ => ⟨S1, .i32⟩
  | .hbm, ⟨11, _⟩ => ⟨S8x1024, .f32⟩
  | .hbm, ⟨12, _⟩ => ⟨S1x6144, .f32⟩
  | .hbm, ⟨13, _⟩ => ⟨S8x6144, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S4x1024 : Shape := ⟨2, ![4, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S4x6144 : Shape := ⟨2, ![4, 6144]⟩
abbrev S1x6144 : Shape := ⟨2, ![1, 6144]⟩
abbrev S3x6144 : Shape := ⟨2, ![3, 6144]⟩
abbrev S8x6144 : Shape := ⟨2, ![8, 6144]⟩

abbrev nBuf : Space → Nat
  | .hbm => 31
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S4x1024, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x6144, .f32⟩
  | .hbm, ⟨14, _⟩ => ⟨S1x6144, .f32⟩
  | .hbm, ⟨15, _⟩ => ⟨S4x6144, .f32⟩
  | .hbm, ⟨16, _⟩ => ⟨S4x6144, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S6144, .f32⟩
  | .hbm, ⟨27, _⟩ => ⟨S6144, .f32⟩
  | .hbm, ⟨28, _⟩ => ⟨S1x6144, .f32⟩
  | .hbm, ⟨29, _⟩ => ⟨S3x6144, .f32⟩
  | .hbm, ⟨30, _⟩ => ⟨S8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Proof.Softmax.lean ====
/- The mathematics of the softmax's running form, over the extended reals.

   A row of real scores is passed over in chunks of 256.  The running maximum only has to be a real number after each
   chunk: whatever it is, the running denominator over the running weighted sum is the softmax-weighted sum, because
   each is a sum of powers of two taken relative to the same number. -/
module

public import Idealize.ShloMosaic.Lib.ValueIdx
public import Idealize.ShloMosaic.Lib.Pipeline.Value

@[expose] public section

noncomputable section

namespace Cert.Attn

open Idealize.ShloMosaic

/-- A nonnegative real factor goes into a sum of extended reals. -/
theorem coe_mul_sum {ι : Type} (s : Finset ι) {c : ℝ} (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha, ← ih,
      EReal.left_distrib_of_nonneg_of_ne_top (EReal.coe_nonneg.mpr hc) (EReal.coe_ne_top c)]

/-- A sum of real numbers, taken in the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, ← ih, EReal.coe_add]

/-- The largest of finitely many reals, at least one, is a real, from whatever it is taken short of `⊤`. -/
theorem fold_max_real {ι : Type} {s : Finset ι} (hs : s.Nonempty) (b : EReal) (hb : b ≠ ⊤) (f : ι → EReal)
    (hf : ∀ k, ∃ r : ℝ, f k = r) : ∃ r : ℝ, s.fold max b f = r := by
  have h1 : s.fold max b f ≠ ⊤ := by
    refine ne_of_lt ((Finset.fold_max_lt _).mpr ⟨lt_top_iff_ne_top.mpr hb, fun k _ => ?_⟩)
    obtain ⟨r, hr⟩ := hf k
    rw [hr]; exact EReal.coe_lt_top r
  have h2 : s.fold max b f ≠ ⊥ := by
    obtain ⟨k, hk⟩ := hs
    refine ne_of_gt ((Finset.lt_fold_max _).mpr (Or.inr ⟨k, hk, ?_⟩))
    obtain ⟨r, hr⟩ := hf k
    rw [hr]; exact EReal.bot_lt_coe r
  exact ⟨_, (EReal.coe_toReal h1 h2).symm⟩

/-! ## The running form -/

/-- The weight of a score `a` relative to `r`. -/
abbrev pow2 (a r : ℝ) : ℝ := Real.rpow 2 (a - r)

theorem pow2_pos (a r : ℝ) : 0 < pow2 a r := Real.rpow_pos_of_pos (by norm_num) _

theorem pow2_carry (a r r' : ℝ) : pow2 r r' * pow2 a r = pow2 a r' := by
  show (2 : ℝ) ^ (r - r') * (2 : ℝ) ^ (a - r) = (2 : ℝ) ^ (a - r')
  rw [← Real.rpow_add (by norm_num)]; congr 1; ring

theorem exp2_sub (a r : ℝ) : Ideal.exp2 ((a : EReal) - (r : EReal)) = (pow2 a r : EReal) := by
  rw [← EReal.coe_sub, Ideal.exp2_coe]

/-- A sum over the first `n + 1` chunks is the sum over the first `n` and the sum over the last. -/
theorem sum_chunk (n : ℕ) (f : ℕ → EReal) :
    ∑ κ ∈ Finset.range (256 * (n + 1)), f κ
      = ∑ κ ∈ Finset.range (256 * n), f κ + ∑ k : Fin 256, f (256 * n + k.val) := by
  rw [show 256 * (n + 1) = 256 * n + 256 by ring, Finset.sum_range_add, Finset.sum_range (n := 256)]

section Running

variable (s : ℕ → ℝ) (V : ℕ → EReal) (μ l A : ℕ → EReal)

/-- The running weighted sum after `n ≥ 1` chunks, `μ n` being a real number `r`. -/
theorem running (hμ0 : μ 0 = ⊥) (hA0 : A 0 = 0) (hμ : ∀ n, ∃ r : ℝ, μ (n + 1) = r)
    (hA : ∀ n, A (n + 1) = Ideal.exp2 (μ n - μ (n + 1)) * A n
      + ∑ k : Fin 256, V (256 * n + k.val) * Ideal.exp2 ((s (256 * n + k.val) : EReal) - μ (n + 1))) (n : ℕ) (r : ℝ)
    (hr : μ (n + 1) = r) : A (n + 1) = ∑ κ ∈ Finset.range (256 * (n + 1)), V κ * (pow2 (s κ) r : EReal) := by
  induction n generalizing r with
  | zero =>
    rw [hA 0, hA0, mul_zero, zero_add, hr, sum_chunk]
    simp [exp2_sub]
  | succ n ih =>
    obtain ⟨r0, h0⟩ := hμ n
    rw [hA (n + 1), hr, h0, ih r0 h0, exp2_sub, coe_mul_sum _ (pow2_pos _ _).le, sum_chunk (n + 1)]
    refine congrArg₂ (· + ·) ?_ ?_
    · refine Finset.sum_congr rfl fun κ _ => ?_
      rw [mul_left_comm, ← EReal.coe_mul, pow2_carry]
    · exact Finset.sum_congr rfl fun k _ => by rw [exp2_sub]

/-- Softmax weights, base two. -/
def weight2 (N : ℕ) (κ : ℕ) : ℝ := Real.rpow 2 (s κ) / ∑ j ∈ Finset.range N, Real.rpow 2 (s j)

/-- The weights do not depend on what they are taken relative to. -/
theorem weight2_shift (N : ℕ) (κ : ℕ) (r : ℝ) :
    pow2 (s κ) r * (1 / ∑ j ∈ Finset.range N, pow2 (s j) r) = weight2 s N κ := by
  have h : ∀ a, pow2 a r = Real.rpow 2 a * Real.rpow 2 (-r) := fun a => by
    show (2 : ℝ) ^ (a - r) = (2 : ℝ) ^ a * (2 : ℝ) ^ (-r)
    rw [← Real.rpow_add (by norm_num)]; rfl
  have hp : Real.rpow 2 (-r) ≠ 0 := (Real.rpow_pos_of_pos (by norm_num) _).ne'
  unfold weight2
  simp only [h]
  rw [← Finset.sum_mul, mul_one_div, mul_div_mul_right _ _ hp]

/-- The running form's quotient after the last chunk is the softmax-weighted sum. -/
theorem running_softmax (hμ0 : μ 0 = ⊥) (hl0 : l 0 = 0) (hA0 : A 0 = 0) (hμ : ∀ n, ∃ r : ℝ, μ (n + 1) = r)
    (hl : ∀ n, l (n + 1) = Ideal.exp2 (μ n - μ (n + 1)) * l n
      + ∑ k : Fin 256, Ideal.exp2 ((s (256 * n + k.val) : EReal) - μ (n + 1)))
    (hA : ∀ n, A (n + 1) = Ideal.exp2 (μ n - μ (n + 1)) * A n
      + ∑ k : Fin 256, V (256 * n + k.val) * Ideal.exp2 ((s (256 * n + k.val) : EReal) - μ (n + 1))) (n : ℕ) :
    Ideal.div (A (n + 1)) (l (n + 1))
      = ∑ κ ∈ Finset.range (256 * (n + 1)), V κ * (weight2 s (256 * (n + 1)) κ : EReal) := by
  obtain ⟨r, hr⟩ := hμ n
  have h1 := running s V μ A hμ0 hA0 hμ hA n r hr
  have h2 := running s (fun _ => 1) μ l hμ0 hl0 hμ (fun n => by rw [hl n]; simp only [one_mul]) n r hr
  simp only [one_mul] at h2
  rw [← coe_sum] at h2
  have hpos : 0 < ∑ κ ∈ Finset.range (256 * (n + 1)), pow2 (s κ) r :=
    Finset.sum_pos (fun κ _ => pow2_pos _ _) ⟨0, Finset.mem_range.mpr (by omega)⟩
  rw [h1, h2, Ideal.div_coe hpos.ne', mul_comm, coe_mul_sum _ (by positivity)]
  refine Finset.sum_congr rfl fun κ _ => ?_
  rw [mul_left_comm, ← EReal.coe_mul, mul_comm (1 / _), weight2_shift]

end Running

/-! ## The plain form -/

/-- Softmax weights, base `e`. -/
def weightE {N : ℕ} (t : Fin N → ℝ) (κ : Fin N) : ℝ := Real.exp (t κ) / ∑ j, Real.exp (t j)

/-- The exponential of a score less any real, over the sum of those, is the weight. -/
theorem plain_softmax {N : ℕ} (hN : 0 < N) (t : Fin N → ℝ) (M : ℝ) (κ : Fin N) :
    Ideal.div (Ideal.exp ((t κ : EReal) - (M : EReal))) (∑ j, Ideal.exp ((t j : EReal) - (M : EReal)))
      = (weightE t κ : EReal) := by
  have h : ∀ a : ℝ, Ideal.exp ((a : EReal) - (M : EReal)) = ((Real.exp a * Real.exp (-M) : ℝ) : EReal) := fun a => by
    rw [← EReal.coe_sub, ← Real.exp_add, ← sub_eq_add_neg]; rfl
  have hpos : 0 < ∑ j, Real.exp (t j) * Real.exp (-M) :=
    Finset.sum_pos (fun κ _ => mul_pos (Real.exp_pos _) (Real.exp_pos _)) ⟨⟨0, hN⟩, Finset.mem_univ _⟩
  simp only [h]
  rw [← coe_sum, Ideal.div_coe hpos.ne', ← EReal.coe_mul]
  unfold weightE
  rw [← Finset.sum_mul, mul_one_div, mul_div_mul_right _ _ (Real.exp_pos _).ne']

end Cert.Attn

end
-- ==== Proof.Spec.lean ====
module
public import proofs.«01_k».proof.KernelIdeal
public import proofs.«01_k».proof.Proof.Softmax
public import Idealize.ShloMosaic.Lib.Pointwise

/-! # Attention, as a formula

`attention` is grouped-query attention over extended reals, element by element: the keys and values of the latent tokens
followed by those of the context, a query's scores against them scaled by an eighth, and the values' sum under the
softmax weights of the scores. The scores are taken as reals. `rotate_sum` sets the sum over the keys in the other
order, context first, with weights to the base two, beside it. -/

@[expose] public section
noncomputable section
namespace Cert.Attn
open Cert.KernelIdeal Idealize.ShloMosaic
open Idealize.ShloMosaic.Pointwise

/-- Every element is a real. -/
def Finite {s : Shape} (x : s.Idx → EReal) : Prop := ∀ i, x i = ((x i).toReal : EReal)

variable (q : S4x8192x12x64.Idx → EReal) (k v : S4x8192x4x64.Idx → EReal) (kc vc : S4x256x4x64.Idx → EReal)

/-- Row `κ` of the latent rows followed by the context's. -/
def joined (b j : Fin 4) (κ : Fin 8448) (d : Fin 64) : EReal :=
  if h : κ.val < 8192 then k (ix4 b ⟨κ.val, h⟩ j d) else kc (ix4 b ⟨κ.val - 8192, by omega⟩ j d)

/-- Query head `g` of key head `j`. -/
def headAt (j : Fin 4) (g : Fin 3) : Fin 12 := ⟨3 * j.val + g.val, by omega⟩

/-- The score of key `κ` against query `x`. -/
def score (b j : Fin 4) (g : Fin 3) (x : Fin 8192) (κ : Fin 8448) : ℝ :=
  (∑ e : Fin 64, (joined k kc b j κ e).toReal * (q (ix4 b x (headAt j g) e)).toReal) * (1 / 8)

/-- Attention at batch `b`, key head `j`, query head `g` of it, dimension `d` and query `x`. -/
def attention (b j : Fin 4) (g : Fin 3) (d : Fin 64) (x : Fin 8192) : EReal :=
  ∑ κ : Fin 8448, joined v vc b j κ d * (weightE (score q k kc b j g x) κ : EReal)

theorem joined_real (hk : Finite k) (hkc : Finite kc) (b j : Fin 4) (κ : Fin 8448) (d : Fin 64) :
    joined k kc b j κ d = ((joined k kc b j κ d).toReal : EReal) := by
  unfold joined
  split
  · exact hk _
  · exact hkc _

/-! ## The keys' order -/

/-- Where key `κ`, counted from the context's first, stands when counted from the latents' first. -/
def rotate (κ : ℕ) : Fin 8448 := ⟨(κ + 8192) % 8448, Nat.mod_lt _ (by decide)⟩

theorem rotate_eq (κ : Fin 8448) : rotate κ.val = Equiv.addRight (8192 : Fin 8448) κ := by
  refine Fin.ext ?_
  show _ = (κ + 8192 : Fin 8448).val
  rw [Fin.val_add]
  rfl

theorem rotate_reindex {M : Type} [AddCommMonoid M] (f : Fin 8448 → M) :
    ∑ κ ∈ Finset.range 8448, f (rotate κ) = ∑ κ : Fin 8448, f κ := by
  rw [Finset.sum_range, ← Equiv.sum_comp (Equiv.addRight (8192 : Fin 8448)) f]
  exact Finset.sum_congr rfl fun κ _ => by rw [rotate_eq]

/-- A power of two of a score divided by the logarithm of two is the score's exponential. -/
theorem rpow_two_div_log (a : ℝ) : Real.rpow 2 (a * (1 / Real.log 2)) = Real.exp a := by
  show (2 : ℝ) ^ (a * (1 / Real.log 2)) = _
  rw [Real.rpow_def_of_pos (by norm_num)]
  congr 1
  have : Real.log 2 ≠ 0 := (Real.log_pos (by norm_num)).ne'
  field_simp

theorem weight_rotate (t : Fin 8448 → ℝ) (κ : ℕ) :
    weight2 (fun κ => t (rotate κ) * (1 / Real.log 2)) 8448 κ = weightE t (rotate κ) := by
  unfold weight2 weightE
  simp only [rpow_two_div_log]
  rw [rotate_reindex fun κ => Real.exp (t κ)]

theorem rotate_sum (w : Fin 8448 → EReal) (t : Fin 8448 → ℝ) :
    ∑ κ ∈ Finset.range 8448, w (rotate κ) * (weight2 (fun κ => t (rotate κ) * (1 / Real.log 2)) 8448 κ : EReal)
      = ∑ κ : Fin 8448, w κ * (weightE t κ : EReal) := by
  simp only [weight_rotate]
  exact rotate_reindex fun κ => w κ * (weightE t κ : EReal)

end Cert.Attn

end
-- ==== Proof.Finite.lean ====
module
public import proofs.«01_k».proof.Defs
public import proofs.«01_k».proof.Proof.Spec

/-! # What the precondition says

An entry whose size is below infinity is a real. -/

@[expose] public section
noncomputable section
namespace Cert.Attn
open Idealize.ShloMosaic

theorem pre_facts : Cert.Pre_finite_scores.Facts := ⟨by decide, by decide, by decide⟩

theorem infinity : Ideal.ofBits .f32 0x7F800000#32 = ⊤ := by simp [Ideal.ofBits, Ideal.ieee]

/-- The comparison `|x| < inf` at one entry. -/
theorem real_of_below (x : EReal)
    (h : FloatOps.cmpf (F := Ideal) (φ := .f32) .olt (FloatOps.absf (F := Ideal) (φ := .f32) x) (Ideal.ofBits .f32 0x7F800000#32) = 1#1) :
    x = (x.toReal : EReal) := by
  rw [infinity] at h
  have h' : max x (-x) < ⊤ := by
    by_contra hn
    have : Ideal.cmp .olt (max x (-x)) ⊤ = 0#1 := by simp [Ideal.cmp, hn]
    exact absurd (this.symm.trans h) (by decide)
  have h1 : x ≠ ⊤ := fun e => by rw [e] at h'; simp at h'
  have h2 : x ≠ ⊥ := fun e => by rw [e] at h'; simp at h'
  exact (EReal.coe_toReal h1 h2).symm

end Cert.Attn

end
-- ==== Proof.Chunks.lean ====
/- One grid point of the attention kernel as a fold over the key chunks.

   The body keeps, for each of the three query groups of its key/value head, a running row maximum, a running
   denominator and a running weighted sum of values, and passes over the 8448 keys in 33 chunks of 256.  `mRun`,
   `lRun` and `accRun` state one group's three running values after `n` chunks, with the vector operations the body
   uses, as functions of the group's queries and of the chunks of keys and values. -/
module

public import proofs.«01_k».proof.Proof.Gen.KernelIdeal.Value
public import Idealize.ShloMosaic.Lib.Pipeline.ReadBack
public import Idealize.ShloMosaic.Lib.ValueIdx

@[expose] public section

noncomputable section

namespace Cert.Attn

open Cert.KernelIdeal Cert.KernelIdeal.Gen Idealize.ShloMosaic Idealize.ShloMosaic.TcCoe Idealize.SL.Sem

variable {F : FTy → Type} [FloatOps F]

/-! ## One chunk -/

/-- The scores of a chunk's keys against a group's queries: keys by rows, queries by columns. -/
def scores (q : FVec F S64x256 .bf16) (k : Vec F S1x1x256x64 .bf16) : FVec F S256x256 .f32 :=
  matmul dot_S256x64_S64x256_S256x256_1_0_0_1_n_n none (shapeCast S256x64 k shapeCasts_S1x1x256x64_S256x64) q
    (constant S256x256 .f32 0x00000000#32)

/-- The running maximum after a chunk. -/
def mStep (s : FVec F S256x256 .f32) (m : FVec F S1x256 .f32) : FVec F S1x256 .f32 :=
  maximumf m (shapeCast S1x256
    (multiReduction .maximumf [0] S256 s 0xFF800000#32 reduces_S256x256_S256 (.inl rfl) rfl) shapeCasts_S256_S1x256)

/-- The chunk's weights under the maximum `m`. -/
def weights (s : FVec F S256x256 .f32) (m : FVec F S1x256 .f32) : FVec F S256x256 .f32 :=
  exp2 (subf s (broadcastTo S256x256 m broadcasts_S1x256_S256x256))

/-- The factor that carries what was weighted under `m` over to the maximum `m'`. -/
def rescale (m m' : FVec F S1x256 .f32) : FVec F S1x256 .f32 := exp2 (subf m m')

/-- The running denominator after a chunk. -/
def lStep (s : FVec F S256x256 .f32) (m m' l : FVec F S1x256 .f32) : FVec F S1x256 .f32 :=
  addf (mulf (rescale m m') l) (shapeCast S1x256
    (multiReduction .add [0] S256 (weights s m') 0x00000000#32 reduces_S256x256_S256 (.inl rfl) rfl) shapeCasts_S256_S1x256)

/-- The running weighted sum of values after a chunk. -/
def accStep (s : FVec F S256x256 .f32) (v : Vec F S1x64x256 .bf16) (m m' : FVec F S1x256 .f32) (acc : FVec F S64x256 .f32) :
    FVec F S64x256 .f32 :=
  addf (mulf (broadcastTo S64x256 (rescale m m') broadcasts_S1x256_S64x256) acc)
    (matmul dot_S64x256_S256x256_S64x256_1_0_0_1_n_n none (shapeCast S64x256 v shapeCasts_S1x64x256_S64x256)
      (truncf .bf16 (weights s m') bitsLt_bf16_f32) (constant S64x256 .f32 0x00000000#32))

/-! ## The fold over the chunks -/

variable (q : FVec F S64x256 .bf16) (kf : ℕ → Vec F S1x1x256x64 .bf16) (vf : ℕ → Vec F S1x64x256 .bf16)
variable (m0 l0 : FVec F S1x256 .f32) (acc0 : FVec F S64x256 .f32)

/-- The running maximum after `n` chunks. -/
def mRun (n : ℕ) : FVec F S1x256 .f32 := Nat.rec m0 (fun n m => mStep (scores q (kf n)) m) n

/-- The running denominator after `n` chunks. -/
def lRun (n : ℕ) : FVec F S1x256 .f32 :=
  Nat.rec l0 (fun n l => lStep (scores q (kf n)) (mRun q kf m0 n) (mRun q kf m0 (n + 1)) l) n

/-- The running weighted sum of values after `n` chunks. -/
def accRun (n : ℕ) : FVec F S64x256 .f32 :=
  Nat.rec acc0 (fun n acc => accStep (scores q (kf n)) (vf n) (mRun q kf m0 n) (mRun q kf m0 (n + 1)) acc) n

/-! ## The chunks of the blocks -/

/-- Where chunk `n` of the keys lies in the block of keys. -/
def keyRect (n : ℕ) : Rect S1x1x8448x64 :=
  Rect.unit ![0, 0, 256 * (n % 33), 0] S1x1x256x64.size (by
    have h : n % 33 < 33 := Nat.mod_lt _ (by decide)
    intro a
    match a with
    | ⟨0, _⟩ => show 0 + 1 ≤ 1; omega
    | ⟨1, _⟩ => show 0 + 1 ≤ 1; omega
    | ⟨2, _⟩ => show 256 * (n % 33) + 256 ≤ 8448; omega
    | ⟨3, _⟩ => show 0 + 64 ≤ 64; omega)

/-- Where chunk `n` of the values lies in the block of values. -/
def valRect (n : ℕ) : Rect S1x64x8448 :=
  Rect.unit ![0, 0, 256 * (n % 33)] S1x64x256.size (by
    have h : n % 33 < 33 := Nat.mod_lt _ (by decide)
    intro a
    match a with
    | ⟨0, _⟩ => show 0 + 1 ≤ 1; omega
    | ⟨1, _⟩ => show 0 + 64 ≤ 64; omega
    | ⟨2, _⟩ => show 256 * (n % 33) + 256 ≤ 8448; omega)

/-- Where group `g`'s queries lie in the block of queries. -/
def queryRect (g : ℕ) : Rect S1x192x256 :=
  Rect.unit ![0, 64 * (g % 3), 0] S1x64x256.size (by
    have h : g % 3 < 3 := Nat.mod_lt _ (by decide)
    intro a
    match a with
    | ⟨0, _⟩ => show 0 + 1 ≤ 1; omega
    | ⟨1, _⟩ => show 64 * (g % 3) + 64 ≤ 192; omega
    | ⟨2, _⟩ => show 0 + 256 ≤ 256; omega)

end Cert.Attn

end
-- ==== Proof.Block.lean ====
/- What one grid point of the attention kernel leaves in its output block, as a function of its three input blocks. -/
module

public import proofs.«01_k».proof.Proof.Chunks

@[expose] public section

set_option maxRecDepth 100000

noncomputable section

namespace Cert.Attn

open Cert.KernelIdeal Cert.KernelIdeal.Gen Idealize.ShloMosaic Idealize.ShloMosaic.TcCoe Idealize.SL.Sem
open Idealize.ShloMosaic.Tactic

variable {F : FTy → Type} [FloatOps F]

/-! ## The block's function -/

/-- The running maximum before the first chunk. -/
def mInit : FVec F S1x256 .f32 := broadcast S1x256 (Scalar.ofBits .f32 0xFF800000#32)

/-- The running denominator before the first chunk. -/
def lInit : FVec F S1x256 .f32 := broadcast S1x256 (Scalar.ofBits .f32 0x00000000#32)

/-- The running weighted sum before the first chunk. -/
def accInit : FVec F S64x256 .f32 := broadcast S64x256 (Scalar.ofBits .f32 0x00000000#32)

/-- Group `g`'s queries, of the block of queries. -/
def queriesOf (x0 : Vec F S1x192x256 .bf16) (g : ℕ) : FVec F S64x256 .bf16 :=
  shapeCast S64x256 (View.ld x0 (queryRect g)) shapeCasts_S1x64x256_S64x256

/-- Chunk `n` of the block of keys. -/
def keysOf (x1 : Vec F S1x1x8448x64 .bf16) (n : ℕ) : Vec F S1x1x256x64 .bf16 := View.ld x1 (keyRect n)

/-- Chunk `n` of the block of values. -/
def valuesOf (x2 : Vec F S1x64x8448 .bf16) (n : ℕ) : Vec F S1x64x256 .bf16 := View.ld x2 (valRect n)

/-- Group `g`'s attention: the weighted sum of the values over the denominator, after the last chunk. -/
def groupVal (x0 : Vec F S1x192x256 .bf16) (x1 : Vec F S1x1x8448x64 .bf16) (x2 : Vec F S1x64x8448 .bf16) (g : ℕ) :
    FVec F S64x256 .f32 :=
  divf (accRun (queriesOf x0 g) (keysOf x1) (valuesOf x2) mInit accInit 33)
    (broadcastTo S64x256 (lRun (queriesOf x0 g) (keysOf x1) mInit lInit 33) broadcasts_S1x256_S64x256)

/-- The output block: the three groups' attention, one under the other. -/
def blockVal (x0 : Vec F S1x192x256 .bf16) (x1 : Vec F S1x1x8448x64 .bf16) (x2 : Vec F S1x64x8448 .bf16) :
    Vec F S1x192x256 .bf16 :=
  shapeCast S1x192x256 (truncf .bf16 (concatenate S192x256 0
      [⟨S64x256, groupVal x0 x1 x2 0⟩, ⟨S64x256, groupVal x0 x1 x2 1⟩, ⟨S64x256, groupVal x0 x1 x2 2⟩]
      concatenates_S64x256_S64x256_S64x256_S192x256_d0) bitsLt_bf16_f32) shapeCasts_S192x256_S1x192x256

/-! ## The body leaves it -/

variable (c : Dev nD) (arg4 : Memref sig .tc .vmem S1x192x256 .bf16) (h4 : arg4.IsWhole)
variable (arg5 : Memref sig .tc .vmem S1x1x8448x64 .bf16) (h5 : arg5.IsWhole)
variable (arg6 : Memref sig .tc .vmem S1x64x8448 .bf16) (h6 : arg6.IsWhole)
variable (arg8 : Memref sig .tc .vmem S3x1x256 .f32) (arg9 : Memref sig .tc .vmem S3x1x256 .f32)
variable (arg10 : Memref sig .tc .vmem S3x64x256 .f32)
variable (x0 : Vec F S1x192x256 .bf16) (x1 : Vec F S1x1x8448x64 .bf16) (x2 : Vec F S1x64x8448 .bf16)

/-- A load of group `g`'s queries reads `queriesOf`. -/
theorem load_queries (g : ℕ) : shapeCast S64x256 (View.readAt (Elt F) arg4.view (queryRect g).toLoadRect (h4.unread x0))
    shapeCasts_S1x64x256_S64x256 = queriesOf x0 g := by
  rw [View.readAt_eq_ld, h4.read_unread]; rfl

/-- A load of chunk `n` of the keys reads `keysOf`. -/
theorem load_keys : (fun n => View.readAt (Elt F) arg5.view (keyRect n).toLoadRect (h5.unread x1)) = keysOf x1 := by
  funext n
  rw [View.readAt_eq_ld, h5.read_unread]; rfl

/-- A load of chunk `n` of the values reads `valuesOf`. -/
theorem load_values : (fun n => View.readAt (Elt F) arg6.view (valRect n).toLoadRect (h6.unread x2)) = valuesOf x2 := by
  funext n
  rw [View.readAt_eq_ld, h6.read_unread]; rfl

theorem init_m0 : k0_pay11 (F := F) (kernelRun0_A.sl.v9 c arg8) = mInit := by
  unfold kernelRun0_A.sl.v9 kernelRun0_A.sl.HS0_1
  rw [View.readCov_fill _ _ _ _ _ (by decide)]; rfl
theorem init_m1 : k0_pay12 (F := F) (kernelRun0_A.sl.v11 c arg8) = mInit := by
  unfold kernelRun0_A.sl.v11 kernelRun0_A.sl.HS0_1
  rw [View.readCov_fill _ _ _ _ _ (by decide)]; rfl
theorem init_m2 : k0_pay13 (F := F) (kernelRun0_A.sl.v13 c arg8) = mInit := by
  unfold kernelRun0_A.sl.v13 kernelRun0_A.sl.HS0_1
  rw [View.readCov_fill _ _ _ _ _ (by decide)]; rfl
theorem init_l0 : k0_pay14 (F := F) (kernelRun0_A.sl.v15 c arg9) = lInit := by
  unfold kernelRun0_A.sl.v15 kernelRun0_A.sl.HS1_1
  rw [View.readCov_fill _ _ _ _ _ (by decide)]; rfl
theorem init_l1 : k0_pay15 (F := F) (kernelRun0_A.sl.v17 c arg9) = lInit := by
  unfold kernelRun0_A.sl.v17 kernelRun0_A.sl.HS1_1
  rw [View.readCov_fill _ _ _ _ _ (by decide)]; rfl
theorem init_l2 : k0_pay16 (F := F) (kernelRun0_A.sl.v19 c arg9) = lInit := by
  unfold kernelRun0_A.sl.v19 kernelRun0_A.sl.HS1_1
  rw [View.readCov_fill _ _ _ _ _ (by decide)]; rfl
theorem init_acc0 : k0_pay17 (F := F) (kernelRun0_A.sl.v21 c arg10) = accInit := by
  unfold kernelRun0_A.sl.v21 kernelRun0_A.sl.HS2_1
  rw [View.readCov_fill _ _ _ _ _ (by decide)]; rfl
theorem init_acc1 : k0_pay18 (F := F) (kernelRun0_A.sl.v23 c arg10) = accInit := by
  unfold kernelRun0_A.sl.v23 kernelRun0_A.sl.HS2_1
  rw [View.readCov_fill _ _ _ _ _ (by decide)]; rfl
theorem init_acc2 : k0_pay19 (F := F) (kernelRun0_A.sl.v25 c arg10) = accInit := by
  unfold kernelRun0_A.sl.v25 kernelRun0_A.sl.HS2_1
  rw [View.readCov_fill _ _ _ _ _ (by decide)]; rfl

/-! What is stored after the last chunk, read back group by group, is the fold's result: the stored value is the fold
over the loads by the definitions of the body's values, and the loads are the chunks. -/

/-- The fold over the loads from the staging buffers, for a group's denominator. -/
def lLoads (g : ℕ) (m0 l0 : FVec F S1x256 .f32) : FVec F S1x256 .f32 :=
  lRun (shapeCast S64x256 (View.readAt (Elt F) arg4.view (queryRect g).toLoadRect (h4.unread x0)) shapeCasts_S1x64x256_S64x256)
    (fun n => View.readAt (Elt F) arg5.view (keyRect n).toLoadRect (h5.unread x1)) m0 l0 33

/-- The fold over the loads from the staging buffers, for a group's weighted sum. -/
def accLoads (g : ℕ) (m0 : FVec F S1x256 .f32) (acc0 : FVec F S64x256 .f32) : FVec F S64x256 .f32 :=
  accRun (shapeCast S64x256 (View.readAt (Elt F) arg4.view (queryRect g).toLoadRect (h4.unread x0)) shapeCasts_S1x64x256_S64x256)
    (fun n => View.readAt (Elt F) arg5.view (keyRect n).toLoadRect (h5.unread x1))
    (fun n => View.readAt (Elt F) arg6.view (valRect n).toLoadRect (h6.unread x2)) m0 acc0 33

theorem lLoads_eq (g : ℕ) (m0 l0 : FVec F S1x256 .f32) :
    lLoads arg4 h4 arg5 h5 x0 x1 g m0 l0 = lRun (queriesOf x0 g) (keysOf x1) m0 l0 33 := by
  unfold lLoads; rw [load_queries, load_keys]

theorem accLoads_eq (g : ℕ) (m0 : FVec F S1x256 .f32) (acc0 : FVec F S64x256 .f32) :
    accLoads arg4 h4 arg5 h5 arg6 h6 x0 x1 x2 g m0 acc0
      = accRun (queriesOf x0 g) (keysOf x1) (valuesOf x2) m0 acc0 33 := by
  unfold accLoads; rw [load_queries, load_keys, load_values]

theorem stored_l0 : shapeCast S1x256 (kernelRun0_A.sl.v1973 c arg4 h4 arg5 h5 arg8 arg9 x0 x1) shapeCasts_S1x1x256_S1x256
    = lRun (queriesOf x0 0) (keysOf x1) mInit lInit 33 := by
  unfold kernelRun0_A.sl.v1973 kernelRun0_A.sl.HS1_4
  rw [View.readCov_skip _ _ _ _ _ (by decide), View.readCov_skip _ _ _ _ _ (by decide)]
  refine Eq.trans (congrArg (shapeCast S1x256 · shapeCasts_S1x1x256_S1x256) (View.readCov_cons_toLoadRect _ _ _ _)) ?_
  refine Eq.trans (b := shapeCast S1x256 (shapeCast S1x1x256 (lLoads arg4 h4 arg5 h5 x0 x1 0 (k0_pay11 (kernelRun0_A.sl.v9 c arg8))
    (k0_pay14 (kernelRun0_A.sl.v15 c arg9))) shapeCasts_S1x256_S1x1x256) shapeCasts_S1x1x256_S1x256) (by sl_kernel_rfl) ?_
  rw [shapeCast_shapeCast, lLoads_eq, init_m0, init_l0]

theorem stored_acc0 : shapeCast S64x256 (kernelRun0_A.sl.v1971 c arg4 h4 arg5 h5 arg6 h6 arg8 arg10 x0 x1 x2) shapeCasts_S1x64x256_S64x256
    = accRun (queriesOf x0 0) (keysOf x1) (valuesOf x2) mInit accInit 33 := by
  unfold kernelRun0_A.sl.v1971 kernelRun0_A.sl.HS2_4
  rw [View.readCov_skip _ _ _ _ _ (by decide), View.readCov_skip _ _ _ _ _ (by decide)]
  refine Eq.trans (congrArg (shapeCast S64x256 · shapeCasts_S1x64x256_S64x256) (View.readCov_cons_toLoadRect _ _ _ _)) ?_
  refine Eq.trans (b := shapeCast S64x256 (shapeCast S1x64x256 (accLoads arg4 h4 arg5 h5 arg6 h6 x0 x1 x2 0 (k0_pay11 (kernelRun0_A.sl.v9 c arg8))
    (k0_pay17 (kernelRun0_A.sl.v21 c arg10))) shapeCasts_S64x256_S1x64x256) shapeCasts_S1x64x256_S64x256) (by sl_kernel_rfl) ?_
  rw [shapeCast_shapeCast, accLoads_eq, init_m0, init_acc0]

theorem stored_l1 : shapeCast S1x256 (kernelRun0_A.sl.v1979 c arg4 h4 arg5 h5 arg8 arg9 x0 x1) shapeCasts_S1x1x256_S1x256
    = lRun (queriesOf x0 1) (keysOf x1) mInit lInit 33 := by
  unfold kernelRun0_A.sl.v1979 kernelRun0_A.sl.HS1_4
  rw [View.readCov_skip _ _ _ _ _ (by decide)]
  refine Eq.trans (congrArg (shapeCast S1x256 · shapeCasts_S1x1x256_S1x256) (View.readCov_cons_toLoadRect _ _ _ _)) ?_
  refine Eq.trans (b := shapeCast S1x256 (shapeCast S1x1x256 (lLoads arg4 h4 arg5 h5 x0 x1 1 (k0_pay12 (kernelRun0_A.sl.v11 c arg8))
    (k0_pay15 (kernelRun0_A.sl.v17 c arg9))) shapeCasts_S1x256_S1x1x256) shapeCasts_S1x1x256_S1x256) (by sl_kernel_rfl) ?_
  rw [shapeCast_shapeCast, lLoads_eq, init_m1, init_l1]

theorem stored_acc1 : shapeCast S64x256 (kernelRun0_A.sl.v1977 c arg4 h4 arg5 h5 arg6 h6 arg8 arg10 x0 x1 x2) shapeCasts_S1x64x256_S64x256
    = accRun (queriesOf x0 1) (keysOf x1) (valuesOf x2) mInit accInit 33 := by
  unfold kernelRun0_A.sl.v1977 kernelRun0_A.sl.HS2_4
  rw [View.readCov_skip _ _ _ _ _ (by decide)]
  refine Eq.trans (congrArg (shapeCast S64x256 · shapeCasts_S1x64x256_S64x256) (View.readCov_cons_toLoadRect _ _ _ _)) ?_
  refine Eq.trans (b := shapeCast S64x256 (shapeCast S1x64x256 (accLoads arg4 h4 arg5 h5 arg6 h6 x0 x1 x2 1 (k0_pay12 (kernelRun0_A.sl.v11 c arg8))
    (k0_pay18 (kernelRun0_A.sl.v23 c arg10))) shapeCasts_S64x256_S1x64x256) shapeCasts_S1x64x256_S64x256) (by sl_kernel_rfl) ?_
  rw [shapeCast_shapeCast, accLoads_eq, init_m1, init_acc1]

theorem stored_l2 : shapeCast S1x256 (kernelRun0_A.sl.v1985 c arg4 h4 arg5 h5 arg8 arg9 x0 x1) shapeCasts_S1x1x256_S1x256
    = lRun (queriesOf x0 2) (keysOf x1) mInit lInit 33 := by
  unfold kernelRun0_A.sl.v1985 kernelRun0_A.sl.HS1_4
  refine Eq.trans (congrArg (shapeCast S1x256 · shapeCasts_S1x1x256_S1x256) (View.readCov_cons_toLoadRect _ _ _ _)) ?_
  refine Eq.trans (b := shapeCast S1x256 (shapeCast S1x1x256 (lLoads arg4 h4 arg5 h5 x0 x1 2 (k0_pay13 (kernelRun0_A.sl.v13 c arg8))
    (k0_pay16 (kernelRun0_A.sl.v19 c arg9))) shapeCasts_S1x256_S1x1x256) shapeCasts_S1x1x256_S1x256) (by sl_kernel_rfl) ?_
  rw [shapeCast_shapeCast, lLoads_eq, init_m2, init_l2]

theorem stored_acc2 : shapeCast S64x256 (kernelRun0_A.sl.v1983 c arg4 h4 arg5 h5 arg6 h6 arg8 arg10 x0 x1 x2) shapeCasts_S1x64x256_S64x256
    = accRun (queriesOf x0 2) (keysOf x1) (valuesOf x2) mInit accInit 33 := by
  unfold kernelRun0_A.sl.v1983 kernelRun0_A.sl.HS2_4
  refine Eq.trans (congrArg (shapeCast S64x256 · shapeCasts_S1x64x256_S64x256) (View.readCov_cons_toLoadRect _ _ _ _)) ?_
  refine Eq.trans (b := shapeCast S64x256 (shapeCast S1x64x256 (accLoads arg4 h4 arg5 h5 arg6 h6 x0 x1 x2 2 (k0_pay13 (kernelRun0_A.sl.v13 c arg8))
    (k0_pay19 (kernelRun0_A.sl.v25 c arg10))) shapeCasts_S64x256_S1x64x256) shapeCasts_S1x64x256_S64x256) (by sl_kernel_rfl) ?_
  rw [shapeCast_shapeCast, accLoads_eq, init_m2, init_acc2]

/-- The body leaves `blockVal` of its input blocks in the output's buffer. -/
theorem out_eq (i : grid0.Coords) (arg7 : Memref sig .tc .vmem S1x192x256 .bf16) (h7 : arg7.IsWhole) (h8 : arg8.IsWhole)
    (h9 : arg9.IsWhole) (h10 : arg10.IsWhole) (hc0 : cond0_0 i) (hc1 : cond0_1 i) :
    out0_A_3 c i arg4 h4 arg5 h5 arg6 h6 arg7 h7 arg8 h8 arg9 h9 arg10 h10 hc0 hc1 x0 x1 x2 = blockVal x0 x1 x2 := by
  unfold out0_A_3
  rw [View.read_writes_eq_canon _ _ _ (cover0_A_3 c i arg4 h4 arg5 h5 arg6 h6 arg7 h7 arg8 h8 arg9 h9 arg10 h10 hc0 hc1 x0 x1 x2)]
  unfold kernelRun0_A
  dsimp only
  rw [View.canon_unit_zero (by decide)]
  unfold k0_pay4
  dsimp only
  rw [stored_l0, stored_l1, stored_l2, stored_acc0, stored_acc1, stored_acc2]
  rfl

/-- So every grid point leaves `blockVal` of its blocks. -/
theorem outsAt_eq (m : (ℓ : Loc nD τ sig) → Buf (Elt F) ℓ) (c : Dev nD) (t : Fin cfg0.N) :
    outsAt0 m c t = blockVal (iblk m c 0 t) (iblk m c 1 t) (iblk m c 2 t) := by
  unfold outsAt0
  exact out_eq ..

end Cert.Attn

end
-- ==== Proof.BlockValue.lean ====
module
public import proofs.«01_k».proof.Proof.Block
public import proofs.«01_k».proof.Proof.Softmax
public import Idealize.ShloMosaic.Lib.Pointwise

/-! # One block of attention, read at an element

Over the extended reals every step of the running softmax is read at an index. One block's function is then, at head
group `g`, dimension `d` and query `x`, the sum over all keys of the value times the softmax weight of base two of the
key's score, whenever the scores are real. -/

@[expose] public section
noncomputable section
namespace Cert.Attn
open Cert.KernelIdeal Cert.KernelIdeal.Gen Idealize.ShloMosaic Idealize.ShloMosaic.TcCoe Idealize.SL.Sem
open Idealize.ShloMosaic.Pointwise

/-! ## The steps at an index -/

theorem negInf : Ideal.ofBits .f32 0xFF800000#32 = ⊥ := by simp [Ideal.ofBits, Ideal.ieee]

theorem scores_apply (q : FVec Ideal S64x256 .bf16) (k : Vec Ideal S1x1x256x64 .bf16) (κ x : Fin 256) :
    scores q k (ix2 κ x) = ∑ d : Fin 64, k (ix4 0 0 κ d) * q (ix2 d x) := by
  pointwise [scores]

theorem mStep_apply (s : FVec Ideal S256x256 .f32) (m : FVec Ideal S1x256 .f32) (x : Fin 256) :
    mStep s m (ix2 0 x) = max (m (ix2 0 x)) ((Finset.univ : Finset (Fin 256)).fold max ⊥ fun κ => s (ix2 κ x)) := by
  pointwise [mStep]
  rw [negInf]

theorem lStep_apply (s : FVec Ideal S256x256 .f32) (m m' l : FVec Ideal S1x256 .f32) (x : Fin 256) :
    lStep s m m' l (ix2 0 x) = Ideal.exp2 (m (ix2 0 x) - m' (ix2 0 x)) * l (ix2 0 x)
      + ∑ κ : Fin 256, Ideal.exp2 (s (ix2 κ x) - m' (ix2 0 x)) := by
  pointwise [lStep, rescale, weights]
  rfl

theorem accStep_apply (s : FVec Ideal S256x256 .f32) (v : Vec Ideal S1x64x256 .bf16) (m m' : FVec Ideal S1x256 .f32)
    (acc : FVec Ideal S64x256 .f32) (d : Fin 64) (x : Fin 256) :
    accStep s v m m' acc (ix2 d x) = Ideal.exp2 (m (ix2 0 x) - m' (ix2 0 x)) * acc (ix2 d x)
      + ∑ κ : Fin 256, v (ix3 0 d κ) * Ideal.exp2 (s (ix2 κ x) - m' (ix2 0 x)) := by
  pointwise [accStep, rescale, weights]
  rfl

theorem mInit_apply (x : Fin 256) : mInit (F := Ideal) (ix2 0 x) = ⊥ := negInf

theorem lInit_apply (x : Fin 256) : lInit (F := Ideal) (ix2 0 x) = 0 := Ideal.ofBits_zero_f32

theorem accInit_apply (d : Fin 64) (x : Fin 256) : accInit (F := Ideal) (ix2 d x) = 0 := Ideal.ofBits_zero_f32

/-! ## The blocks' elements -/

/-- Key `κ`, counted around. -/
def keyAt (κ : ℕ) : Fin 8448 := ⟨κ % 8448, Nat.mod_lt _ (by decide)⟩

/-- Row `64 g + d` of the three groups' rows. -/
def rowAt (g : Fin 3) (d : Fin 64) : Fin 192 := ⟨64 * g.val + d.val, by omega⟩

theorem dropUnit_apply (v : FVec Ideal S1x64x256 .bf16) (d : Fin 64) (x : Fin 256) :
    shapeCast S64x256 v shapeCasts_S1x64x256_S64x256 (ix2 d x) = v (ix3 0 d x) := by
  pointwise

theorem queriesOf_apply (x0 : Vec Ideal S1x192x256 .bf16) (g : Fin 3) (d : Fin 64) (x : Fin 256) :
    queriesOf x0 g.val (ix2 d x) = x0 (ix3 0 (rowAt g d) x) := by
  refine (dropUnit_apply _ d x).trans ?_
  show x0 ((queryRect g.val).idx (ix3 0 d x)) = _
  congr 1
  funext a
  refine Fin.ext ?_
  match a with
  | ⟨0, _⟩ => rfl
  | ⟨1, _⟩ => show 64 * (g.val % 3) + 1 * d.val = 64 * g.val + d.val; omega
  | ⟨2, _⟩ => show 0 + 1 * x.val = x.val; omega

theorem keysOf_apply (x1 : Vec Ideal S1x1x8448x64 .bf16) (n : ℕ) (κ : Fin 256) (d : Fin 64) :
    keysOf x1 n (ix4 0 0 κ d) = x1 (ix4 0 0 (keyAt (256 * n + κ.val)) d) := by
  show x1 ((keyRect n).idx (ix4 0 0 κ d)) = _
  congr 1
  funext a
  refine Fin.ext ?_
  match a with
  | ⟨0, _⟩ => rfl
  | ⟨1, _⟩ => rfl
  | ⟨2, _⟩ => show 256 * (n % 33) + 1 * κ.val = (256 * n + κ.val) % 8448; omega
  | ⟨3, _⟩ => show 0 + 1 * d.val = d.val; omega

theorem valuesOf_apply (x2 : Vec Ideal S1x64x8448 .bf16) (n : ℕ) (d : Fin 64) (κ : Fin 256) :
    valuesOf x2 n (ix3 0 d κ) = x2 (ix3 0 d (keyAt (256 * n + κ.val))) := by
  show x2 ((valRect n).idx (ix3 0 d κ)) = _
  congr 1
  funext a
  refine Fin.ext ?_
  match a with
  | ⟨0, _⟩ => rfl
  | ⟨1, _⟩ => show 0 + 1 * d.val = d.val; omega
  | ⟨2, _⟩ => show 256 * (n % 33) + 1 * κ.val = (256 * n + κ.val) % 8448; omega

/-! ## One group -/

theorem group_div (a : FVec Ideal S64x256 .f32) (l : FVec Ideal S1x256 .f32) (d : Fin 64) (x : Fin 256) :
    divf a (broadcastTo S64x256 l broadcasts_S1x256_S64x256) (ix2 d x) = Ideal.div (a (ix2 d x)) (l (ix2 0 x)) := by
  pointwise

section
variable (x0 : Vec Ideal S1x192x256 .bf16) (x1 : Vec Ideal S1x1x8448x64 .bf16) (x2 : Vec Ideal S1x64x8448 .bf16)
variable (g : Fin 3) (x : Fin 256) (S : ℕ → ℝ)

/-- The chunk's scores are the scores of its keys. -/
theorem scores_real
    (hS : ∀ κ, ∑ e : Fin 64, x1 (ix4 0 0 (keyAt κ) e) * x0 (ix3 0 (rowAt g e) x) = (S κ : EReal)) (n : ℕ) (κ : Fin 256) :
    scores (queriesOf x0 g.val) (keysOf x1 n) (ix2 κ x) = (S (256 * n + κ.val) : EReal) := by
  rw [scores_apply, ← hS]
  refine Finset.sum_congr rfl fun e _ => ?_
  rw [keysOf_apply, queriesOf_apply]

/-- The running maximum is real after the first chunk. -/
theorem mRun_real
    (hS : ∀ κ, ∑ e : Fin 64, x1 (ix4 0 0 (keyAt κ) e) * x0 (ix3 0 (rowAt g e) x) = (S κ : EReal)) (n : ℕ) :
    ∃ r : ℝ, mRun (queriesOf x0 g.val) (keysOf x1) mInit (n + 1) (ix2 0 x) = r := by
  have step : ∀ n, mRun (queriesOf x0 g.val) (keysOf x1) mInit (n + 1) (ix2 0 x)
      = max (mRun (queriesOf x0 g.val) (keysOf x1) mInit n (ix2 0 x))
        ((Finset.univ : Finset (Fin 256)).fold max ⊥ fun κ =>
          scores (queriesOf x0 g.val) (keysOf x1 n) (ix2 κ x)) := fun n => mStep_apply _ _ x
  have chunk : ∀ n, ∃ r : ℝ, ((Finset.univ : Finset (Fin 256)).fold max ⊥ fun κ =>
      scores (queriesOf x0 g.val) (keysOf x1 n) (ix2 κ x)) = r := fun n =>
    fold_max_real (by decide) ⊥ (by decide) _ fun κ => ⟨_, scores_real x0 x1 g x S hS n κ⟩
  induction n with
  | zero =>
    obtain ⟨r, hr⟩ := chunk 0
    refine ⟨r, ?_⟩
    rw [step, hr]
    show max (mInit (F := Ideal) (ix2 0 x)) _ = _
    rw [mInit_apply, max_eq_right bot_le]
  | succ n ih =>
    obtain ⟨r, hr⟩ := chunk (n + 1)
    obtain ⟨r', hr'⟩ := ih
    refine ⟨max r' r, ?_⟩
    rw [step, hr, hr']
    exact (EReal.coe_strictMono.monotone.map_max).symm

/-- One group's attention at dimension `d` of query `x`. -/
theorem groupVal_apply (d : Fin 64)
    (hS : ∀ κ, ∑ e : Fin 64, x1 (ix4 0 0 (keyAt κ) e) * x0 (ix3 0 (rowAt g e) x) = (S κ : EReal)) :
    groupVal x0 x1 x2 g.val (ix2 d x)
      = ∑ κ ∈ Finset.range 8448, x2 (ix3 0 d (keyAt κ)) * (weight2 S 8448 κ : EReal) := by
  refine (group_div _ _ d x).trans ?_
  refine running_softmax S (fun κ => x2 (ix3 0 d (keyAt κ)))
    (fun n => mRun (queriesOf x0 g.val) (keysOf x1) mInit n (ix2 0 x))
    (fun n => lRun (queriesOf x0 g.val) (keysOf x1) mInit lInit n (ix2 0 x))
    (fun n => accRun (queriesOf x0 g.val) (keysOf x1) (valuesOf x2) mInit accInit n (ix2 d x))
    (mInit_apply x) (lInit_apply x) (accInit_apply d x) (mRun_real x0 x1 g x S hS) (fun n => ?_) (fun n => ?_) 32
  · refine (lStep_apply _ _ _ _ x).trans (congrArg₂ (· + ·) rfl (Finset.sum_congr rfl fun κ _ => ?_))
    rw [scores_real x0 x1 g x S hS]
  · refine (accStep_apply _ _ _ _ _ d x).trans (congrArg₂ (· + ·) rfl (Finset.sum_congr rfl fun κ _ => ?_))
    rw [scores_real x0 x1 g x S hS, valuesOf_apply]

end

/-! ## The three groups -/

/-- The groups' rows, one group under the other. -/
theorem stack_apply (a : Fin 3 → FVec Ideal S64x256 .f32) (g : Fin 3) (d : Fin 64) (x : Fin 256) :
    shapeCast S1x192x256 (truncf .bf16 (concatenate S192x256 0 [⟨S64x256, a 0⟩, ⟨S64x256, a 1⟩, ⟨S64x256, a 2⟩]
      concatenates_S64x256_S64x256_S64x256_S192x256_d0) bitsLt_bf16_f32) shapeCasts_S192x256_S1x192x256
      (ix3 0 (rowAt g d) x) = a g (ix2 d x) := by
  pointwise
  obtain ⟨g, hg⟩ := g
  have hr : ∀ h, (rowAt ⟨g, h⟩ d).val = 64 * g + d.val := fun _ => rfl
  have hd := d.isLt
  match g, hg with
  | 0, _ =>
    rw [dif_pos (by rw [hr]; omega)]
    exact congrArg (fun e => a 0 (ix2 e x)) (Fin.ext (by show (rowAt _ d).val = _; rw [hr]; omega))
  | 1, _ =>
    rw [dif_neg (by rw [hr]; omega), dif_pos (by rw [hr]; omega)]
    exact congrArg (fun e => a 1 (ix2 e x)) (Fin.ext (by show (rowAt _ d).val - 64 = _; rw [hr]; omega))
  | 2, _ =>
    rw [dif_neg (by rw [hr]; omega), dif_neg (by rw [hr]; omega)]
    exact congrArg (fun e => a 2 (ix2 e x)) (Fin.ext (by show (rowAt _ d).val - 64 - 64 = _; rw [hr]; omega))

theorem blockVal_apply (x0 : Vec Ideal S1x192x256 .bf16) (x1 : Vec Ideal S1x1x8448x64 .bf16)
    (x2 : Vec Ideal S1x64x8448 .bf16) (g : Fin 3) (d : Fin 64) (x : Fin 256) :
    blockVal x0 x1 x2 (ix3 0 (rowAt g d) x) = groupVal x0 x1 x2 g.val (ix2 d x) :=
  stack_apply (fun g => groupVal x0 x1 x2 g.val) g d x

end Cert.Attn

end
-- ==== Proof.HostValue.lean ====
module
public import proofs.«01_k».proof.Proof.BlockValue
public import proofs.«01_k».proof.Proof.Spec
public import proofs.«01_k».proof.Proof.Gen.KernelIdeal.Value
public import Idealize.ShloMosaic.Lib.Pipeline.ValueKit

/-! # The arrays the kernel reads

The host code before the kernel: the queries scaled, set behind as many zero columns as there are context tokens and
transposed; the keys, and the values transposed, the context's before the latents'. Each is read at an index. -/

@[expose] public section
noncomputable section
namespace Cert.Attn
open Cert.KernelIdeal Cert.KernelIdeal.Gen Idealize.ShloMosaic Idealize.ShloMosaic.TcCoe Idealize.SL.Sem
open Idealize.ShloMosaic.Pointwise

section
variable {F : FTy → Type} [FloatOps F]

/-- The queries' factor: an eighth over the logarithm of two. -/
def scaleArr (F : FTy → Type) [FloatOps F] : FVec F S_ .f32 :=
  Host.divf (constant S_ .f32 0x3E000000#32) (Host.log (constant S_ .f32 0x40000000#32))

/-- The queries as the kernel reads them. -/
def queryArr (q : FVec F S4x8192x12x64 .f32) : FVec F S4x768x8448 .bf16 :=
  truncf .bf16 (transpose S4x768x8448 [0, 2, 1] (pad S4x8448x768 ![0, 256, 0] ![0, 0, 0] ![0, 0, 0]
    (shapeCast S4x8192x768 (mulf q (broadcastInDim S4x8192x12x64 ![] bcast_S_S4x8192x12x64 (scaleArr F)))
      shapeCasts_S4x8192x12x64_S4x8192x768)
    (sitofp .f32 (constantI S_ 32 0#32)) pads_S4x8192x768_S4x8448x768_000_25600_000 h_S_)
    transposes_S4x8448x768_S4x768x8448_0_2_1) bitsLt_bf16_f32

/-- The rows of the context followed by those of the latents. -/
def contextFirst (k : FVec F S4x8192x4x64 .f32) (kc : FVec F S4x256x4x64 .f32) : FVec F S4x8448x4x64 .f32 :=
  concatenate S4x8448x4x64 1 [⟨S4x256x4x64, kc⟩, ⟨S4x8192x4x64, k⟩] concatenates_S4x256x4x64_S4x8192x4x64_S4x8448x4x64_d1

/-- The keys as the kernel reads them. -/
def keyArr (k : FVec F S4x8192x4x64 .f32) (kc : FVec F S4x256x4x64 .f32) : FVec F S4x4x8448x64 .bf16 :=
  truncf .bf16 (transpose S4x4x8448x64 [0, 2, 1, 3] (contextFirst k kc)
    transposes_S4x8448x4x64_S4x4x8448x64_0_2_1_3) bitsLt_bf16_f32

/-- The values as the kernel reads them. -/
def valueArr (v : FVec F S4x8192x4x64 .f32) (vc : FVec F S4x256x4x64 .f32) : FVec F S4x256x8448 .bf16 :=
  truncf .bf16 (transpose S4x256x8448 [0, 2, 1]
    (shapeCast S4x8448x256 (contextFirst v vc) shapeCasts_S4x8448x4x64_S4x8448x256)
    transposes_S4x8448x256_S4x256x8448_0_2_1) bitsLt_bf16_f32

variable (m : (ℓ : Loc nD τ sig) → Buf (Elt F) ℓ) (c : Dev nD)

theorem V_queries : V m c main_v7 = queryArr (m ((c : Thread nD τ).loc main_arg0)) := rfl

theorem V_keys : V m c main_v10
    = keyArr (m ((c : Thread nD τ).loc main_arg1)) (m ((c : Thread nD τ).loc main_arg3)) := rfl

theorem V_values : V m c main_v14
    = valueArr (m ((c : Thread nD τ).loc main_arg2)) (m ((c : Thread nD τ).loc main_arg4)) := by
  show StableHlo.after (List.flatten [hostOps0, hostOps0_1, hostOps0_2]) _ _ = _
  simp only [hostOps0, hostOps0_1, hostOps0_2, List.flatten_cons, List.flatten_nil, List.append_nil, List.cons_append,
    List.nil_append]
  after_results
  rfl

end

/-! ## Read at an index -/

variable (q : FVec Ideal S4x8192x12x64 .f32) (k v : FVec Ideal S4x8192x4x64 .f32) (kc vc : FVec Ideal S4x256x4x64 .f32)

theorem contextFirst_apply (b j : Fin 4) (κ : ℕ) (d : Fin 64) :
    contextFirst k kc (ix4 b (keyAt κ) j d) = joined k kc b j (rotate κ) d := by
  have h : ∀ κ : Fin 8448, contextFirst k kc (ix4 b κ j d)
      = if h : κ.val < 256 then kc (ix4 b ⟨κ.val, h⟩ j d) else k (ix4 b ⟨κ.val - 256, by omega⟩ j d) := fun κ => by
    pointwise [contextFirst]
  rw [h]
  unfold joined
  have hk : (keyAt κ).val = κ % 8448 := rfl
  have hr : (rotate κ).val = (κ + 8192) % 8448 := rfl
  by_cases hc : (keyAt κ).val < 256
  · rw [dif_pos hc, dif_neg (by rw [hr]; omega)]
    exact congrArg (fun a => kc (ix4 b a j d)) (Fin.ext (by show (keyAt κ).val = (rotate κ).val - 8192; omega))
  · rw [dif_neg hc, dif_pos (by rw [hr]; omega)]
    exact congrArg (fun a => k (ix4 b a j d)) (Fin.ext (by show (keyAt κ).val - 256 = (rotate κ).val; omega))

theorem keyArr_apply (b j : Fin 4) (κ : ℕ) (d : Fin 64) :
    keyArr k kc (ix4 b j (keyAt κ) d) = joined k kc b j (rotate κ) d := by
  rw [← contextFirst_apply]
  unfold keyArr
  generalize contextFirst k kc = w
  generalize keyAt κ = κ
  pointwise

/-- Row `64 j + d` of the values' rows. -/
def valueRow (j : Fin 4) (d : Fin 64) : Fin 256 := ⟨64 * j.val + d.val, by omega⟩

theorem mergeHeads_apply (w : FVec Ideal S4x8448x4x64 .f32) (b j : Fin 4) (d : Fin 64) (κ : Fin 8448) :
    shapeCast S4x8448x256 w shapeCasts_S4x8448x4x64_S4x8448x256 (ix3 b κ (valueRow j d)) = w (ix4 b κ j d) := by
  refine shapeCast_apply _ _ _ _ ?_
  rw [Shape.rowMajor_val_four, Shape.rowMajor_val_three]
  show ((b.val * 8448 + κ.val) * 4 + j.val) * 64 + d.val = (b.val * 8448 + κ.val) * 256 + (64 * j.val + d.val)
  omega

theorem valueArr_apply (b j : Fin 4) (d : Fin 64) (κ : ℕ) :
    valueArr v vc (ix3 b (valueRow j d) (keyAt κ)) = joined v vc b j (rotate κ) d := by
  have h : ∀ (w : FVec Ideal S4x8448x256 .f32) (r : Fin 256) (κ : Fin 8448), (truncf .bf16 (transpose S4x256x8448 [0, 2, 1] w
      transposes_S4x8448x256_S4x256x8448_0_2_1) bitsLt_bf16_f32 : FVec Ideal S4x256x8448 .bf16) (ix3 b r κ) = w (ix3 b κ r) :=
    fun w r κ => by pointwise
  exact (h _ _ _).trans ((mergeHeads_apply _ b j d _).trans (contextFirst_apply v vc b j κ d))

theorem scale_value : scaleArr Ideal ix0 = ((1 / 8 * (1 / Real.log 2) : ℝ) : EReal) := by
  show Ideal.div (Ideal.ofBits .f32 0x3E000000#32) (Ideal.log (Ideal.ofBits .f32 0x40000000#32)) = _
  have h8 : Ideal.ofBits .f32 0x3E000000#32 = ((1 / 8 : ℝ) : EReal) := by
    simp [Ideal.ofBits, Ideal.ieee]
    rw [← EReal.coe_mul]; norm_num
  have h2 : Ideal.ofBits .f32 0x40000000#32 = ((2 : ℝ) : EReal) := by
    simp [Ideal.ofBits, Ideal.ieee]
    rw [← EReal.coe_mul]; norm_num
  rw [h8, h2]
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  rw [hl, Ideal.div_coe (Real.log_pos (by norm_num)).ne', ← EReal.coe_mul]

/-- Row `192 j + 64 g + e` of the queries' rows. -/
def queryRow (j : Fin 4) (g : Fin 3) (e : Fin 64) : Fin 768 := ⟨192 * j.val + (64 * g.val + e.val), by omega⟩

/-- Query `x`'s column. -/
def queryCol (x : Fin 8192) : Fin 8448 := ⟨256 + x.val, by omega⟩

theorem queryArr_apply (b j : Fin 4) (g : Fin 3) (e : Fin 64) (x : Fin 8192) :
    queryArr q (ix3 b (queryRow j g e) (queryCol x))
      = q (ix4 b x (headAt j g) e) * ((1 / 8 * (1 / Real.log 2) : ℝ) : EReal) := by
  have h : ∀ (r : Fin 768) (κ : Fin 8448), queryArr q (ix3 b r κ)
      = if h : 256 ≤ κ.val ∧ κ.val - 256 < 8192 then
          q (ix4 b ⟨κ.val - 256, h.2⟩ ⟨r.val / 64, by omega⟩ ⟨r.val % 64, by omega⟩) * scaleArr Ideal ix0
        else FloatOps.sitofp (F := Ideal) FTy.f32 0#32 := fun r κ => by
    pointwise [queryArr]
  have hx : (queryCol x).val = 256 + x.val := rfl
  have hr : (queryRow j g e).val = 192 * j.val + (64 * g.val + e.val) := rfl
  rw [h, dif_pos (by rw [hx]; omega), scale_value]
  have e1 : (⟨(queryCol x).val - 256, by omega⟩ : Fin 8192) = x := Fin.ext (by show (queryCol x).val - 256 = x.val; omega)
  have e2 : (⟨(queryRow j g e).val / 64, by omega⟩ : Fin 12) = headAt j g :=
    Fin.ext (by show (queryRow j g e).val / 64 = 3 * j.val + g.val; omega)
  have e3 : (⟨(queryRow j g e).val % 64, by omega⟩ : Fin 64) = e :=
    Fin.ext (by show (queryRow j g e).val % 64 = e.val; omega)
  rw [e1, e2, e3]

theorem coe_term {a b : EReal} (ha : a = (a.toReal : EReal)) (hb : b = (b.toReal : EReal)) (c d : ℝ) :
    a * (b * ((c * d : ℝ) : EReal)) = ((a.toReal * b.toReal * c * d : ℝ) : EReal) := by
  generalize a.toReal = x at ha
  generalize b.toReal = y at hb
  rw [ha, hb, ← EReal.coe_mul, ← EReal.coe_mul]
  exact congrArg _ (by ring)

/-- The kernel's scores: those of the formula, over the logarithm of two. -/
theorem kernel_score (hq : Finite q) (hk : Finite k) (hkc : Finite kc) (b j : Fin 4) (g : Fin 3) (x : Fin 8192) (κ : ℕ) :
    ∑ e : Fin 64, keyArr k kc (ix4 b j (keyAt κ) e) * queryArr q (ix3 b (queryRow j g e) (queryCol x))
      = ((score q k kc b j g x (rotate κ) * (1 / Real.log 2) : ℝ) : EReal) := by
  unfold score
  rw [Finset.sum_mul, Finset.sum_mul, coe_sum]
  refine Finset.sum_congr rfl fun e _ => ?_
  rw [keyArr_apply, queryArr_apply]
  exact coe_term (joined_real k kc hk hkc b j (rotate κ) e) (hq (ix4 b x (headAt j g) e)) (1 / 8) (1 / Real.log 2)

end Cert.Attn

end
-- ==== Proof.Array.lean ====
module
public import proofs.«01_k».proof.Proof.HostValue

/-! # The output array

At grid point `t` the kernel works on batch `t / 128`, key head `t / 32 % 4` and the 256 queries from `256 (t % 32)` on.
Every element of the output lies in some point's block, and what the point leaves there is the formula `attention`. -/

@[expose] public section
noncomputable section
namespace Cert.Attn
open Cert.KernelIdeal Cert.KernelIdeal.Gen Cert.KernelIdeal.Value Idealize.ShloMosaic Idealize.ShloMosaic.TcCoe Idealize.SL.Sem
open Idealize.ShloMosaic.Pointwise

/-! ## Where the blocks lie -/

theorem index_queries : ∀ t : Fin grid0.N, win0_0.index t (0 : Fin 3) = t.val / 128 ∧ win0_0.index t (1 : Fin 3) = t.val / 32 % 4
    ∧ win0_0.index t (2 : Fin 3) = t.val % 32 + 1 := by decide +kernel

theorem index_keys : ∀ t : Fin grid0.N, win0_1.index t (0 : Fin 4) = t.val / 128 ∧ win0_1.index t (1 : Fin 4) = t.val / 32 % 4
    ∧ win0_1.index t (2 : Fin 4) = 0 ∧ win0_1.index t (3 : Fin 4) = 0 := by decide +kernel

theorem index_values : ∀ t : Fin grid0.N, win0_2.index t (0 : Fin 3) = t.val / 128 ∧ win0_2.index t (1 : Fin 3) = t.val / 32 % 4
    ∧ win0_2.index t (2 : Fin 3) = 0 := by decide +kernel

theorem index_out : ∀ t : Fin grid0.N, win0_3.index t (0 : Fin 3) = t.val / 128 ∧ win0_3.index t (1 : Fin 3) = t.val / 32 % 4
    ∧ win0_3.index t (2 : Fin 3) = t.val % 32 := by decide +kernel

theorem points (t : Fin cfg0.N) : t.val < 512 := by
  have h := t.isLt
  have e : cfg0.N = 512 := N_0
  omega

/-- Point `t`'s batch. -/
def batchOf (t : Fin cfg0.N) : Fin 4 := ⟨t.val / 128, by have := points t; omega⟩

/-- Point `t`'s key head. -/
def headOf (t : Fin cfg0.N) : Fin 4 := ⟨t.val / 32 % 4, by omega⟩

/-- Query `y` of point `t`'s block. -/
def queryOf (t : Fin cfg0.N) (y : Fin 256) : Fin 8192 := ⟨256 * (t.val % 32) + y.val, by omega⟩

section
variable {F : FTy → Type} [FloatOps F] (m : (ℓ : Loc nD τ sig) → Buf (Elt F) ℓ) (c : Dev nD) (t : Fin cfg0.N)

theorem queries_block (g : Fin 3) (e : Fin 64) (y : Fin 256) :
    (iblk m c 0 t : Vec F S1x192x256 .bf16) (ix3 0 (rowAt g e) y)
      = (V m c main_v7 : FVec F S4x768x8448 .bf16) (ix3 (batchOf t) (queryRow (headOf t) g e) (queryCol (queryOf t y))) := by
  show (V m c main_v7 : FVec F S4x768x8448 .bf16) (((cfg0.win 0).blk t).view.emb (ix3 0 (rowAt g e) y)) = _
  obtain ⟨e0, e1, e2⟩ := index_queries t
  congr 1
  funext a
  refine Fin.ext ?_
  match a with
  | ⟨0, _⟩ => show win0_0.index t (0 : Fin 3) * 1 + 1 * 0 = t.val / 128; omega
  | ⟨1, _⟩ =>
    show win0_0.index t (1 : Fin 3) * 192 + 1 * (64 * g.val + e.val) = 192 * (t.val / 32 % 4) + (64 * g.val + e.val); omega
  | ⟨2, _⟩ => show win0_0.index t (2 : Fin 3) * 256 + 1 * y.val = 256 + (256 * (t.val % 32) + y.val); omega

theorem keys_block (κ : Fin 8448) (e : Fin 64) :
    (iblk m c 1 t : Vec F S1x1x8448x64 .bf16) (ix4 0 0 κ e)
      = (V m c main_v10 : FVec F S4x4x8448x64 .bf16) (ix4 (batchOf t) (headOf t) κ e) := by
  show (V m c main_v10 : FVec F S4x4x8448x64 .bf16) (((cfg0.win 1).blk t).view.emb (ix4 0 0 κ e)) = _
  obtain ⟨e0, e1, e2, e3⟩ := index_keys t
  congr 1
  funext a
  refine Fin.ext ?_
  match a with
  | ⟨0, _⟩ => show win0_1.index t (0 : Fin 4) * 1 + 1 * 0 = t.val / 128; omega
  | ⟨1, _⟩ => show win0_1.index t (1 : Fin 4) * 1 + 1 * 0 = t.val / 32 % 4; omega
  | ⟨2, _⟩ => show win0_1.index t (2 : Fin 4) * 8448 + 1 * κ.val = κ.val; omega
  | ⟨3, _⟩ => show win0_1.index t (3 : Fin 4) * 64 + 1 * e.val = e.val; omega

theorem values_block (d : Fin 64) (κ : Fin 8448) :
    (iblk m c 2 t : Vec F S1x64x8448 .bf16) (ix3 0 d κ)
      = (V m c main_v14 : FVec F S4x256x8448 .bf16) (ix3 (batchOf t) (valueRow (headOf t) d) κ) := by
  show (V m c main_v14 : FVec F S4x256x8448 .bf16) (((cfg0.win 2).blk t).view.emb (ix3 0 d κ)) = _
  obtain ⟨e0, e1, e2⟩ := index_values t
  congr 1
  funext a
  refine Fin.ext ?_
  match a with
  | ⟨0, _⟩ => show win0_2.index t (0 : Fin 3) * 1 + 1 * 0 = t.val / 128; omega
  | ⟨1, _⟩ => show win0_2.index t (1 : Fin 3) * 64 + 1 * d.val = 64 * (t.val / 32 % 4) + d.val; omega
  | ⟨2, _⟩ => show win0_2.index t (2 : Fin 3) * 8448 + 1 * κ.val = κ.val; omega

theorem out_block (g : Fin 3) (d : Fin 64) (y : Fin 256) :
    (((cfg0.win 3).blk t).view.emb (ix3 0 (rowAt g d) y) : S4x768x8192.Idx)
      = ix3 (batchOf t) (queryRow (headOf t) g d) (queryOf t y) := by
  obtain ⟨e0, e1, e2⟩ := index_out t
  funext a
  refine Fin.ext ?_
  match a with
  | ⟨0, _⟩ => show win0_3.index t (0 : Fin 3) * 1 + 1 * 0 = t.val / 128; omega
  | ⟨1, _⟩ =>
    show win0_3.index t (1 : Fin 3) * 192 + 1 * (64 * g.val + d.val) = 192 * (t.val / 32 % 4) + (64 * g.val + d.val); omega
  | ⟨2, _⟩ => show win0_3.index t (2 : Fin 3) * 256 + 1 * y.val = 256 * (t.val % 32) + y.val; omega

end

/-! ## The formula over the array -/

/-- The key head of output row `r`, -/
def keyHead (r : Fin 768) : Fin 4 := ⟨r.val / 192, by omega⟩
/-- its query head among that key head's three, -/
def groupOf (r : Fin 768) : Fin 3 := ⟨r.val / 64 % 3, by omega⟩
/-- and its dimension. -/
def dimOf (r : Fin 768) : Fin 64 := ⟨r.val % 64, by omega⟩

theorem keyHead_row (j : Fin 4) (g : Fin 3) (d : Fin 64) : keyHead (queryRow j g d) = j :=
  Fin.ext (by show (192 * j.val + (64 * g.val + d.val)) / 192 = j.val; omega)

theorem groupOf_row (j : Fin 4) (g : Fin 3) (d : Fin 64) : groupOf (queryRow j g d) = g :=
  Fin.ext (by show (192 * j.val + (64 * g.val + d.val)) / 64 % 3 = g.val; omega)

theorem dimOf_row (j : Fin 4) (g : Fin 3) (d : Fin 64) : dimOf (queryRow j g d) = d :=
  Fin.ext (by show (192 * j.val + (64 * g.val + d.val)) % 64 = d.val; omega)

/-- The attention of all heads, transposed: heads and dimensions by rows, queries by columns. -/
def attentionArr (q : S4x8192x12x64.Idx → EReal) (k v : S4x8192x4x64.Idx → EReal) (kc vc : S4x256x4x64.Idx → EReal) :
    S4x768x8192.Idx → EReal :=
  fun i => attention q k v kc vc (i 0) (keyHead (i 1)) (groupOf (i 1)) (dimOf (i 1)) (i 2)

/-- An index of the output block is a group's row and a query. -/
theorem eq_row (y : S1x192x256.Idx) : y = ix3 0 (rowAt ⟨(y 1).val / 64, by have h : (y 1).val < 192 := (y 1).isLt; omega⟩
    ⟨(y 1).val % 64, by omega⟩) (y 2) := by
  funext a
  match a with
  | ⟨0, _⟩ => exact Subsingleton.elim (α := Fin 1) _ _
  | ⟨1, _⟩ => refine Fin.ext ?_; show (y 1).val = 64 * ((y 1).val / 64) + (y 1).val % 64; omega
  | ⟨2, _⟩ => rfl

/-- Blocks that hold queries, keys and values of one batch and key head give the formula. -/
theorem block_formula (q : FVec Ideal S4x8192x12x64 .f32) (k v : FVec Ideal S4x8192x4x64 .f32)
    (kc vc : FVec Ideal S4x256x4x64 .f32) (hq : Finite q) (hk : Finite k) (hkc : Finite kc) (b j : Fin 4)
    (x0 : Vec Ideal S1x192x256 .bf16) (x1 : Vec Ideal S1x1x8448x64 .bf16) (x2 : Vec Ideal S1x64x8448 .bf16)
    (g : Fin 3) (d : Fin 64) (y : Fin 256) (x : Fin 8192)
    (h0 : ∀ e, x0 (ix3 0 (rowAt g e) y) = queryArr q (ix3 b (queryRow j g e) (queryCol x)))
    (h1 : ∀ κ e, x1 (ix4 0 0 κ e) = keyArr k kc (ix4 b j κ e))
    (h2 : ∀ κ, x2 (ix3 0 d κ) = valueArr v vc (ix3 b (valueRow j d) κ)) :
    blockVal x0 x1 x2 (ix3 0 (rowAt g d) y) = attention q k v kc vc b j g d x := by
  rw [blockVal_apply]
  refine (groupVal_apply _ _ _ g y (fun κ => score q k kc b j g x (rotate κ) * (1 / Real.log 2)) d fun κ => ?_).trans ?_
  · rw [← kernel_score q k kc hq hk hkc]
    exact Finset.sum_congr rfl fun e _ => by rw [h0, h1]
  · refine (Finset.sum_congr rfl fun κ _ => ?_).trans (rotate_sum (fun κ => joined v vc b j κ d) _)
    rw [h2, valueArr_apply]

variable (m : (ℓ : Loc nD τ sig) → Buf (Elt Ideal) ℓ) (c : Dev nD)

/-- What point `t` leaves of its block is the formula. -/
theorem block_value (hq : Finite (m ((c : Thread nD τ).loc main_arg0))) (hk : Finite (m ((c : Thread nD τ).loc main_arg1)))
    (hkc : Finite (m ((c : Thread nD τ).loc main_arg3))) (t : Fin cfg0.N) (g : Fin 3) (d : Fin 64) (y : Fin 256) :
    (outsAt0 m c t : Vec Ideal S1x192x256 .bf16) (ix3 0 (rowAt g d) y)
      = attention (m ((c : Thread nD τ).loc main_arg0)) (m ((c : Thread nD τ).loc main_arg1)) (m ((c : Thread nD τ).loc main_arg2))
          (m ((c : Thread nD τ).loc main_arg3)) (m ((c : Thread nD τ).loc main_arg4)) (batchOf t) (headOf t) g d (queryOf t y) :=
  (congrFun (outsAt_eq m c t) _).trans (block_formula _ _ _ _ _ hq hk hkc (batchOf t) (headOf t) _ _ _ g d y (queryOf t y)
    (fun e => (queries_block m c t g e y).trans (congrFun (V_queries m c) _))
    (fun κ e => (keys_block m c t κ e).trans (congrFun (V_keys m c) _))
    (fun κ => (values_block m c t d κ).trans (congrFun (V_values m c) _)))

/-- What point `t` writes back, at an entry of its block, is the formula there. -/
theorem block_entry (hq : Finite (m ((c : Thread nD τ).loc main_arg0))) (hk : Finite (m ((c : Thread nD τ).loc main_arg1)))
    (hkc : Finite (m ((c : Thread nD τ).loc main_arg3))) (t : Fin cfg0.N) (y : S1x192x256.Idx) :
    (outsAt0 m c t : Vec Ideal S1x192x256 .bf16) y
      = attentionArr (m ((c : Thread nD τ).loc main_arg0)) (m ((c : Thread nD τ).loc main_arg1))
          (m ((c : Thread nD τ).loc main_arg2)) (m ((c : Thread nD τ).loc main_arg3)) (m ((c : Thread nD τ).loc main_arg4))
          (((cfg0.win 3).blk t).view.emb y) := by
  obtain ⟨g, d, z, rfl⟩ : ∃ g d z, y = ix3 0 (rowAt g d) z := ⟨_, _, _, eq_row y⟩
  refine (block_value m c hq hk hkc t g d z).trans (Eq.symm ?_)
  refine (congrArg (attentionArr _ _ _ _ _) (out_block t g d z)).trans ?_
  show attention _ _ _ _ _ (batchOf t) (keyHead (queryRow (headOf t) g d)) (groupOf (queryRow (headOf t) g d))
    (dimOf (queryRow (headOf t) g d)) (queryOf t z) = _
  rw [keyHead_row, groupOf_row, dimOf_row]

/-- The point whose block holds entry `(b, r, x)`. -/
def pointOf (b : Fin 4) (r : Fin 768) (x : Fin 8192) : Fin cfg0.N :=
  ⟨128 * b.val + 32 * (r.val / 192) + x.val / 256, by have e : cfg0.N = 512 := N_0; omega⟩

/-- Every entry of the output array lies in one point's block. -/
theorem covered (i : S4x768x8192.Idx) : ∃ t : Fin cfg0.N, ∃ y : S1x192x256.Idx, ((cfg0.win 3).blk t).view.emb y = i := by
  obtain ⟨b, r, x, rfl⟩ : ∃ (b : Fin 4) (r : Fin 768) (x : Fin 8192), i = ix3 b r x := ⟨i 0, i 1, i 2, eq_ix3 i⟩
  refine ⟨pointOf b r x, ix3 0 (rowAt (groupOf r) (dimOf r)) ⟨x.val % 256, by omega⟩, (out_block _ _ _ _).trans ?_⟩
  funext a
  refine Fin.ext ?_
  match a with
  | ⟨0, _⟩ => show (128 * b.val + 32 * (r.val / 192) + x.val / 256) / 128 = b.val; omega
  | ⟨1, _⟩ =>
    show 192 * ((128 * b.val + 32 * (r.val / 192) + x.val / 256) / 32 % 4) + (64 * (r.val / 64 % 3) + r.val % 64) = r.val; omega
  | ⟨2, _⟩ => show 256 * ((128 * b.val + 32 * (r.val / 192) + x.val / 256) % 32) + x.val % 256 = x.val; omega

/-- After the run the output array is the formula. -/
theorem final_out (hq : Finite (m ((c : Thread nD τ).loc main_arg0))) (hk : Finite (m ((c : Thread nD τ).loc main_arg1)))
    (hkc : Finite (m ((c : Thread nD τ).loc main_arg3))) :
    (dats m 0 c).arrAt 3 cfg0.N = attentionArr (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_emb 3 _ (fun t _ y => ?_) fun i => ?_
  · exact (congrFun (after0_3 m c t) y).trans (block_entry m c hq hk hkc t y)
  · obtain ⟨t, y, h⟩ := covered i
    exact ⟨t, flush0_3 t, h ▸ View.emb_mem_set _ y⟩

end Cert.Attn

end
-- ==== Proof.RefValue.lean ====
module
public import proofs.«01_k».proof.Proof.Array
public import proofs.«01_k».proof.Proof.Gen.ReferenceIdeal.Read

/-! # The reference's result

The reference's operations, read one by one at an index: its result is the formula `attention` too. -/

@[expose] public section
noncomputable section
namespace Cert.AttnRef
open Cert.ReferenceIdeal Cert.ReferenceIdeal.Read Cert.Attn Idealize.ShloMosaic Idealize.ShloMosaic.TcCoe
open Idealize.ShloMosaic.Pointwise

variable (q : FVec Ideal S4x8192x12x64 .f32) (k v : FVec Ideal S4x8192x4x64 .f32) (kc vc : FVec Ideal S4x256x4x64 .f32)

theorem keys_apply (b j : Fin 4) (κ : Fin 8448) (d : Fin 64) :
    val_main_v0 (F := Ideal) k kc (ix4 b κ j d) = joined k kc b j κ d := by
  pointwise [val_main_v0]
  rfl

theorem values_apply (b j : Fin 4) (κ : Fin 8448) (d : Fin 64) :
    val_main_v1 (F := Ideal) v vc (ix4 b κ j d) = joined v vc b j κ d := keys_apply v vc b j κ d

theorem queries_apply (b j : Fin 4) (g : Fin 3) (x : Fin 8192) (e : Fin 64) :
    val_main_v2 (F := Ideal) q (ix5 b x j g e) = q (ix4 b x (headAt j g) e) := by
  unfold val_main_v2
  refine shapeCast_apply _ _ _ _ ?_
  rw [Shape.rowMajor_val_five, Shape.rowMajor_val_four]
  show ((b.val * 8192 + x.val) * 12 + (3 * j.val + g.val)) * 64 + e.val
    = (((b.val * 8192 + x.val) * 4 + j.val) * 3 + g.val) * 64 + e.val
  omega

theorem eighth : Ideal.ofBits .f32 0x3E000000#32 = ((1 / 8 : ℝ) : EReal) := by
  simp [Ideal.ofBits, Ideal.ieee]
  rw [← EReal.coe_mul]; norm_num

/-- The scaled scores. -/
theorem scores_apply (hq : Finite q) (hk : Finite k) (hkc : Finite kc) (b j : Fin 4) (g : Fin 3) (x : Fin 8192)
    (κ : Fin 8448) : val_main_v6 (F := Ideal) q k kc (ix5 b j g x κ) = (score q k kc b j g x κ : EReal) := by
  rw [val_main_v6_apply, val_main_v4_apply, val_main_v3_apply, val_main_v5_apply, val_main_cst_apply]
  show (∑ e : Fin 64, _) * Ideal.ofBits .f32 0x3E000000#32 = _
  rw [eighth]
  have h : ∀ e : Fin 64, val_main_v0 (F := Ideal) k kc (lidx_main_v3 (idx_main_v4 (ix5 b j g x κ)) e)
      * val_main_v2 (F := Ideal) q (ridx_main_v3 (idx_main_v4 (ix5 b j g x κ)) e)
      = (((joined k kc b j κ e).toReal * (q (ix4 b x (headAt j g) e)).toReal : ℝ) : EReal) := fun e => by
    have e1 : lidx_main_v3 (idx_main_v4 (ix5 b j g x κ)) e = ix4 b κ j e := by
      funext a
      match a with
      | ⟨0, _⟩ => rfl
      | ⟨1, _⟩ => rfl
      | ⟨2, _⟩ => rfl
      | ⟨3, _⟩ => rfl
    have e2 : ridx_main_v3 (idx_main_v4 (ix5 b j g x κ)) e = ix5 b x j g e := by
      funext a
      match a with
      | ⟨0, _⟩ => rfl
      | ⟨1, _⟩ => rfl
      | ⟨2, _⟩ => rfl
      | ⟨3, _⟩ => rfl
      | ⟨4, _⟩ => rfl
    rw [e1, e2, keys_apply, queries_apply, EReal.coe_mul]
    exact congrArg₂ (· * ·) (joined_real k kc hk hkc b j κ e) (hq _)
  rw [Finset.sum_congr rfl fun e _ => h e, ← coe_sum, ← EReal.coe_mul]
  rfl

/-- The largest of a real and a list of reals. -/
theorem foldl_max_real {β : Type} (f : β → EReal) (hf : ∀ n, ∃ r : ℝ, f n = r) (l : List β) :
    ∀ a : ℝ, ∃ r : ℝ, l.foldl (fun r n => max r (f n)) (a : EReal) = r := by
  induction l with
  | nil => exact fun a => ⟨a, rfl⟩
  | cons n l ih =>
    intro a
    obtain ⟨r, hr⟩ := hf n
    obtain ⟨r', hr'⟩ : ∃ r' : ℝ, max (a : EReal) (f n) = r' := by
      rcases max_choice (a : EReal) (f n) with e | e
      · exact ⟨a, e⟩
      · exact ⟨r, e.trans hr⟩
    rw [List.foldl_cons, hr']
    exact ih r'

/-- A maximum along an axis, from minus infinity, is a real where one of the entries it runs over is named and all are
reals. -/
theorem reduce_real {s t u : Shape} {axes : List (Fin s.rank)} (h : s.ReducesTo axes t) (hu : 0 < u.numel)
    (x : FVec Ideal s .f32) (v : FVec Ideal u .f32) (hv : ∀ i, v i = (⊥ : EReal)) (hx : ∀ i, ∃ r : ℝ, x i = (r : EReal))
    (i : t.Idx) (j : s.Idx) (hj : h.drop j = i) :
    ∃ r : ℝ, Host.reduce FloatOps.maximumf x v h hu i = (r : EReal) := by
  show ∃ r : ℝ, ((List.finRange s.numel).filter fun n => h.drop (s.rowMajor.symm n) = i).foldl
    (fun (r : EReal) n => max r (x (s.rowMajor.symm n))) (v (Shape.Idx.first hu)) = r
  rw [hv]
  have hm : s.rowMajor j ∈ (List.finRange s.numel).filter fun n => h.drop (s.rowMajor.symm n) = i := by
    rw [List.mem_filter]
    exact ⟨List.mem_finRange _, by rw [Equiv.symm_apply_apply]; exact decide_eq_true hj⟩
  revert hm
  generalize ((List.finRange s.numel).filter fun n => h.drop (s.rowMajor.symm n) = i) = l
  intro hm
  match l with
  | [] => exact absurd hm List.not_mem_nil
  | n :: l =>
    obtain ⟨r, hr⟩ := hx (s.rowMajor.symm n)
    obtain ⟨r', hr'⟩ := foldl_max_real (fun n => x (s.rowMajor.symm n)) (fun n => hx _) l r
    refine ⟨r', ?_⟩
    rw [List.foldl_cons, hr, max_eq_right bot_le]
    exact hr'

/-- The largest score is a real. -/
theorem max_real (hq : Finite q) (hk : Finite k) (hkc : Finite kc) (b j : Fin 4) (g : Fin 3) (x : Fin 8192) :
    ∃ r : ℝ, val_main_v9 (F := Ideal) q k kc (ix4 b j g x) = r := by
  obtain ⟨κ₀⟩ : Nonempty (Fin 8448) := ⟨⟨0, by decide⟩⟩
  obtain ⟨r, hr⟩ : ∃ r : ℝ, val_main_v7 (F := Ideal) q k kc (ix4 b j g x) = r := by
    refine reduce_real _ _ _ _ (fun _ => negInf) (fun i => ?_) (ix4 b j g x) (ix5 b j g x κ₀) ?_
    · obtain ⟨b, j, g, x, κ, rfl⟩ : ∃ b j g x κ, i = ix5 b j g x κ := ⟨_, _, _, _, _, eq_ix5 i⟩
      exact ⟨_, scores_apply q k kc hq hk hkc b j g x κ⟩
    · funext a
      match a with
      | ⟨0, _⟩ => rfl
      | ⟨1, _⟩ => rfl
      | ⟨2, _⟩ => rfl
      | ⟨3, _⟩ => rfl
  refine ⟨r, ?_⟩
  rw [val_main_v9_apply, hr, val_main_v8_apply, val_main_cst_1_apply]
  show max (Ideal.ofBits .f32 0xFF800000#32) (r : EReal) = _
  rw [negInf, max_eq_right bot_le]

/-- The softmax weights. -/
theorem weights_apply (hq : Finite q) (hk : Finite k) (hkc : Finite kc) (b j : Fin 4) (g : Fin 3) (x : Fin 8192)
    (κ : Fin 8448) :
    val_main_v17 (F := Ideal) q k kc (ix5 b j g x κ) = (weightE (score q k kc b j g x) κ : EReal) := by
  obtain ⟨r, hr⟩ := max_real q k kc hq hk hkc b j g x
  have he : ∀ κ, val_main_v13 (F := Ideal) q k kc (ix5 b j g x κ)
      = Ideal.exp ((score q k kc b j g x κ : EReal) - (r : EReal)) := fun κ => by
    have e : idx_main_v10 (idx_main_v11 (ix5 b j g x κ)) = ix4 b j g x := by
      funext a
      match a with
      | ⟨0, _⟩ => rfl
      | ⟨1, _⟩ => rfl
      | ⟨2, _⟩ => rfl
      | ⟨3, _⟩ => rfl
    rw [val_main_v13_apply, val_main_v12_apply, val_main_v11_apply, val_main_v10_apply, e, hr,
      scores_apply q k kc hq hk hkc]
    rfl
  have hs : val_main_v16 (F := Ideal) q k kc (ix5 b j g x κ)
      = ∑ κ, Ideal.exp ((score q k kc b j g x κ : EReal) - (r : EReal)) := by
    rw [val_main_v16_apply, val_main_v15_apply, val_main_v14_apply, val_main_cst_2_apply]
    have e0 : FloatOps.ofBits (F := Ideal) .f32 0x00000000#32 = (0 : EReal) := Ideal.ofBits_zero_f32
    rw [e0, zero_add]
    refine Finset.sum_congr rfl fun κ' _ => (congrArg _ ?_).trans (he κ')
    funext a
    match a with
    | ⟨0, _⟩ => rfl
    | ⟨1, _⟩ => rfl
    | ⟨2, _⟩ => rfl
    | ⟨3, _⟩ => rfl
    | ⟨4, _⟩ => rfl
  rw [val_main_v17_apply, he, hs]
  exact plain_softmax (by decide) (score q k kc b j g x) r κ

/-- The weighted values. -/
theorem weighted_apply (hq : Finite q) (hk : Finite k) (hkc : Finite kc) (b j : Fin 4) (g : Fin 3) (d : Fin 64)
    (x : Fin 8192) : val_main_v18 (F := Ideal) q k v kc vc (ix5 b j d g x) = attention q k v kc vc b j g d x := by
  rw [val_main_v18_apply]
  refine Finset.sum_congr rfl fun κ _ => ?_
  have e1 : lidx_main_v18 (ix5 b j d g x) κ = ix4 b κ j d := by
    funext a
    match a with
    | ⟨0, _⟩ => rfl
    | ⟨1, _⟩ => rfl
    | ⟨2, _⟩ => rfl
    | ⟨3, _⟩ => rfl
  have e2 : ridx_main_v18 (ix5 b j d g x) κ = ix5 b j g x κ := by
    funext a
    match a with
    | ⟨0, _⟩ => rfl
    | ⟨1, _⟩ => rfl
    | ⟨2, _⟩ => rfl
    | ⟨3, _⟩ => rfl
    | ⟨4, _⟩ => rfl
  rw [e1, e2, values_apply, weights_apply q k kc hq hk hkc]

/-- The heads set side by side and the result transposed. -/
theorem result_eq (hq : Finite q) (hk : Finite k) (hkc : Finite kc) :
    val_main_v22 (F := Ideal) q k v kc vc = attentionArr q k v kc vc := by
  funext i
  obtain ⟨b, r, x, rfl⟩ : ∃ (b : Fin 4) (r : Fin 768) (x : Fin 8192), i = ix3 b r x := ⟨i 0, i 1, i 2, eq_ix3 i⟩
  show val_main_v21 (F := Ideal) q k v kc vc (ix3 b r x) = attention q k v kc vc b (keyHead r) (groupOf r) (dimOf r) x
  rw [val_main_v21_apply, val_main_v20_apply, val_main_v19_apply, ← weighted_apply q k v kc vc hq hk hkc]
  refine congrArg _ ?_
  funext a
  refine Fin.ext ?_
  match a with
  | ⟨0, _⟩ => show ((b.val * 8192 + x.val) * 768 + r.val) / 6291456 = b.val; omega
  | ⟨1, _⟩ => show ((b.val * 8192 + x.val) * 768 + r.val) / 192 % 4 = r.val / 192; omega
  | ⟨2, _⟩ => show ((b.val * 8192 + x.val) * 768 + r.val) % 64 = r.val % 64; omega
  | ⟨3, _⟩ => show ((b.val * 8192 + x.val) * 768 + r.val) / 64 % 3 = r.val / 64 % 3; omega
  | ⟨4, _⟩ => show ((b.val * 8192 + x.val) * 768 + r.val) / 768 % 8192 = x.val; omega

end Cert.AttnRef

end
-- ==== Proof.RowNorm.lean ====
module
public import Idealize.ShloMosaic.PureOps.Ideal
public import Idealize.ShloMosaic.Lib.Pointwise

/-! # A row's modulated norm and its projection

The formula for one row of activations: divided by the root of its mean square, scaled, modulated, and multiplied into a
column of weights. The rows are the context's and then the latents'; each has its own modulation. -/

@[expose] public section
noncomputable section
namespace Cert.RowNorm
open Idealize.ShloMosaic Idealize.ShloMosaic.Pointwise

/-- The number of features, 1024. -/
def width : EReal := Ideal.ofBits .f32 0x44800000#32

/-- What is added to the mean square: the single-precision number next to a millionth. -/
def eps : EReal := Ideal.ofBits .f32 0x358637BD#32

/-- The row over the root of its mean square, scaled, then modulated by a scale and a shift. -/
def modNorm (row g sc sh : Fin 1024 → EReal) (k : Fin 1024) : EReal :=
  row k * Ideal.rsqrt (Ideal.div (∑ l, row l * row l) width + eps) * g k * (1 + sc k) + sh k

/-- Row `r` of a batch: the context's rows stand before the latents'. -/
def rowAt (x : (⟨3, ![4, 8192, 1024]⟩ : Shape).Idx → EReal) (ctx : (⟨3, ![4, 256, 1024]⟩ : Shape).Idx → EReal) (b : Fin 4)
    (r : Fin 8448) (l : Fin 1024) : EReal :=
  if h : r.val < 256 then ctx (ix3 b ⟨r.val, h⟩ l) else x (ix3 b ⟨r.val - 256, by omega⟩ l)

/-- Entry `l` of the `j`th of the six modulation vectors that lie one after the other. -/
def sixth (j : Fin 6) (l : Fin 1024) : Fin 6144 := ⟨1024 * j.val + l.val, by omega⟩

theorem sixth_zero (l : Fin 1024) : sixth 0 l = ⟨l.val, by omega⟩ := Fin.ext (show 1024 * 0 + l.val = l.val by omega)

/-- Row `r`'s `j`th modulation vector: all context rows have the same, a batch's latents have their own. -/
def modAt (mod : (⟨2, ![4, 6144]⟩ : Shape).Idx → EReal) (modc : (⟨1, ![6144]⟩ : Shape).Idx → EReal) (b : Fin 4) (r : Fin 8448)
    (j : Fin 6) (l : Fin 1024) : EReal :=
  if r.val < 256 then modc (ix1 (sixth j l)) else mod (ix2 b (sixth j l))

/-- Row `r` normed and modulated, times a column `w` of weights. -/
def projAt (x : (⟨3, ![4, 8192, 1024]⟩ : Shape).Idx → EReal) (ctx : (⟨3, ![4, 256, 1024]⟩ : Shape).Idx → EReal)
    (mod : (⟨2, ![4, 6144]⟩ : Shape).Idx → EReal) (modc : (⟨1, ![6144]⟩ : Shape).Idx → EReal)
    (g : (⟨1, ![1024]⟩ : Shape).Idx → EReal) (w : Fin 1024 → EReal) (b : Fin 4) (r : Fin 8448) : EReal :=
  ∑ k, modNorm (rowAt x ctx b r) (fun k => g (ix1 k)) (modAt mod modc b r 1) (modAt mod modc b r 0) k * w k

end Cert.RowNorm

end
-- ==== Proof.InProj.lean ====
module
public import proofs.«01_k».proof.Proof.RowNorm
public import proofs.«01_k».proof.Proof.Gen.Kernel2Ideal.Value
public import Idealize.ShloMosaic.Lib.Pipeline.ValueKit

/-! # The first mixer's input projection

At grid point `t` the kernel works on batch `t / 33` and the 256 rows from `256 (t % 33)` on, the context's rows being the first
tile. It norms and modulates the rows, makes one product with the weights and leaves its columns in two arrays. -/

@[expose] public section
noncomputable section
namespace Cert.InProj
open Cert.Kernel2Ideal Cert.Kernel2Ideal.Gen Cert.Kernel2Ideal.Value Cert.RowNorm
open Idealize.ShloMosaic Idealize.ShloMosaic.TcCoe Idealize.SL.Sem Idealize.ShloMosaic.Pointwise

/-! ## What a point computes -/

/-- The product, at row `y` and column `n`. -/
theorem pay_apply (x0 : Vec Ideal S1x256x1024 .f32) (x1 : Vec Ideal S1x1024 .f32) (x2 : Vec Ideal S1x1x6x1024 .f32)
    (x3 : Vec Ideal S1024x2944 .bf16) (y : Fin 256) (n : Fin 2944) : k0_pay2 x0 x1 x2 x3 (ix2 y n)
      = ∑ k, modNorm (fun l => x0 (ix3 0 y l)) (fun l => x1 (ix2 0 l)) (fun l => x2 (ix4 0 0 1 l)) (fun l => x2 (ix4 0 0 0 l)) k
        * x3 (ix2 k n) := by
  pointwise [k0_pay2]
  rfl

/-- Column `n` of the first array, -/
def firstCol (n : Fin 2688) : Fin 2944 := ⟨n.val, by omega⟩

/-- and of the second. -/
def secondCol (n : Fin 256) : Fin 2944 := ⟨2688 + n.val, by omega⟩

theorem first_apply (x0 : Vec Ideal S1x256x1024 .f32) (x1 : Vec Ideal S1x1024 .f32) (x2 : Vec Ideal S1x1x6x1024 .f32)
    (x3 : Vec Ideal S1024x2944 .bf16) (y : Fin 256) (n : Fin 2688) :
    k0_pay3 x0 x1 x2 x3 (ix3 0 y n) = k0_pay2 x0 x1 x2 x3 (ix2 y (firstCol n)) := by
  unfold k0_pay3
  generalize k0_pay2 x0 x1 x2 x3 = z
  pointwise
  rfl

theorem second_apply (x0 : Vec Ideal S1x256x1024 .f32) (x1 : Vec Ideal S1x1024 .f32) (x2 : Vec Ideal S1x1x6x1024 .f32)
    (x3 : Vec Ideal S1024x2944 .bf16) (y : Fin 256) (n : Fin 256) :
    k0_pay1 (k0_pay4 x0 x1 x2 x3) (ix3 0 y n) = k0_pay2 x0 x1 x2 x3 (ix2 y (secondCol n)) := by
  unfold k0_pay1 k0_pay4
  generalize k0_pay2 x0 x1 x2 x3 = z
  pointwise
  rfl

section
variable {F : FTy → Type} [FloatOps F]

theorem first_eq (x0 : Vec F S1x256x1024 .f32) (x1 : Vec F S1x1024 .f32) (x2 : Vec F S1x1x6x1024 .f32)
    (x3 : Vec F S1024x2944 .bf16) : out0_4 x0 x1 x2 x3 = k0_pay3 x0 x1 x2 x3 := by
  unfold out0_4 r0_0 r0_1 r0_2 r0_3 r0_4
  rw [View.canon_unit_zero (by decide), View.ld_unit_zero (by decide), View.ld_unit_zero (by decide),
    View.ld_unit_zero (by decide), View.ld_unit_zero (by decide)]

theorem second_eq (x0 : Vec F S1x256x1024 .f32) (x1 : Vec F S1x1024 .f32) (x2 : Vec F S1x1x6x1024 .f32)
    (x3 : Vec F S1024x2944 .bf16) : out0_5 x0 x1 x2 x3 = k0_pay1 (k0_pay4 x0 x1 x2 x3) := by
  unfold out0_5 r0_0 r0_1 r0_2 r0_3 r0_5
  rw [View.canon_unit_zero (by decide), View.ld_unit_zero (by decide), View.ld_unit_zero (by decide),
    View.ld_unit_zero (by decide), View.ld_unit_zero (by decide)]

/-! ## The arrays the kernel reads -/

/-- The context's rows and then the latents'. -/
def rowsArr (x : FVec F S4x8192x1024 .f32) (ctx : FVec F S4x256x1024 .f32) : FVec F S4x8448x1024 .f32 :=
  concatenate S4x8448x1024 1 [⟨S4x256x1024, ctx⟩, ⟨S4x8192x1024, x⟩] concatenates_S4x256x1024_S4x8192x1024_S4x8448x1024_d1

/-- A batch's modulation vectors, one under the other, -/
def latentSix (mod : FVec F S4x6144 .f32) : FVec F S4x6x1024 .f32 := shapeCast S4x6x1024 mod shapeCasts_S4x6144_S4x6x1024

/-- and the context's. -/
def contextSix (modc : FVec F S6144 .f32) : FVec F S1x6x1024 .f32 := shapeCast S1x6x1024 modc shapeCasts_S6144_S1x6x1024

/-- The context's modulation and a batch's, for every batch. -/
def stacked (six : FVec F S4x6x1024 .f32) (sixc : FVec F S1x6x1024 .f32) : FVec F S4x2x6x1024 .f32 :=
  concatenate S4x2x6x1024 1
    [⟨S4x1x6x1024, broadcastInDim S4x1x6x1024 ![0, 2, 3] bcast_S4x6x1024_S4x1x6x1024_0_2_3
        (broadcastInDim S4x6x1024 ![0, 1, 2] bcast_S1x6x1024_S4x6x1024_0_1_2 sixc)⟩,
     ⟨S4x1x6x1024, broadcastInDim S4x1x6x1024 ![0, 2, 3] bcast_S4x6x1024_S4x1x6x1024_0_2_3 six⟩]
    concatenates_S4x1x6x1024_S4x1x6x1024_S4x2x6x1024_d1

variable (m : (ℓ : Loc nD τ sig) → Buf (Elt F) ℓ) (c : Dev nD)

theorem V_rows : V m c main_v0 = rowsArr (m ((c : Thread nD τ).loc main_arg0)) (m ((c : Thread nD τ).loc main_arg1)) := by
  show StableHlo.after (List.flatten [hostOps0]) _ _ = _
  simp only [hostOps0, List.flatten_cons, List.flatten_nil, List.append_nil, List.cons_append, List.nil_append]
  after_results
  rfl

theorem V_mod : V m c main_v6 = stacked (latentSix (m ((c : Thread nD τ).loc main_arg2)))
    (contextSix (m ((c : Thread nD τ).loc main_arg3))) := by
  show StableHlo.after (List.flatten [hostOps0]) _ _ = _
  simp only [hostOps0, List.flatten_cons, List.flatten_nil, List.append_nil, List.cons_append, List.nil_append]
  after_results
  rfl

theorem V_scale : V m c main_v7 = (shapeCast S1x1024 (m ((c : Thread nD τ).loc main_arg4) : FVec F S1024 .f32)
    shapeCasts_S1024_S1x1024 : FVec F S1x1024 .f32) := by
  show StableHlo.after (List.flatten [hostOps0]) _ _ = _
  simp only [hostOps0, List.flatten_cons, List.flatten_nil, List.append_nil, List.cons_append, List.nil_append]
  after_results
  rfl

theorem V_weights : V m c main_v8 = (truncf .bf16 (m ((c : Thread nD τ).loc main_arg5) : FVec F S1024x2944 .f32) bitsLt_bf16_f32
    : FVec F S1024x2944 .bf16) := by
  show StableHlo.after (List.flatten [hostOps0]) _ _ = _
  simp only [hostOps0, List.flatten_cons, List.flatten_nil, List.append_nil, List.cons_append, List.nil_append]
  after_results

end

theorem rowsArr_apply (x : FVec Ideal S4x8192x1024 .f32) (ctx : FVec Ideal S4x256x1024 .f32) (b : Fin 4) (r : Fin 8448)
    (l : Fin 1024) : rowsArr x ctx (ix3 b r l) = rowAt x ctx b r l := by
  pointwise [rowsArr]
  rfl

theorem scale_apply (g : FVec Ideal S1024 .f32) (l : Fin 1024) :
    (shapeCast S1x1024 g shapeCasts_S1024_S1x1024 : FVec Ideal S1x1024 .f32) (ix2 0 l) = g (ix1 l) := by
  pointwise

theorem latentSix_apply (mod : FVec Ideal S4x6144 .f32) (b : Fin 4) (j : Fin 6) (l : Fin 1024) :
    latentSix mod (ix3 b j l) = mod (ix2 b (sixth j l)) := by
  unfold latentSix
  refine shapeCast_apply _ _ _ _ ?_
  rw [Shape.rowMajor_val_two, Shape.rowMajor_val_three]
  show b.val * 6144 + (1024 * j.val + l.val) = (b.val * 6 + j.val) * 1024 + l.val
  omega

theorem contextSix_apply (modc : FVec Ideal S6144 .f32) (j : Fin 6) (l : Fin 1024) :
    contextSix modc (ix3 0 j l) = modc (ix1 (sixth j l)) := by
  unfold contextSix
  refine shapeCast_apply _ _ _ _ ?_
  rw [Shape.rowMajor_val_one, Shape.rowMajor_val_three]
  show 1024 * j.val + l.val = (0 * 6 + j.val) * 1024 + l.val
  omega

theorem stacked_context (six : FVec Ideal S4x6x1024 .f32) (sixc : FVec Ideal S1x6x1024 .f32) (b : Fin 4) (j : Fin 6)
    (l : Fin 1024) : stacked six sixc (ix4 b 0 j l) = sixc (ix3 0 j l) := by
  pointwise [stacked]

theorem stacked_latent (six : FVec Ideal S4x6x1024 .f32) (sixc : FVec Ideal S1x6x1024 .f32) (b : Fin 4) (j : Fin 6)
    (l : Fin 1024) : stacked six sixc (ix4 b 1 j l) = six (ix3 b j l) := by
  pointwise [stacked]

/-- Which of the two modulations row `r` takes. -/
def side (r : Fin 8448) : Fin 2 := if r.val < 256 then 0 else 1

/-- Row `r` finds its own modulation in the stack. -/
theorem stacked_apply (mod : FVec Ideal S4x6144 .f32) (modc : FVec Ideal S6144 .f32) (b : Fin 4) (r : Fin 8448) (j : Fin 6)
    (l : Fin 1024) : stacked (latentSix mod) (contextSix modc) (ix4 b (side r) j l) = modAt mod modc b r j l := by
  unfold side modAt
  by_cases h : r.val < 256
  · rw [if_pos h, if_pos h, stacked_context, contextSix_apply]
  · rw [if_neg h, if_neg h, stacked_latent, latentSix_apply]

end Cert.InProj

end
-- ==== Proof.InProjArray.lean ====
module
public import proofs.«01_k».proof.Proof.InProj

/-! # The first mixer's input projection over the whole arrays

Every point leaves `projAt` in its two blocks, and the blocks fill the two arrays. -/

@[expose] public section
noncomputable section
namespace Cert.InProj
open Cert.Kernel2Ideal Cert.Kernel2Ideal.Gen Cert.Kernel2Ideal.Value Cert.RowNorm
open Idealize.ShloMosaic Idealize.ShloMosaic.TcCoe Idealize.SL.Sem Idealize.ShloMosaic.Pointwise

/-! ## Where the blocks lie -/

theorem index_rows : ∀ t : Fin grid0.N, win0_0.index t (0 : Fin 3) = t.val / 33 ∧ win0_0.index t (1 : Fin 3) = t.val % 33
    ∧ win0_0.index t (2 : Fin 3) = 0 := by decide +kernel

theorem index_scale : ∀ t : Fin grid0.N, win0_1.index t (0 : Fin 2) = 0 ∧ win0_1.index t (1 : Fin 2) = 0 := by decide +kernel

theorem index_mod : ∀ t : Fin grid0.N, win0_2.index t (0 : Fin 4) = t.val / 33
    ∧ win0_2.index t (1 : Fin 4) = (if t.val % 33 = 0 then 0 else 1)
    ∧ win0_2.index t (2 : Fin 4) = 0 ∧ win0_2.index t (3 : Fin 4) = 0 := by decide +kernel

theorem index_weights : ∀ t : Fin grid0.N, win0_3.index t (0 : Fin 2) = 0 ∧ win0_3.index t (1 : Fin 2) = 0 := by decide +kernel

theorem index_first : ∀ t : Fin grid0.N, win0_4.index t (0 : Fin 3) = t.val / 33 ∧ win0_4.index t (1 : Fin 3) = t.val % 33
    ∧ win0_4.index t (2 : Fin 3) = 0 := by decide +kernel

theorem index_second : ∀ t : Fin grid0.N, win0_5.index t (0 : Fin 3) = t.val / 33 ∧ win0_5.index t (1 : Fin 3) = t.val % 33
    ∧ win0_5.index t (2 : Fin 3) = 0 := by decide +kernel

theorem points (t : Fin cfg0.N) : t.val < 132 := by
  have h := t.isLt
  have e : cfg0.N = 132 := N_0
  omega

/-- Point `t`'s batch. -/
def batchOf (t : Fin cfg0.N) : Fin 4 := ⟨t.val / 33, by have := points t; omega⟩

/-- Row `y` of point `t`'s block. -/
def rowOf (t : Fin cfg0.N) (y : Fin 256) : Fin 8448 := ⟨256 * (t.val % 33) + y.val, by omega⟩

section
variable {F : FTy → Type} [FloatOps F] (m : (ℓ : Loc nD τ sig) → Buf (Elt F) ℓ) (c : Dev nD) (t : Fin cfg0.N)

theorem rows_block (y : Fin 256) (l : Fin 1024) : (iblk m c 0 t : Vec F S1x256x1024 .f32) (ix3 0 y l)
    = (V m c main_v0 : FVec F S4x8448x1024 .f32) (ix3 (batchOf t) (rowOf t y) l) := by
  show (V m c main_v0 : FVec F S4x8448x1024 .f32) (((cfg0.win 0).blk t).view.emb (ix3 0 y l)) = _
  obtain ⟨e0, e1, e2⟩ := index_rows t
  congr 1
  funext a
  refine Fin.ext ?_
  match a with
  | ⟨0, _⟩ => show win0_0.index t (0 : Fin 3) * 1 + 1 * 0 = t.val / 33; omega
  | ⟨1, _⟩ => show win0_0.index t (1 : Fin 3) * 256 + 1 * y.val = 256 * (t.val % 33) + y.val; omega
  | ⟨2, _⟩ => show win0_0.index t (2 : Fin 3) * 1024 + 1 * l.val = l.val; omega

theorem scale_block (l : Fin 1024) : (iblk m c 1 t : Vec F S1x1024 .f32) (ix2 0 l)
    = (V m c main_v7 : FVec F S1x1024 .f32) (ix2 0 l) := by
  show (V m c main_v7 : FVec F S1x1024 .f32) (((cfg0.win 1).blk t).view.emb (ix2 0 l)) = _
  obtain ⟨e0, e1⟩ := index_scale t
  congr 1
  funext a
  refine Fin.ext ?_
  match a with
  | ⟨0, _⟩ => show win0_1.index t (0 : Fin 2) * 1 + 1 * 0 = 0; omega
  | ⟨1, _⟩ => show win0_1.index t (1 : Fin 2) * 1024 + 1 * l.val = l.val; omega

theorem side_val (y : Fin 256) : (side (rowOf t y)).val = if t.val % 33 = 0 then 0 else 1 := by
  have h : (rowOf t y).val = 256 * (t.val % 33) + y.val := rfl
  unfold side
  by_cases h0 : t.val % 33 = 0
  · rw [if_pos (show (rowOf t y).val < 256 by omega), if_pos h0]
    rfl
  · rw [if_neg (show ¬ (rowOf t y).val < 256 by omega), if_neg h0]
    rfl

/-- All rows of a block take the same modulation: a tile holds context rows or latents, never both. -/
theorem mod_block (y : Fin 256) (j : Fin 6) (l : Fin 1024) : (iblk m c 2 t : Vec F S1x1x6x1024 .f32) (ix4 0 0 j l)
    = (V m c main_v6 : FVec F S4x2x6x1024 .f32) (ix4 (batchOf t) (side (rowOf t y)) j l) := by
  show (V m c main_v6 : FVec F S4x2x6x1024 .f32) (((cfg0.win 2).blk t).view.emb (ix4 0 0 j l)) = _
  obtain ⟨e0, e1, e2, e3⟩ := index_mod t
  have e := side_val t y
  congr 1
  funext a
  refine Fin.ext ?_
  match a with
  | ⟨0, _⟩ => show win0_2.index t (0 : Fin 4) * 1 + 1 * 0 = t.val / 33; omega
  | ⟨1, _⟩ => show win0_2.index t (1 : Fin 4) * 1 + 1 * 0 = (side (rowOf t y)).val; omega
  | ⟨2, _⟩ => show win0_2.index t (2 : Fin 4) * 6 + 1 * j.val = j.val; omega
  | ⟨3, _⟩ => show win0_2.index t (3 : Fin 4) * 1024 + 1 * l.val = l.val; omega

theorem weights_block (k : Fin 1024) (n : Fin 2944) : (iblk m c 3 t : Vec F S1024x2944 .bf16) (ix2 k n)
    = (V m c main_v8 : FVec F S1024x2944 .bf16) (ix2 k n) := by
  show (V m c main_v8 : FVec F S1024x2944 .bf16) (((cfg0.win 3).blk t).view.emb (ix2 k n)) = _
  obtain ⟨e0, e1⟩ := index_weights t
  congr 1
  funext a
  refine Fin.ext ?_
  match a with
  | ⟨0, _⟩ => show win0_3.index t (0 : Fin 2) * 1024 + 1 * k.val = k.val; omega
  | ⟨1, _⟩ => show win0_3.index t (1 : Fin 2) * 2944 + 1 * n.val = n.val; omega

theorem first_block (y : Fin 256) (n : Fin 2688) :
    (((cfg0.win 4).blk t).view.emb (ix3 0 y n) : S4x8448x2688.Idx) = ix3 (batchOf t) (rowOf t y) n := by
  obtain ⟨e0, e1, e2⟩ := index_first t
  funext a
  refine Fin.ext ?_
  match a with
  | ⟨0, _⟩ => show win0_4.index t (0 : Fin 3) * 1 + 1 * 0 = t.val / 33; omega
  | ⟨1, _⟩ => show win0_4.index t (1 : Fin 3) * 256 + 1 * y.val = 256 * (t.val % 33) + y.val; omega
  | ⟨2, _⟩ => show win0_4.index t (2 : Fin 3) * 2688 + 1 * n.val = n.val; omega

theorem second_block (y : Fin 256) (n : Fin 256) :
    (((cfg0.win 5).blk t).view.emb (ix3 0 y n) : S4x8448x256.Idx) = ix3 (batchOf t) (rowOf t y) n := by
  obtain ⟨e0, e1, e2⟩ := index_second t
  funext a
  refine Fin.ext ?_
  match a with
  | ⟨0, _⟩ => show win0_5.index t (0 : Fin 3) * 1 + 1 * 0 = t.val / 33; omega
  | ⟨1, _⟩ => show win0_5.index t (1 : Fin 3) * 256 + 1 * y.val = 256 * (t.val % 33) + y.val; omega
  | ⟨2, _⟩ => show win0_5.index t (2 : Fin 3) * 256 + 1 * n.val = n.val; omega

end

/-! ## The output arrays -/

/-- Blocks that hold a row's entries give `projAt` at that row. -/
theorem block_formula (x : FVec Ideal S4x8192x1024 .f32) (ctx : FVec Ideal S4x256x1024 .f32) (mod : FVec Ideal S4x6144 .f32)
    (modc : FVec Ideal S6144 .f32) (g : FVec Ideal S1024 .f32) (w : FVec Ideal S1024x2944 .f32)
    (x0 : Vec Ideal S1x256x1024 .f32) (x1 : Vec Ideal S1x1024 .f32) (x2 : Vec Ideal S1x1x6x1024 .f32)
    (x3 : Vec Ideal S1024x2944 .bf16) (b : Fin 4) (r : Fin 8448) (y : Fin 256) (n : Fin 2944)
    (h0 : ∀ l, x0 (ix3 0 y l) = rowsArr x ctx (ix3 b r l))
    (h1 : ∀ l, x1 (ix2 0 l) = (shapeCast S1x1024 g shapeCasts_S1024_S1x1024 : FVec Ideal S1x1024 .f32) (ix2 0 l))
    (h2 : ∀ j l, x2 (ix4 0 0 j l) = stacked (latentSix mod) (contextSix modc) (ix4 b (side r) j l))
    (h3 : ∀ k, x3 (ix2 k n) = w (ix2 k n)) :
    k0_pay2 x0 x1 x2 x3 (ix2 y n) = projAt x ctx mod modc g (fun k => w (ix2 k n)) b r := by
  rw [pay_apply]
  simp only [h0, h1, h2, h3, rowsArr_apply, scale_apply, stacked_apply]
  rfl

variable (m : (ℓ : Loc nD τ sig) → Buf (Elt Ideal) ℓ) (c : Dev nD)

/-- `projAt` of the program's arguments, at a row and a column. -/
abbrev argProj (b : Fin 4) (r : Fin 8448) (n : Fin 2944) : EReal :=
  projAt (m ((c : Thread nD τ).loc main_arg0)) (m ((c : Thread nD τ).loc main_arg1)) (m ((c : Thread nD τ).loc main_arg2))
    (m ((c : Thread nD τ).loc main_arg3)) (m ((c : Thread nD τ).loc main_arg4))
    (fun k => (m ((c : Thread nD τ).loc main_arg5) : FVec Ideal S1024x2944 .f32) (ix2 k n)) b r

/-- What point `t` computes, at an entry, is the formula there. -/
theorem block_entry (t : Fin cfg0.N) (y : Fin 256) (n : Fin 2944) :
    k0_pay2 (iblk m c 0 t) (iblk m c 1 t) (iblk m c 2 t) (iblk m c 3 t) (ix2 y n) = argProj m c (batchOf t) (rowOf t y) n :=
  block_formula _ _ _ _ _ _ _ _ _ _ (batchOf t) (rowOf t y) y n
    (fun l => (rows_block m c t y l).trans (congrFun (V_rows m c) _))
    (fun l => (scale_block m c t l).trans (congrFun (V_scale m c) _))
    (fun j l => (mod_block m c t y j l).trans (congrFun (V_mod m c) _))
    (fun k => (weights_block m c t k n).trans (congrFun (V_weights m c) _))

/-- The point whose blocks hold row `r` of batch `b`. -/
def pointOf (b : Fin 4) (r : Fin 8448) : Fin cfg0.N := ⟨33 * b.val + r.val / 256, by have e : cfg0.N = 132 := N_0; omega⟩

theorem batchOf_pointOf (b : Fin 4) (r : Fin 8448) : batchOf (pointOf b r) = b :=
  Fin.ext (show (33 * b.val + r.val / 256) / 33 = b.val by omega)

theorem rowOf_pointOf (b : Fin 4) (r : Fin 8448) : rowOf (pointOf b r) ⟨r.val % 256, by omega⟩ = r :=
  Fin.ext (show 256 * ((33 * b.val + r.val / 256) % 33) + r.val % 256 = r.val by omega)

/-- The first output array, of the columns below 2688, -/
def firstArr (p : Fin 4 → Fin 8448 → Fin 2944 → EReal) : FVec Ideal S4x8448x2688 .bf16 := fun i => p (i 0) (i 1) (firstCol (i 2))

/-- and the second, of the others. -/
def secondArr (p : Fin 4 → Fin 8448 → Fin 2944 → EReal) : FVec Ideal S4x8448x256 .bf16 := fun i => p (i 0) (i 1) (secondCol (i 2))

theorem final_first : (dats m 0 c).arrAt 4 cfg0.N = firstArr (argProj m c) := by
  refine (dats m 0 c).arrAt_eq_of_emb 4 _ (fun t _ y => ?_) fun i => ?_
  · obtain ⟨r, n, rfl⟩ : ∃ (r : Fin 256) (n : Fin 2688), y = ix3 0 r n :=
      ⟨y 1, y 2, (eq_ix3 y).trans (congrArg (ix3 · (y 1) (y 2)) (Subsingleton.elim (α := Fin 1) _ _))⟩
    exact (congrFun (after0_4 m c t) _).trans ((congrFun (first_eq _ _ _ _) _).trans ((first_apply _ _ _ _ r n).trans
      ((block_entry m c t r (firstCol n)).trans (congrArg (firstArr (argProj m c)) (first_block t r n)).symm)))
  · obtain ⟨b, r, n, rfl⟩ : ∃ (b : Fin 4) (r : Fin 8448) (n : Fin 2688), i = ix3 b r n := ⟨i 0, i 1, i 2, eq_ix3 i⟩
    refine ⟨pointOf b r, flush0_4 (pointOf b r), ?_⟩
    have h := first_block (pointOf b r) ⟨r.val % 256, by omega⟩ n
    rw [batchOf_pointOf, rowOf_pointOf] at h
    exact h ▸ View.emb_mem_set _ _

theorem final_second : (dats m 0 c).arrAt 5 cfg0.N = secondArr (argProj m c) := by
  refine (dats m 0 c).arrAt_eq_of_emb 5 _ (fun t _ y => ?_) fun i => ?_
  · obtain ⟨r, n, rfl⟩ : ∃ (r : Fin 256) (n : Fin 256), y = ix3 0 r n :=
      ⟨y 1, y 2, (eq_ix3 y).trans (congrArg (ix3 · (y 1) (y 2)) (Subsingleton.elim (α := Fin 1) _ _))⟩
    exact (congrFun (after0_5 m c t) _).trans ((congrFun (second_eq _ _ _ _) _).trans ((second_apply _ _ _ _ r n).trans
      ((block_entry m c t r (secondCol n)).trans (congrArg (secondArr (argProj m c)) (second_block t r n)).symm)))
  · obtain ⟨b, r, n, rfl⟩ : ∃ (b : Fin 4) (r : Fin 8448) (n : Fin 256), i = ix3 b r n := ⟨i 0, i 1, i 2, eq_ix3 i⟩
    refine ⟨pointOf b r, flush0_5 (pointOf b r), ?_⟩
    have h := second_block (pointOf b r) ⟨r.val % 256, by omega⟩ n
    rw [batchOf_pointOf, rowOf_pointOf] at h
    exact h ▸ View.emb_mem_set _ _

end Cert.InProj

end
-- ==== Proof.InProjRef.lean ====
module
public import proofs.«01_k».proof.Proof.InProjArray
public import proofs.«01_k».proof.Proof.Gen.Reference2Ideal.Read

/-! # The reference of the first mixer's input projection

It norms, modulates and projects the latents and the context apart, joins the products with the context's before the latents',
and splits the columns. -/

@[expose] public section
noncomputable section
namespace Cert.InProjRef
open Cert.Reference2Ideal Cert.Reference2Ideal.Read Cert.RowNorm Cert.InProj Idealize.ShloMosaic Idealize.ShloMosaic.TcCoe
open Idealize.ShloMosaic.Pointwise

variable (x : FVec Ideal S4x8192x1024 .f32) (ctx : FVec Ideal S4x256x1024 .f32) (mod : FVec Ideal S4x6144 .f32)
    (modc : FVec Ideal S6144 .f32) (g : FVec Ideal S1024 .f32) (w : FVec Ideal S1024x2944 .f32)

/-- A latent row, normed and modulated. -/
theorem latent_apply (b : Fin 4) (r : Fin 8192) (k : Fin 1024) : val_main_v31 (F := Ideal) x mod g (ix3 b r k)
    = modNorm (fun l => x (ix3 b r l)) (fun l => g (ix1 l)) (fun l => mod (ix2 b (sixth 1 l)))
        (fun l => mod (ix2 b (sixth 0 l))) k := by
  pointwise [val_main_v31, val_main_v30, val_main_v29, val_main_v28, val_main_v27, val_main_v26, val_main_v25, val_main_v24,
    val_main_v23, val_main_v22, val_main_v21, val_main_v20, val_main_v19, val_main_v18, val_main_v17, val_main_v16,
    val_main_v15, val_main_v14, val_main_v13, val_main_v2, val_main_v1, val_main_v0, val_main_cst, val_main_cst_0,
    val_main_cst_1, val_main_cst_2]
  rw [modNorm, sixth_zero]
  rfl

/-- A context row, normed and modulated. -/
theorem context_apply (b : Fin 4) (r : Fin 256) (k : Fin 1024) : val_main_v52 (F := Ideal) ctx modc g (ix3 b r k)
    = modNorm (fun l => ctx (ix3 b r l)) (fun l => g (ix1 l)) (fun l => modc (ix1 (sixth 1 l)))
        (fun l => modc (ix1 (sixth 0 l))) k := by
  pointwise [val_main_v52, val_main_v51, val_main_v50, val_main_v49, val_main_v48, val_main_v47, val_main_v46, val_main_v45,
    val_main_v44, val_main_v43, val_main_v42, val_main_v41, val_main_v40, val_main_v39, val_main_v38, val_main_v37,
    val_main_v36, val_main_v35, val_main_v34, val_main_v33, val_main_v32, val_main_v8, val_main_v7, val_main_cst_3,
    val_main_cst_4, val_main_cst_5, val_main_cst_6]
  rw [modNorm, sixth_zero]
  rfl

/-- A row of latents is the row with the context's rows before it, and takes a batch's modulation; -/
theorem latent_row (b : Fin 4) (r : Fin 8448) (h : ¬ r.val < 256) (u : Fin 1024 → EReal) :
    ∑ k, val_main_v31 (F := Ideal) x mod g (ix3 b ⟨r.val - 256, by omega⟩ k) * u k = projAt x ctx mod modc g u b r := by
  have h1 : rowAt x ctx b r = fun l => x (ix3 b ⟨r.val - 256, by omega⟩ l) := funext fun l => dif_neg h
  have h2 : ∀ j, modAt mod modc b r j = fun l => mod (ix2 b (sixth j l)) := fun j => funext fun l => if_neg h
  unfold projAt
  rw [h1, h2, h2]
  exact Finset.sum_congr rfl fun k _ => congrArg (· * u k) (latent_apply x mod g b _ k)

/-- a row of the context takes the context's. -/
theorem context_row (b : Fin 4) (r : Fin 8448) (h : r.val < 256) (u : Fin 1024 → EReal) :
    ∑ k, val_main_v52 (F := Ideal) ctx modc g (ix3 b ⟨r.val, h⟩ k) * u k = projAt x ctx mod modc g u b r := by
  have h1 : rowAt x ctx b r = fun l => ctx (ix3 b ⟨r.val, h⟩ l) := funext fun l => dif_pos h
  have h2 : ∀ j, modAt mod modc b r j = fun l => modc (ix1 (sixth j l)) := fun j => funext fun l => if_pos h
  unfold projAt
  rw [h1, h2, h2]
  exact Finset.sum_congr rfl fun k _ => congrArg (· * u k) (context_apply ctx modc g b _ k)

/-- The joined products. -/
theorem joined_apply (b : Fin 4) (r : Fin 8448) (n : Fin 2944) :
    val_main_v55 (F := Ideal) x ctx mod modc g w (ix3 b r n) = projAt x ctx mod modc g (fun k => w (ix2 k n)) b r := by
  by_cases h : r.val < 256
  · refine Eq.trans ?_ (context_row x ctx mod modc g b r h _)
    pointwise [val_main_v55, val_main_v53, val_main_v54]
    rw [dif_pos h]
  · refine Eq.trans ?_ (latent_row x ctx mod modc g b r h _)
    pointwise [val_main_v55, val_main_v53, val_main_v54]
    rw [dif_neg h]

/-- The columns below 2688 are the first result, -/
theorem first_eq : val_main_v56 (F := Ideal) x ctx mod modc g w
    = firstArr fun b r n => projAt x ctx mod modc g (fun k => w (ix2 k n)) b r := by
  funext i
  obtain ⟨b, r, n, rfl⟩ : ∃ (b : Fin 4) (r : Fin 8448) (n : Fin 2688), i = ix3 b r n := ⟨i 0, i 1, i 2, eq_ix3 i⟩
  refine Eq.trans ?_ (joined_apply x ctx mod modc g w b r (firstCol n))
  unfold val_main_v56
  generalize val_main_v55 (F := Ideal) x ctx mod modc g w = z
  pointwise
  rfl

/-- and the others the second. -/
theorem second_eq : val_main_v57 (F := Ideal) x ctx mod modc g w
    = secondArr fun b r n => projAt x ctx mod modc g (fun k => w (ix2 k n)) b r := by
  funext i
  obtain ⟨b, r, n, rfl⟩ : ∃ (b : Fin 4) (r : Fin 8448) (n : Fin 256), i = ix3 b r n := ⟨i 0, i 1, i 2, eq_ix3 i⟩
  refine Eq.trans ?_ (joined_apply x ctx mod modc g w b r (secondCol n))
  unfold val_main_v57
  generalize val_main_v55 (F := Ideal) x ctx mod modc g w = z
  pointwise
  rfl

end Cert.InProjRef

end
-- ==== Proof.OutProj.lean ====
module
public import proofs.«01_k».proof.Proof.Gen.Kernel3Ideal.Value
public import Idealize.ShloMosaic.Lib.Pipeline.ValueKit
public import Idealize.ShloMosaic.Lib.Pointwise

/-! # The output projection with its residual

At grid point `t` the kernel works on batch `t / 32` and the 256 rows from `256 (t % 32)` on: the attention's rows (which come
transposed) times the upper rows of the weights, plus the convolution's rows times the lower ones, gated, added to the input. -/

@[expose] public section
noncomputable section
namespace Cert.OutProj
open Cert.Kernel3Ideal Cert.Kernel3Ideal.Gen Cert.Kernel3Ideal.Value Idealize.ShloMosaic Idealize.ShloMosaic.TcCoe Idealize.SL.Sem
open Idealize.ShloMosaic.Pointwise

/-! ## The formula -/

/-- Column `n` of the gate, the third of the six modulation vectors. -/
def gateCol (n : Fin 1024) : Fin 6144 := ⟨2048 + n.val, by omega⟩

/-- The row of the weights that the attention's feature `k` meets, -/
def upperRow (k : Fin 768) : Fin 1024 := ⟨k.val, by omega⟩

/-- and the one that the convolution's feature `k` meets. -/
def lowerRow (k : Fin 256) : Fin 1024 := ⟨768 + k.val, by omega⟩

/-- The input plus the gated projection of the two mixers' outputs. -/
def projected (a : S4x8192x768.Idx → EReal) (v : S4x8192x256.Idx → EReal) (x : S4x8192x1024.Idx → EReal)
    (mod : S4x6144.Idx → EReal) (w : S1024x1024.Idx → EReal) : S4x8192x1024.Idx → EReal :=
  fun i => x i + mod (ix2 (i 0) (gateCol (i 2))) * (∑ k : Fin 768, a (ix3 (i 0) (i 1) k) * w (ix2 (upperRow k) (i 2))
    + ∑ k : Fin 256, v (ix3 (i 0) (i 1) k) * w (ix2 (lowerRow k) (i 2)))

/-! ## What a point computes -/

/-- A point's result at row `r` and column `n`, in its blocks. -/
theorem pay_apply (x0 : Vec Ideal S1x768x256 .bf16) (x1 : Vec Ideal S1x256x256 .bf16) (x2 : Vec Ideal S1x256x1024 .f32)
    (x3 : Vec Ideal S1x1x6x1024 .f32) (x4 : Vec Ideal S768x1024 .bf16) (x5 : Vec Ideal S256x1024 .bf16) (r : Fin 256)
    (n : Fin 1024) : k0_pay1 x0 x4 x1 x5 x3 x2 (ix3 0 r n)
      = x2 (ix3 0 r n) + x3 (ix4 0 0 2 n) * (∑ k : Fin 768, x0 (ix3 0 k r) * x4 (ix2 k n)
        + ∑ k : Fin 256, x1 (ix3 0 r k) * x5 (ix2 k n)) := by
  pointwise [k0_pay1]

section
variable {F : FTy → Type} [FloatOps F]

theorem out_eq (x0 : Vec F S1x768x256 .bf16) (x1 : Vec F S1x256x256 .bf16) (x2 : Vec F S1x256x1024 .f32)
    (x3 : Vec F S1x1x6x1024 .f32) (x4 : Vec F S768x1024 .bf16) (x5 : Vec F S256x1024 .bf16) :
    out0_6 x0 x1 x2 x3 x4 x5 = k0_pay1 x0 x4 x1 x5 x3 x2 := by
  unfold out0_6 r0_0 r0_1 r0_2 r0_3 r0_4 r0_5
  rw [View.canon_unit_zero (by decide), View.ld_unit_zero (by decide), View.ld_unit_zero (by decide),
    View.ld_unit_zero (by decide), View.ld_unit_zero (by decide), View.ld_unit_zero (by decide), View.ld_unit_zero (by decide)]

/-! ## The arrays the kernel reads -/

/-- The attention's output as the kernel reads it: features by rows. -/
def attnArr (a : FVec F S4x8192x768 .f32) : FVec F S4x768x8192 .bf16 :=
  truncf .bf16 (transpose S4x768x8192 [0, 2, 1] a transposes_S4x8192x768_S4x768x8192_0_2_1) bitsLt_bf16_f32

/-- The input behind as many zero rows as there are context tokens. -/
def inputArr (x : FVec F S4x8192x1024 .f32) : FVec F S4x8448x1024 .f32 :=
  pad S4x8448x1024 ![0, 256, 0] ![0, 0, 0] ![0, 0, 0] x (sitofp .f32 (constantI S_ 32 0#32))
    pads_S4x8192x1024_S4x8448x1024_000_25600_000 h_S_

/-- The six modulation vectors of a batch entry. -/
def sixOf (mod : FVec F S4x6144 .f32) : FVec F S4x6x1024 .f32 := shapeCast S4x6x1024 mod shapeCasts_S4x6144_S4x6x1024

/-- The modulations: zeros for the context, then the latents'. -/
def stacked (six : FVec F S4x6x1024 .f32) : FVec F S4x2x6x1024 .f32 :=
  concatenate S4x2x6x1024 1
    [⟨S4x1x6x1024, broadcastInDim S4x1x6x1024 ![0, 2, 3] bcast_S4x6x1024_S4x1x6x1024_0_2_3
        (broadcastInDim S4x6x1024 ![] bcast_S_S4x6x1024 (constant S_ .f32 0x00000000#32 : FVec F S_ .f32))⟩,
     ⟨S4x1x6x1024, broadcastInDim S4x1x6x1024 ![0, 2, 3] bcast_S4x6x1024_S4x1x6x1024_0_2_3 six⟩]
    concatenates_S4x1x6x1024_S4x1x6x1024_S4x2x6x1024_d1

/-- The weights' rows for the attention, -/
def upperArr (w : FVec F S1024x1024 .f32) : FVec F S768x1024 .bf16 :=
  truncf .bf16 (extractStridedSlice S768x1024 ![0, 0] w slices_S1024x1024_S768x1024_0_0) bitsLt_bf16_f32

/-- and those for the convolution. -/
def lowerArr (w : FVec F S1024x1024 .f32) : FVec F S256x1024 .bf16 :=
  truncf .bf16 (extractStridedSlice S256x1024 ![768, 0] w slices_S1024x1024_S256x1024_768_0) bitsLt_bf16_f32

variable (m : (ℓ : Loc nD τ sig) → Buf (Elt F) ℓ) (c : Dev nD)

theorem V_attn : V m c main_v7 = attnArr (m ((c : Thread nD τ).loc main_arg0)) := by
  show StableHlo.after (List.flatten [hostOps0, hostOps0_1, hostOps0_2]) _ _ = _
  simp only [hostOps0, hostOps0_1, hostOps0_2, List.flatten_cons, List.flatten_nil, List.append_nil, List.cons_append,
    List.nil_append]
  after_results
  rfl

theorem V_conv : V m c main_v8 = (truncf .bf16 (m ((c : Thread nD τ).loc main_arg1) : FVec F S4x8192x256 .f32) bitsLt_bf16_f32
    : FVec F S4x8192x256 .bf16) := by
  show StableHlo.after (List.flatten [hostOps0, hostOps0_1, hostOps0_2]) _ _ = _
  simp only [hostOps0, hostOps0_1, hostOps0_2, List.flatten_cons, List.flatten_nil, List.append_nil, List.cons_append,
    List.nil_append]
  after_results

theorem V_input : V m c main_v0 = inputArr (m ((c : Thread nD τ).loc main_arg2)) := by
  show StableHlo.after (List.flatten [hostOps0, hostOps0_1, hostOps0_2]) _ _ = _
  simp only [hostOps0, hostOps0_1, hostOps0_2, List.flatten_cons, List.flatten_nil, List.append_nil, List.cons_append,
    List.nil_append]
  after_results
  rfl

theorem V_mod : V m c main_v5 = stacked (sixOf (m ((c : Thread nD τ).loc main_arg3))) := by
  show StableHlo.after (List.flatten [hostOps0, hostOps0_1, hostOps0_2]) _ _ = _
  simp only [hostOps0, hostOps0_1, hostOps0_2, List.flatten_cons, List.flatten_nil, List.append_nil, List.cons_append,
    List.nil_append]
  after_results
  rfl

theorem V_upper : V m c main_v10 = upperArr (m ((c : Thread nD τ).loc main_arg4)) := by
  show StableHlo.after (List.flatten [hostOps0, hostOps0_1, hostOps0_2]) _ _ = _
  simp only [hostOps0, hostOps0_1, hostOps0_2, List.flatten_cons, List.flatten_nil, List.append_nil, List.cons_append,
    List.nil_append]
  after_results
  rfl

theorem V_lower : V m c main_v12 = lowerArr (m ((c : Thread nD τ).loc main_arg4)) := by
  show StableHlo.after (List.flatten [hostOps0, hostOps0_1, hostOps0_2]) _ _ = _
  simp only [hostOps0, hostOps0_1, hostOps0_2, List.flatten_cons, List.flatten_nil, List.append_nil, List.cons_append,
    List.nil_append]
  after_results
  rfl

end

theorem attnArr_apply (a : FVec Ideal S4x8192x768 .f32) (b : Fin 4) (k : Fin 768) (x : Fin 8192) :
    attnArr a (ix3 b k x) = a (ix3 b x k) := by
  pointwise [attnArr]

/-- Row `x` of the latents, behind the context's. -/
def latentRow (x : Fin 8192) : Fin 8448 := ⟨256 + x.val, by omega⟩

theorem inputArr_apply (x : FVec Ideal S4x8192x1024 .f32) (b : Fin 4) (r : Fin 8192) (n : Fin 1024) :
    inputArr x (ix3 b (latentRow r) n) = x (ix3 b r n) := by
  have h : ∀ κ : Fin 8448, inputArr x (ix3 b κ n)
      = if h : 256 ≤ κ.val ∧ κ.val - 256 < 8192 then x (ix3 b ⟨κ.val - 256, h.2⟩ n)
        else FloatOps.sitofp (F := Ideal) FTy.f32 0#32 := fun κ => by
    pointwise [inputArr]
  have hx : (latentRow r).val = 256 + r.val := rfl
  rw [h, dif_pos (by rw [hx]; omega)]
  exact congrArg (fun a => x (ix3 b a n)) (Fin.ext (by show (latentRow r).val - 256 = r.val; omega))

theorem sixOf_apply (mod : FVec Ideal S4x6144 .f32) (b : Fin 4) (n : Fin 1024) :
    sixOf mod (ix3 b 2 n) = mod (ix2 b (gateCol n)) := by
  unfold sixOf
  refine shapeCast_apply _ _ _ _ ?_
  rw [Shape.rowMajor_val_two, Shape.rowMajor_val_three]
  show b.val * 6144 + (2048 + n.val) = (b.val * 6 + 2) * 1024 + n.val
  omega

theorem stacked_apply (six : FVec Ideal S4x6x1024 .f32) (b : Fin 4) (n : Fin 1024) :
    stacked six (ix4 b 1 2 n) = six (ix3 b 2 n) := by
  pointwise [stacked]

theorem upperArr_apply (w : FVec Ideal S1024x1024 .f32) (k : Fin 768) (n : Fin 1024) :
    upperArr w (ix2 k n) = w (ix2 (upperRow k) n) := by
  pointwise [upperArr]
  rfl

theorem lowerArr_apply (w : FVec Ideal S1024x1024 .f32) (k : Fin 256) (n : Fin 1024) :
    lowerArr w (ix2 k n) = w (ix2 (lowerRow k) n) := by
  pointwise [lowerArr]
  rfl

end Cert.OutProj

end
-- ==== Proof.OutProjArray.lean ====
module
public import proofs.«01_k».proof.Proof.OutProj
public import proofs.«01_k».proof.Proof.Gen.Reference3Ideal.Read

/-! # The output projection over the whole array, and the reference

Every point leaves the formula `projected` in its block and the blocks fill the array. The reference joins the two mixers'
outputs and makes one product; its sum over 1024 features is the sum over 768 and the one over 256. -/

@[expose] public section
noncomputable section
namespace Cert.OutProj
open Cert.Kernel3Ideal Cert.Kernel3Ideal.Gen Cert.Kernel3Ideal.Value Idealize.ShloMosaic Idealize.ShloMosaic.TcCoe Idealize.SL.Sem
open Idealize.ShloMosaic.Pointwise

/-! ## Where the blocks lie -/

theorem index_attn : ∀ t : Fin grid0.N, win0_0.index t (0 : Fin 3) = t.val / 32 ∧ win0_0.index t (1 : Fin 3) = 0
    ∧ win0_0.index t (2 : Fin 3) = t.val % 32 := by decide +kernel

theorem index_conv : ∀ t : Fin grid0.N, win0_1.index t (0 : Fin 3) = t.val / 32 ∧ win0_1.index t (1 : Fin 3) = t.val % 32
    ∧ win0_1.index t (2 : Fin 3) = 0 := by decide +kernel

theorem index_input : ∀ t : Fin grid0.N, win0_2.index t (0 : Fin 3) = t.val / 32 ∧ win0_2.index t (1 : Fin 3) = t.val % 32 + 1
    ∧ win0_2.index t (2 : Fin 3) = 0 := by decide +kernel

theorem index_mod : ∀ t : Fin grid0.N, win0_3.index t (0 : Fin 4) = t.val / 32 ∧ win0_3.index t (1 : Fin 4) = 1
    ∧ win0_3.index t (2 : Fin 4) = 0 ∧ win0_3.index t (3 : Fin 4) = 0 := by decide +kernel

theorem index_upper : ∀ t : Fin grid0.N, win0_4.index t (0 : Fin 2) = 0 ∧ win0_4.index t (1 : Fin 2) = 0 := by decide +kernel

theorem index_lower : ∀ t : Fin grid0.N, win0_5.index t (0 : Fin 2) = 0 ∧ win0_5.index t (1 : Fin 2) = 0 := by decide +kernel

theorem index_out : ∀ t : Fin grid0.N, win0_6.index t (0 : Fin 3) = t.val / 32 ∧ win0_6.index t (1 : Fin 3) = t.val % 32
    ∧ win0_6.index t (2 : Fin 3) = 0 := by decide +kernel

theorem points (t : Fin cfg0.N) : t.val < 128 := by
  have h := t.isLt
  have e : cfg0.N = 128 := N_0
  omega

/-- Point `t`'s batch. -/
def batchOf (t : Fin cfg0.N) : Fin 4 := ⟨t.val / 32, by have := points t; omega⟩

/-- Row `y` of point `t`'s block. -/
def rowOf (t : Fin cfg0.N) (y : Fin 256) : Fin 8192 := ⟨256 * (t.val % 32) + y.val, by omega⟩

section
variable {F : FTy → Type} [FloatOps F] (m : (ℓ : Loc nD τ sig) → Buf (Elt F) ℓ) (c : Dev nD) (t : Fin cfg0.N)

theorem attn_block (k : Fin 768) (y : Fin 256) : (iblk m c 0 t : Vec F S1x768x256 .bf16) (ix3 0 k y)
    = (V m c main_v7 : FVec F S4x768x8192 .bf16) (ix3 (batchOf t) k (rowOf t y)) := by
  show (V m c main_v7 : FVec F S4x768x8192 .bf16) (((cfg0.win 0).blk t).view.emb (ix3 0 k y)) = _
  obtain ⟨e0, e1, e2⟩ := index_attn t
  congr 1
  funext a
  refine Fin.ext ?_
  match a with
  | ⟨0, _⟩ => show win0_0.index t (0 : Fin 3) * 1 + 1 * 0 = t.val / 32; omega
  | ⟨1, _⟩ => show win0_0.index t (1 : Fin 3) * 768 + 1 * k.val = k.val; omega
  | ⟨2, _⟩ => show win0_0.index t (2 : Fin 3) * 256 + 1 * y.val = 256 * (t.val % 32) + y.val; omega

theorem conv_block (y k : Fin 256) : (iblk m c 1 t : Vec F S1x256x256 .bf16) (ix3 0 y k)
    = (V m c main_v8 : FVec F S4x8192x256 .bf16) (ix3 (batchOf t) (rowOf t y) k) := by
  show (V m c main_v8 : FVec F S4x8192x256 .bf16) (((cfg0.win 1).blk t).view.emb (ix3 0 y k)) = _
  obtain ⟨e0, e1, e2⟩ := index_conv t
  congr 1
  funext a
  refine Fin.ext ?_
  match a with
  | ⟨0, _⟩ => show win0_1.index t (0 : Fin 3) * 1 + 1 * 0 = t.val / 32; omega
  | ⟨1, _⟩ => show win0_1.index t (1 : Fin 3) * 256 + 1 * y.val = 256 * (t.val % 32) + y.val; omega
  | ⟨2, _⟩ => show win0_1.index t (2 : Fin 3) * 256 + 1 * k.val = k.val; omega

theorem input_block (y : Fin 256) (n : Fin 1024) : (iblk m c 2 t : Vec F S1x256x1024 .f32) (ix3 0 y n)
    = (V m c main_v0 : FVec F S4x8448x1024 .f32) (ix3 (batchOf t) (latentRow (rowOf t y)) n) := by
  show (V m c main_v0 : FVec F S4x8448x1024 .f32) (((cfg0.win 2).blk t).view.emb (ix3 0 y n)) = _
  obtain ⟨e0, e1, e2⟩ := index_input t
  congr 1
  funext a
  refine Fin.ext ?_
  match a with
  | ⟨0, _⟩ => show win0_2.index t (0 : Fin 3) * 1 + 1 * 0 = t.val / 32; omega
  | ⟨1, _⟩ => show win0_2.index t (1 : Fin 3) * 256 + 1 * y.val = 256 + (256 * (t.val % 32) + y.val); omega
  | ⟨2, _⟩ => show win0_2.index t (2 : Fin 3) * 1024 + 1 * n.val = n.val; omega

theorem mod_block (n : Fin 1024) : (iblk m c 3 t : Vec F S1x1x6x1024 .f32) (ix4 0 0 2 n)
    = (V m c main_v5 : FVec F S4x2x6x1024 .f32) (ix4 (batchOf t) 1 2 n) := by
  show (V m c main_v5 : FVec F S4x2x6x1024 .f32) (((cfg0.win 3).blk t).view.emb (ix4 0 0 2 n)) = _
  obtain ⟨e0, e1, e2, e3⟩ := index_mod t
  congr 1
  funext a
  refine Fin.ext ?_
  match a with
  | ⟨0, _⟩ => show win0_3.index t (0 : Fin 4) * 1 + 1 * 0 = t.val / 32; omega
  | ⟨1, _⟩ => show win0_3.index t (1 : Fin 4) * 1 + 1 * 0 = 1; omega
  | ⟨2, _⟩ => show win0_3.index t (2 : Fin 4) * 6 + 1 * 2 = 2; omega
  | ⟨3, _⟩ => show win0_3.index t (3 : Fin 4) * 1024 + 1 * n.val = n.val; omega

theorem upper_block (k : Fin 768) (n : Fin 1024) : (iblk m c 4 t : Vec F S768x1024 .bf16) (ix2 k n)
    = (V m c main_v10 : FVec F S768x1024 .bf16) (ix2 k n) := by
  show (V m c main_v10 : FVec F S768x1024 .bf16) (((cfg0.win 4).blk t).view.emb (ix2 k n)) = _
  obtain ⟨e0, e1⟩ := index_upper t
  congr 1
  funext a
  refine Fin.ext ?_
  match a with
  | ⟨0, _⟩ => show win0_4.index t (0 : Fin 2) * 768 + 1 * k.val = k.val; omega
  | ⟨1, _⟩ => show win0_4.index t (1 : Fin 2) * 1024 + 1 * n.val = n.val; omega

theorem lower_block (k : Fin 256) (n : Fin 1024) : (iblk m c 5 t : Vec F S256x1024 .bf16) (ix2 k n)
    = (V m c main_v12 : FVec F S256x1024 .bf16) (ix2 k n) := by
  show (V m c main_v12 : FVec F S256x1024 .bf16) (((cfg0.win 5).blk t).view.emb (ix2 k n)) = _
  obtain ⟨e0, e1⟩ := index_lower t
  congr 1
  funext a
  refine Fin.ext ?_
  match a with
  | ⟨0, _⟩ => show win0_5.index t (0 : Fin 2) * 256 + 1 * k.val = k.val; omega
  | ⟨1, _⟩ => show win0_5.index t (1 : Fin 2) * 1024 + 1 * n.val = n.val; omega

theorem out_block (y : Fin 256) (n : Fin 1024) :
    (((cfg0.win 6).blk t).view.emb (ix3 0 y n) : S4x8192x1024.Idx) = ix3 (batchOf t) (rowOf t y) n := by
  obtain ⟨e0, e1, e2⟩ := index_out t
  funext a
  refine Fin.ext ?_
  match a with
  | ⟨0, _⟩ => show win0_6.index t (0 : Fin 3) * 1 + 1 * 0 = t.val / 32; omega
  | ⟨1, _⟩ => show win0_6.index t (1 : Fin 3) * 256 + 1 * y.val = 256 * (t.val % 32) + y.val; omega
  | ⟨2, _⟩ => show win0_6.index t (2 : Fin 3) * 1024 + 1 * n.val = n.val; omega

end

/-! ## The output array -/

/-- Blocks that hold the rows of one batch give the formula. -/
theorem block_formula (a : FVec Ideal S4x8192x768 .f32) (v : FVec Ideal S4x8192x256 .f32) (x : FVec Ideal S4x8192x1024 .f32)
    (mod : FVec Ideal S4x6144 .f32) (w : FVec Ideal S1024x1024 .f32)
    (x0 : Vec Ideal S1x768x256 .bf16) (x1 : Vec Ideal S1x256x256 .bf16) (x2 : Vec Ideal S1x256x1024 .f32)
    (x3 : Vec Ideal S1x1x6x1024 .f32) (x4 : Vec Ideal S768x1024 .bf16) (x5 : Vec Ideal S256x1024 .bf16)
    (b : Fin 4) (r : Fin 8192) (y : Fin 256) (n : Fin 1024)
    (h0 : ∀ k, x0 (ix3 0 k y) = attnArr a (ix3 b k r)) (h1 : ∀ k, x1 (ix3 0 y k) = v (ix3 b r k))
    (h2 : x2 (ix3 0 y n) = inputArr x (ix3 b (latentRow r) n)) (h3 : x3 (ix4 0 0 2 n) = stacked (sixOf mod) (ix4 b 1 2 n))
    (h4 : ∀ k, x4 (ix2 k n) = upperArr w (ix2 k n)) (h5 : ∀ k, x5 (ix2 k n) = lowerArr w (ix2 k n)) :
    out0_6 x0 x1 x2 x3 x4 x5 (ix3 0 y n) = projected a v x mod w (ix3 b r n) := by
  rw [out_eq, pay_apply, h2, h3, inputArr_apply, stacked_apply, sixOf_apply]
  refine congrArg₂ (fun p q => x (ix3 b r n) + mod (ix2 b (gateCol n)) * (p + q)) ?_ ?_
  · exact Finset.sum_congr rfl fun k _ => by rw [h0, h4, attnArr_apply, upperArr_apply]; rfl
  · exact Finset.sum_congr rfl fun k _ => by rw [h1, h5, lowerArr_apply]; rfl

variable (m : (ℓ : Loc nD τ sig) → Buf (Elt Ideal) ℓ) (c : Dev nD)

/-- What point `t` writes back, at an entry of its block, is the formula there. -/
theorem block_entry (t : Fin cfg0.N) (y : Fin 256) (n : Fin 1024) :
    out0_6 (iblk m c 0 t) (iblk m c 1 t) (iblk m c 2 t) (iblk m c 3 t) (iblk m c 4 t) (iblk m c 5 t) (ix3 0 y n)
      = projected (m ((c : Thread nD τ).loc main_arg0)) (m ((c : Thread nD τ).loc main_arg1))
          (m ((c : Thread nD τ).loc main_arg2)) (m ((c : Thread nD τ).loc main_arg3)) (m ((c : Thread nD τ).loc main_arg4))
          (ix3 (batchOf t) (rowOf t y) n) :=
  block_formula _ _ _ _ _ _ _ _ _ _ _ (batchOf t) (rowOf t y) y n
    (fun k => (attn_block m c t k y).trans (congrFun (V_attn m c) _))
    (fun k => (conv_block m c t y k).trans (congrFun (V_conv m c) _))
    ((input_block m c t y n).trans (congrFun (V_input m c) _))
    ((mod_block m c t n).trans (congrFun (V_mod m c) _))
    (fun k => (upper_block m c t k n).trans (congrFun (V_upper m c) _))
    (fun k => (lower_block m c t k n).trans (congrFun (V_lower m c) _))

/-- The point whose block holds row `x` of batch `b`. -/
def pointOf (b : Fin 4) (x : Fin 8192) : Fin cfg0.N := ⟨32 * b.val + x.val / 256, by have e : cfg0.N = 128 := N_0; omega⟩

/-- Every entry of the output array lies in one point's block. -/
theorem covered (i : S4x8192x1024.Idx) : ∃ t : Fin cfg0.N, ∃ y : S1x256x1024.Idx, ((cfg0.win 6).blk t).view.emb y = i := by
  obtain ⟨b, x, n, rfl⟩ : ∃ (b : Fin 4) (x : Fin 8192) (n : Fin 1024), i = ix3 b x n := ⟨i 0, i 1, i 2, eq_ix3 i⟩
  refine ⟨pointOf b x, ix3 0 ⟨x.val % 256, by omega⟩ n, (out_block _ _ _).trans ?_⟩
  funext a
  refine Fin.ext ?_
  match a with
  | ⟨0, _⟩ => show (32 * b.val + x.val / 256) / 32 = b.val; omega
  | ⟨1, _⟩ => show 256 * ((32 * b.val + x.val / 256) % 32) + x.val % 256 = x.val; omega
  | ⟨2, _⟩ => rfl

/-- After the run the output array is the formula. -/
theorem final_out : (dats m 0 c).arrAt 6 cfg0.N = projected (m ((c : Thread nD τ).loc main_arg0))
      (m ((c : Thread nD τ).loc main_arg1)) (m ((c : Thread nD τ).loc main_arg2)) (m ((c : Thread nD τ).loc main_arg3))
      (m ((c : Thread nD τ).loc main_arg4)) := by
  refine (dats m 0 c).arrAt_eq_of_emb 6 _ (fun t _ y => ?_) fun i => ?_
  · obtain ⟨r, n, rfl⟩ : ∃ (r : Fin 256) (n : Fin 1024), y = ix3 0 r n :=
      ⟨y 1, y 2, (eq_ix3 y).trans (congrArg (ix3 · (y 1) (y 2)) (Subsingleton.elim (α := Fin 1) _ _))⟩
    exact (congrFun (after0_6 m c t) _).trans ((block_entry m c t r n).trans
      (congrArg (projected _ _ _ _ _) (out_block t r n)).symm)
  · obtain ⟨t, y, h⟩ := covered i
    exact ⟨t, flush0_6 t, h ▸ View.emb_mem_set _ y⟩

end Cert.OutProj

/-! ## The reference -/

namespace Cert.OutProjRef
open Cert.Reference3Ideal Cert.Reference3Ideal.Read Cert.OutProj Idealize.ShloMosaic Idealize.ShloMosaic.TcCoe
open Idealize.ShloMosaic.Pointwise

variable (a : FVec Ideal S4x8192x768 .f32) (v : FVec Ideal S4x8192x256 .f32) (x : FVec Ideal S4x8192x1024 .f32)
    (mod : FVec Ideal S4x6144 .f32) (w : FVec Ideal S1024x1024 .f32)

/-- The joined outputs of the two mixers. -/
theorem joined_apply (b : Fin 4) (r : Fin 8192) (k : Fin 1024) : val_main_v7 (F := Ideal) a v (ix3 b r k)
    = if h : k.val < 768 then a (ix3 b r ⟨k.val, h⟩) else v (ix3 b r ⟨k.val - 768, by omega⟩) := by
  pointwise [val_main_v7]

/-- The product with the joined outputs is the sum of the two products. -/
theorem product_apply (b : Fin 4) (r : Fin 8192) (n : Fin 1024) : val_main_v8 (F := Ideal) a v w (ix3 b r n)
    = ∑ k : Fin 768, a (ix3 b r k) * w (ix2 (upperRow k) n) + ∑ k : Fin 256, v (ix3 b r k) * w (ix2 (lowerRow k) n) := by
  have h : val_main_v8 (F := Ideal) a v w (ix3 b r n)
      = ∑ k : Fin (768 + 256), val_main_v7 (F := Ideal) a v (ix3 b r k) * w (ix2 k n) := by
    rw [val_main_v8_apply]
    refine Finset.sum_congr rfl fun k _ => congrArg₂ (· * ·) (congrArg _ ?_) (congrArg w ?_)
    · funext a
      match a with
      | ⟨0, _⟩ => rfl
      | ⟨1, _⟩ => rfl
      | ⟨2, _⟩ => rfl
    · funext a
      match a with
      | ⟨0, _⟩ => rfl
      | ⟨1, _⟩ => rfl
  rw [h, Fin.sum_univ_add]
  refine congrArg₂ (· + ·) (Finset.sum_congr rfl fun k _ => ?_) (Finset.sum_congr rfl fun k _ => ?_)
  · rw [joined_apply, dif_pos (show (Fin.castAdd 256 k).val < 768 from k.isLt)]
    rfl
  · have hk : (Fin.natAdd 768 k).val = 768 + k.val := rfl
    rw [joined_apply, dif_neg (by rw [hk]; omega)]
    refine congrArg₂ (· * ·) (congrArg (fun q => v (ix3 b r q)) (Fin.ext ?_)) rfl
    show (Fin.natAdd 768 k).val - 768 = k.val
    omega

theorem result_eq : val_main_v11 (F := Ideal) a v x mod w = projected a v x mod w := by
  funext i
  obtain ⟨b, r, n, rfl⟩ : ∃ (b : Fin 4) (r : Fin 8192) (n : Fin 1024), i = ix3 b r n := ⟨i 0, i 1, i 2, eq_ix3 i⟩
  rw [val_main_v11_apply, val_main_v10_apply, product_apply, val_main_v9_apply, val_main_v3_apply, val_main_v0_apply]
  refine congrArg (fun q => x (ix3 b r n) + mod q * _) ?_
  funext a
  match a with
  | ⟨0, _⟩ => rfl
  | ⟨1, _⟩ => rfl

end Cert.OutProjRef

end
-- ==== Proof.InProjSecond.lean ====
module
public import proofs.«01_k».proof.Proof.InProjRef
public import proofs.«01_k».proof.Proof.Gen.Kernel4Ideal.Value
public import proofs.«01_k».proof.Proof.Gen.Reference4Ideal.Read

/-! # The second mixer's input projection

The same call as the first mixer's with 1792 columns, 1280 of them in the first array. The arrays it reads, the norm and the
modulation are those of the first mixer's call, and so are the reference's normed rows. -/

@[expose] public section
noncomputable section
namespace Cert.InProjSecond
open Cert.Kernel4Ideal Cert.Kernel4Ideal.Gen Cert.Kernel4Ideal.Value Cert.RowNorm
open Cert.InProj (rowsArr stacked latentSix contextSix side rowsArr_apply scale_apply stacked_apply)
open Idealize.ShloMosaic Idealize.ShloMosaic.TcCoe Idealize.SL.Sem Idealize.ShloMosaic.Pointwise

/-! ## What a point computes -/

/-- The product, at row `y` and column `n`. -/
theorem pay_apply (x0 : Vec Ideal S1x256x1024 .f32) (x1 : Vec Ideal S1x1024 .f32) (x2 : Vec Ideal S1x1x6x1024 .f32)
    (x3 : Vec Ideal S1024x1792 .bf16) (y : Fin 256) (n : Fin 1792) : k0_pay2 x0 x1 x2 x3 (ix2 y n)
      = ∑ k, modNorm (fun l => x0 (ix3 0 y l)) (fun l => x1 (ix2 0 l)) (fun l => x2 (ix4 0 0 1 l)) (fun l => x2 (ix4 0 0 0 l)) k
        * x3 (ix2 k n) := by
  pointwise [k0_pay2]
  rfl

/-- Column `n` of the first array, -/
def firstCol (n : Fin 1280) : Fin 1792 := ⟨n.val, by omega⟩

/-- and of the second. -/
def secondCol (n : Fin 512) : Fin 1792 := ⟨1280 + n.val, by omega⟩

section
variable {F : FTy → Type} [FloatOps F]

theorem first_eq (x0 : Vec F S1x256x1024 .f32) (x1 : Vec F S1x1024 .f32) (x2 : Vec F S1x1x6x1024 .f32)
    (x3 : Vec F S1024x1792 .bf16) (y : Fin 256) (n : Fin 1280) :
    out0_4 x0 x1 x2 x3 (ix3 0 y n) = k0_pay2 x0 x1 x2 x3 (ix2 y (firstCol n)) := by
  unfold out0_4 r0_0 r0_1 r0_2 r0_3 r0_4
  rw [View.canon_unit_zero (by decide), View.ld_unit_zero (by decide), View.ld_unit_zero (by decide),
    View.ld_unit_zero (by decide), View.ld_unit_zero (by decide)]
  unfold k0_pay3
  generalize k0_pay2 x0 x1 x2 x3 = z
  pointwise
  rfl

theorem second_eq (x0 : Vec F S1x256x1024 .f32) (x1 : Vec F S1x1024 .f32) (x2 : Vec F S1x1x6x1024 .f32)
    (x3 : Vec F S1024x1792 .bf16) (y : Fin 256) (n : Fin 512) :
    out0_5 x0 x1 x2 x3 (ix3 0 y n) = k0_pay2 x0 x1 x2 x3 (ix2 y (secondCol n)) := by
  unfold out0_5 r0_0 r0_1 r0_2 r0_3 r0_5
  rw [View.canon_unit_zero (by decide), View.ld_unit_zero (by decide), View.ld_unit_zero (by decide),
    View.ld_unit_zero (by decide), View.ld_unit_zero (by decide)]
  unfold k0_pay1 k0_pay4
  generalize k0_pay2 x0 x1 x2 x3 = z
  pointwise
  rfl

/-! ## The arrays the kernel reads -/

variable (m : (ℓ : Loc nD τ sig) → Buf (Elt F) ℓ) (c : Dev nD)

theorem V_rows : V m c main_v0 = rowsArr (m ((c : Thread nD τ).loc main_arg0)) (m ((c : Thread nD τ).loc main_arg1)) := by
  show StableHlo.after (List.flatten [hostOps0]) _ _ = _
  simp only [hostOps0, List.flatten_cons, List.flatten_nil, List.append_nil, List.cons_append, List.nil_append]
  after_results
  rfl

theorem V_mod : V m c main_v6 = stacked (latentSix (m ((c : Thread nD τ).loc main_arg2)))
    (contextSix (m ((c : Thread nD τ).loc main_arg3))) := by
  show StableHlo.after (List.flatten [hostOps0]) _ _ = _
  simp only [hostOps0, List.flatten_cons, List.flatten_nil, List.append_nil, List.cons_append, List.nil_append]
  after_results
  rfl

theorem V_scale : V m c main_v7 = (shapeCast S1x1024 (m ((c : Thread nD τ).loc main_arg4) : FVec F S1024 .f32)
    shapeCasts_S1024_S1x1024 : FVec F S1x1024 .f32) := by
  show StableHlo.after (List.flatten [hostOps0]) _ _ = _
  simp only [hostOps0, List.flatten_cons, List.flatten_nil, List.append_nil, List.cons_append, List.nil_append]
  after_results
  rfl

theorem V_weights : V m c main_v8 = (truncf .bf16 (m ((c : Thread nD τ).loc main_arg5) : FVec F S1024x1792 .f32) bitsLt_bf16_f32
    : FVec F S1024x1792 .bf16) := by
  show StableHlo.after (List.flatten [hostOps0]) _ _ = _
  simp only [hostOps0, List.flatten_cons, List.flatten_nil, List.append_nil, List.cons_append, List.nil_append]
  after_results

end

/-! ## Where the blocks lie -/

theorem index_rows : ∀ t : Fin grid0.N, win0_0.index t (0 : Fin 3) = t.val / 33 ∧ win0_0.index t (1 : Fin 3) = t.val % 33
    ∧ win0_0.index t (2 : Fin 3) = 0 := by decide +kernel

theorem index_scale : ∀ t : Fin grid0.N, win0_1.index t (0 : Fin 2) = 0 ∧ win0_1.index t (1 : Fin 2) = 0 := by decide +kernel

theorem index_mod : ∀ t : Fin grid0.N, win0_2.index t (0 : Fin 4) = t.val / 33
    ∧ win0_2.index t (1 : Fin 4) = (if t.val % 33 = 0 then 0 else 1)
    ∧ win0_2.index t (2 : Fin 4) = 0 ∧ win0_2.index t (3 : Fin 4) = 0 := by decide +kernel

theorem index_weights : ∀ t : Fin grid0.N, win0_3.index t (0 : Fin 2) = 0 ∧ win0_3.index t (1 : Fin 2) = 0 := by decide +kernel

theorem index_first : ∀ t : Fin grid0.N, win0_4.index t (0 : Fin 3) = t.val / 33 ∧ win0_4.index t (1 : Fin 3) = t.val % 33
    ∧ win0_4.index t (2 : Fin 3) = 0 := by decide +kernel

theorem index_second : ∀ t : Fin grid0.N, win0_5.index t (0 : Fin 3) = t.val / 33 ∧ win0_5.index t (1 : Fin 3) = t.val % 33
    ∧ win0_5.index t (2 : Fin 3) = 0 := by decide +kernel

theorem points (t : Fin cfg0.N) : t.val < 132 := by
  have h := t.isLt
  have e : cfg0.N = 132 := N_0
  omega

/-- Point `t`'s batch. -/
def batchOf (t : Fin cfg0.N) : Fin 4 := ⟨t.val / 33, by have := points t; omega⟩

/-- Row `y` of point `t`'s block. -/
def rowOf (t : Fin cfg0.N) (y : Fin 256) : Fin 8448 := ⟨256 * (t.val % 33) + y.val, by omega⟩

section
variable {F : FTy → Type} [FloatOps F] (m : (ℓ : Loc nD τ sig) → Buf (Elt F) ℓ) (c : Dev nD) (t : Fin cfg0.N)

theorem rows_block (y : Fin 256) (l : Fin 1024) : (iblk m c 0 t : Vec F S1x256x1024 .f32) (ix3 0 y l)
    = (V m c main_v0 : FVec F S4x8448x1024 .f32) (ix3 (batchOf t) (rowOf t y) l) := by
  show (V m c main_v0 : FVec F S4x8448x1024 .f32) (((cfg0.win 0).blk t).view.emb (ix3 0 y l)) = _
  obtain ⟨e0, e1, e2⟩ := index_rows t
  congr 1
  funext a
  refine Fin.ext ?_
  match a with
  | ⟨0, _⟩ => show win0_0.index t (0 : Fin 3) * 1 + 1 * 0 = t.val / 33; omega
  | ⟨1, _⟩ => show win0_0.index t (1 : Fin 3) * 256 + 1 * y.val = 256 * (t.val % 33) + y.val; omega
  | ⟨2, _⟩ => show win0_0.index t (2 : Fin 3) * 1024 + 1 * l.val = l.val; omega

theorem scale_block (l : Fin 1024) : (iblk m c 1 t : Vec F S1x1024 .f32) (ix2 0 l)
    = (V m c main_v7 : FVec F S1x1024 .f32) (ix2 0 l) := by
  show (V m c main_v7 : FVec F S1x1024 .f32) (((cfg0.win 1).blk t).view.emb (ix2 0 l)) = _
  obtain ⟨e0, e1⟩ := index_scale t
  congr 1
  funext a
  refine Fin.ext ?_
  match a with
  | ⟨0, _⟩ => show win0_1.index t (0 : Fin 2) * 1 + 1 * 0 = 0; omega
  | ⟨1, _⟩ => show win0_1.index t (1 : Fin 2) * 1024 + 1 * l.val = l.val; omega

theorem side_val (y : Fin 256) : (side (rowOf t y)).val = if t.val % 33 = 0 then 0 else 1 := by
  have h : (rowOf t y).val = 256 * (t.val % 33) + y.val := rfl
  unfold side
  by_cases h0 : t.val % 33 = 0
  · rw [if_pos (show (rowOf t y).val < 256 by omega), if_pos h0]
    rfl
  · rw [if_neg (show ¬ (rowOf t y).val < 256 by omega), if_neg h0]
    rfl

/-- All rows of a block take the same modulation: a tile holds context rows or latents, never both. -/
theorem mod_block (y : Fin 256) (j : Fin 6) (l : Fin 1024) : (iblk m c 2 t : Vec F S1x1x6x1024 .f32) (ix4 0 0 j l)
    = (V m c main_v6 : FVec F S4x2x6x1024 .f32) (ix4 (batchOf t) (side (rowOf t y)) j l) := by
  show (V m c main_v6 : FVec F S4x2x6x1024 .f32) (((cfg0.win 2).blk t).view.emb (ix4 0 0 j l)) = _
  obtain ⟨e0, e1, e2, e3⟩ := index_mod t
  have e := side_val t y
  congr 1
  funext a
  refine Fin.ext ?_
  match a with
  | ⟨0, _⟩ => show win0_2.index t (0 : Fin 4) * 1 + 1 * 0 = t.val / 33; omega
  | ⟨1, _⟩ => show win0_2.index t (1 : Fin 4) * 1 + 1 * 0 = (side (rowOf t y)).val; omega
  | ⟨2, _⟩ => show win0_2.index t (2 : Fin 4) * 6 + 1 * j.val = j.val; omega
  | ⟨3, _⟩ => show win0_2.index t (3 : Fin 4) * 1024 + 1 * l.val = l.val; omega

theorem weights_block (k : Fin 1024) (n : Fin 1792) : (iblk m c 3 t : Vec F S1024x1792 .bf16) (ix2 k n)
    = (V m c main_v8 : FVec F S1024x1792 .bf16) (ix2 k n) := by
  show (V m c main_v8 : FVec F S1024x1792 .bf16) (((cfg0.win 3).blk t).view.emb (ix2 k n)) = _
  obtain ⟨e0, e1⟩ := index_weights t
  congr 1
  funext a
  refine Fin.ext ?_
  match a with
  | ⟨0, _⟩ => show win0_3.index t (0 : Fin 2) * 1024 + 1 * k.val = k.val; omega
  | ⟨1, _⟩ => show win0_3.index t (1 : Fin 2) * 1792 + 1 * n.val = n.val; omega

theorem first_block (y : Fin 256) (n : Fin 1280) :
    (((cfg0.win 4).blk t).view.emb (ix3 0 y n) : S4x8448x1280.Idx) = ix3 (batchOf t) (rowOf t y) n := by
  obtain ⟨e0, e1, e2⟩ := index_first t
  funext a
  refine Fin.ext ?_
  match a with
  | ⟨0, _⟩ => show win0_4.index t (0 : Fin 3) * 1 + 1 * 0 = t.val / 33; omega
  | ⟨1, _⟩ => show win0_4.index t (1 : Fin 3) * 256 + 1 * y.val = 256 * (t.val % 33) + y.val; omega
  | ⟨2, _⟩ => show win0_4.index t (2 : Fin 3) * 1280 + 1 * n.val = n.val; omega

theorem second_block (y : Fin 256) (n : Fin 512) :
    (((cfg0.win 5).blk t).view.emb (ix3 0 y n) : S4x8448x512.Idx) = ix3 (batchOf t) (rowOf t y) n := by
  obtain ⟨e0, e1, e2⟩ := index_second t
  funext a
  refine Fin.ext ?_
  match a with
  | ⟨0, _⟩ => show win0_5.index t (0 : Fin 3) * 1 + 1 * 0 = t.val / 33; omega
  | ⟨1, _⟩ => show win0_5.index t (1 : Fin 3) * 256 + 1 * y.val = 256 * (t.val % 33) + y.val; omega
  | ⟨2, _⟩ => show win0_5.index t (2 : Fin 3) * 512 + 1 * n.val = n.val; omega

end

/-! ## The output arrays -/

/-- Blocks that hold a row's entries give `projAt` at that row. -/
theorem block_formula (x : FVec Ideal S4x8192x1024 .f32) (ctx : FVec Ideal S4x256x1024 .f32) (mod : FVec Ideal S4x6144 .f32)
    (modc : FVec Ideal S6144 .f32) (g : FVec Ideal S1024 .f32) (w : FVec Ideal S1024x1792 .f32)
    (x0 : Vec Ideal S1x256x1024 .f32) (x1 : Vec Ideal S1x1024 .f32) (x2 : Vec Ideal S1x1x6x1024 .f32)
    (x3 : Vec Ideal S1024x1792 .bf16) (b : Fin 4) (r : Fin 8448) (y : Fin 256) (n : Fin 1792)
    (h0 : ∀ l, x0 (ix3 0 y l) = rowsArr x ctx (ix3 b r l))
    (h1 : ∀ l, x1 (ix2 0 l) = (shapeCast S1x1024 g shapeCasts_S1024_S1x1024 : FVec Ideal S1x1024 .f32) (ix2 0 l))
    (h2 : ∀ j l, x2 (ix4 0 0 j l) = stacked (latentSix mod) (contextSix modc) (ix4 b (side r) j l))
    (h3 : ∀ k, x3 (ix2 k n) = w (ix2 k n)) :
    k0_pay2 x0 x1 x2 x3 (ix2 y n) = projAt x ctx mod modc g (fun k => w (ix2 k n)) b r := by
  rw [pay_apply]
  simp only [h0, h1, h2, h3, rowsArr_apply, scale_apply, stacked_apply]
  rfl

variable (m : (ℓ : Loc nD τ sig) → Buf (Elt Ideal) ℓ) (c : Dev nD)

/-- `projAt` of the program's arguments, at a row and a column. -/
abbrev argProj (b : Fin 4) (r : Fin 8448) (n : Fin 1792) : EReal :=
  projAt (m ((c : Thread nD τ).loc main_arg0)) (m ((c : Thread nD τ).loc main_arg1)) (m ((c : Thread nD τ).loc main_arg2))
    (m ((c : Thread nD τ).loc main_arg3)) (m ((c : Thread nD τ).loc main_arg4))
    (fun k => (m ((c : Thread nD τ).loc main_arg5) : FVec Ideal S1024x1792 .f32) (ix2 k n)) b r

/-- What point `t` computes, at an entry, is the formula there. -/
theorem block_entry (t : Fin cfg0.N) (y : Fin 256) (n : Fin 1792) :
    k0_pay2 (iblk m c 0 t) (iblk m c 1 t) (iblk m c 2 t) (iblk m c 3 t) (ix2 y n) = argProj m c (batchOf t) (rowOf t y) n :=
  block_formula _ _ _ _ _ _ _ _ _ _ (batchOf t) (rowOf t y) y n
    (fun l => (rows_block m c t y l).trans (congrFun (V_rows m c) _))
    (fun l => (scale_block m c t l).trans (congrFun (V_scale m c) _))
    (fun j l => (mod_block m c t y j l).trans (congrFun (V_mod m c) _))
    (fun k => (weights_block m c t k n).trans (congrFun (V_weights m c) _))

/-- The point whose blocks hold row `r` of batch `b`. -/
def pointOf (b : Fin 4) (r : Fin 8448) : Fin cfg0.N := ⟨33 * b.val + r.val / 256, by have e : cfg0.N = 132 := N_0; omega⟩

theorem batchOf_pointOf (b : Fin 4) (r : Fin 8448) : batchOf (pointOf b r) = b :=
  Fin.ext (show (33 * b.val + r.val / 256) / 33 = b.val by omega)

theorem rowOf_pointOf (b : Fin 4) (r : Fin 8448) : rowOf (pointOf b r) ⟨r.val % 256, by omega⟩ = r :=
  Fin.ext (show 256 * ((33 * b.val + r.val / 256) % 33) + r.val % 256 = r.val by omega)

/-- The first output array, of the columns below 1280, -/
def firstArr (p : Fin 4 → Fin 8448 → Fin 1792 → EReal) : FVec Ideal S4x8448x1280 .bf16 := fun i => p (i 0) (i 1) (firstCol (i 2))

/-- and the second, of the others. -/
def secondArr (p : Fin 4 → Fin 8448 → Fin 1792 → EReal) : FVec Ideal S4x8448x512 .bf16 := fun i => p (i 0) (i 1) (secondCol (i 2))

theorem final_first : (dats m 0 c).arrAt 4 cfg0.N = firstArr (argProj m c) := by
  refine (dats m 0 c).arrAt_eq_of_emb 4 _ (fun t _ y => ?_) fun i => ?_
  · obtain ⟨r, n, rfl⟩ : ∃ (r : Fin 256) (n : Fin 1280), y = ix3 0 r n :=
      ⟨y 1, y 2, (eq_ix3 y).trans (congrArg (ix3 · (y 1) (y 2)) (Subsingleton.elim (α := Fin 1) _ _))⟩
    exact (congrFun (after0_4 m c t) _).trans ((first_eq _ _ _ _ r n).trans
      ((block_entry m c t r (firstCol n)).trans (congrArg (firstArr (argProj m c)) (first_block t r n)).symm))
  · obtain ⟨b, r, n, rfl⟩ : ∃ (b : Fin 4) (r : Fin 8448) (n : Fin 1280), i = ix3 b r n := ⟨i 0, i 1, i 2, eq_ix3 i⟩
    refine ⟨pointOf b r, flush0_4 (pointOf b r), ?_⟩
    have h := first_block (pointOf b r) ⟨r.val % 256, by omega⟩ n
    rw [batchOf_pointOf, rowOf_pointOf] at h
    exact h ▸ View.emb_mem_set _ _

theorem final_second : (dats m 0 c).arrAt 5 cfg0.N = secondArr (argProj m c) := by
  refine (dats m 0 c).arrAt_eq_of_emb 5 _ (fun t _ y => ?_) fun i => ?_
  · obtain ⟨r, n, rfl⟩ : ∃ (r : Fin 256) (n : Fin 512), y = ix3 0 r n :=
      ⟨y 1, y 2, (eq_ix3 y).trans (congrArg (ix3 · (y 1) (y 2)) (Subsingleton.elim (α := Fin 1) _ _))⟩
    exact (congrFun (after0_5 m c t) _).trans ((second_eq _ _ _ _ r n).trans
      ((block_entry m c t r (secondCol n)).trans (congrArg (secondArr (argProj m c)) (second_block t r n)).symm))
  · obtain ⟨b, r, n, rfl⟩ : ∃ (b : Fin 4) (r : Fin 8448) (n : Fin 512), i = ix3 b r n := ⟨i 0, i 1, i 2, eq_ix3 i⟩
    refine ⟨pointOf b r, flush0_5 (pointOf b r), ?_⟩
    have h := second_block (pointOf b r) ⟨r.val % 256, by omega⟩ n
    rw [batchOf_pointOf, rowOf_pointOf] at h
    exact h ▸ View.emb_mem_set _ _

end Cert.InProjSecond

/-! ## The reference -/

namespace Cert.InProjSecondRef
open Cert.Reference4Ideal Cert.Reference4Ideal.Read Cert.RowNorm Cert.InProjSecond Idealize.ShloMosaic Idealize.ShloMosaic.TcCoe
open Idealize.ShloMosaic.Pointwise

variable (x : FVec Ideal S4x8192x1024 .f32) (ctx : FVec Ideal S4x256x1024 .f32) (mod : FVec Ideal S4x6144 .f32)
    (modc : FVec Ideal S6144 .f32) (g : FVec Ideal S1024 .f32) (w : FVec Ideal S1024x1792 .f32)

/-- The normed rows are those of the first mixer's reference. -/
theorem latents_eq : val_main_v31 (F := Ideal) x mod g = Cert.Reference2Ideal.Read.val_main_v31 x mod g := rfl

theorem contexts_eq : val_main_v52 (F := Ideal) ctx modc g = Cert.Reference2Ideal.Read.val_main_v52 ctx modc g := rfl

/-- The joined products. -/
theorem joined_apply (b : Fin 4) (r : Fin 8448) (n : Fin 1792) :
    val_main_v55 (F := Ideal) x ctx mod modc g w (ix3 b r n) = projAt x ctx mod modc g (fun k => w (ix2 k n)) b r := by
  by_cases h : r.val < 256
  · refine Eq.trans ?_ (Cert.InProjRef.context_row x ctx mod modc g b r h _)
    pointwise [val_main_v55, val_main_v53, val_main_v54]
    rw [dif_pos h]
    exact Finset.sum_congr rfl fun k _ => congrArg (· * w (ix2 k n)) (congrFun (contexts_eq ctx modc g) _)
  · refine Eq.trans ?_ (Cert.InProjRef.latent_row x ctx mod modc g b r h _)
    pointwise [val_main_v55, val_main_v53, val_main_v54]
    rw [dif_neg h]
    exact Finset.sum_congr rfl fun k _ => congrArg (· * w (ix2 k n)) (congrFun (latents_eq x mod g) _)

/-- The columns below 1280 are the first result, -/
theorem first_eq : val_main_v56 (F := Ideal) x ctx mod modc g w
    = firstArr fun b r n => projAt x ctx mod modc g (fun k => w (ix2 k n)) b r := by
  funext i
  obtain ⟨b, r, n, rfl⟩ : ∃ (b : Fin 4) (r : Fin 8448) (n : Fin 1280), i = ix3 b r n := ⟨i 0, i 1, i 2, eq_ix3 i⟩
  refine Eq.trans ?_ (joined_apply x ctx mod modc g w b r (firstCol n))
  unfold val_main_v56
  generalize val_main_v55 (F := Ideal) x ctx mod modc g w = z
  pointwise
  rfl

/-- and the others the second. -/
theorem second_eq : val_main_v57 (F := Ideal) x ctx mod modc g w
    = secondArr fun b r n => projAt x ctx mod modc g (fun k => w (ix2 k n)) b r := by
  funext i
  obtain ⟨b, r, n, rfl⟩ : ∃ (b : Fin 4) (r : Fin 8448) (n : Fin 512), i = ix3 b r n := ⟨i 0, i 1, i 2, eq_ix3 i⟩
  refine Eq.trans ?_ (joined_apply x ctx mod modc g w b r (secondCol n))
  unfold val_main_v57
  generalize val_main_v55 (F := Ideal) x ctx mod modc g w = z
  pointwise
  rfl

end Cert.InProjSecondRef

end
-- ==== Proof.HeadNorm.lean ====
module
public import proofs.«01_k».proof.Proof.RowNorm

/-! # The norm of each head of a row

A row of 768 features is 12 heads of 64. A head is centred and divided by the root of its variance. The kernel sums over a head
by a product with a matrix of zeros and ones, in two parts: the rounded entries and what the rounding left. -/

@[expose] public section
noncomputable section
namespace Cert.HeadNorm
open Idealize.ShloMosaic Idealize.ShloMosaic.Pointwise

/-- Entry `d` of head `h`. -/
def entry (h : Fin 12) (d : Fin 64) : Fin 768 := ⟨64 * h.val + d.val, by omega⟩

/-- The head of entry `k`. -/
def head (k : Fin 768) : Fin 12 := ⟨k.val / 64, by omega⟩

/-- The number of entries of a head, 64. -/
def size : EReal := Ideal.ofBits .f32 0x42800000#32

/-- What is added to a variance: the single-precision number next to 0.00064. -/
def eps : EReal := Ideal.ofBits .f32 0x3A27C5AC#32

/-- The mean of a head. -/
def mean (y : Fin 768 → EReal) (h : Fin 12) : EReal := Ideal.div (∑ d, y (entry h d)) size

/-- The variance of a head. -/
def variance (y : Fin 768 → EReal) (h : Fin 12) : EReal :=
  Ideal.div (∑ d, (y (entry h d) - mean y h) * (y (entry h d) - mean y h)) size

/-- The row, each head normed, then scaled and shifted. -/
def normed (y g b : Fin 768 → EReal) (k : Fin 768) : EReal :=
  (y k - mean y (head k)) * Ideal.rsqrt (variance y (head k) + eps) * g k + b k

/-! ## As the kernel computes it -/

/-- The reciprocal of `size` as the kernel has it. -/
def recip : EReal := Ideal.ofBits .f32 0x3C800000#32

/-- A column's sum in two parts: the entries, and what is left of them. -/
def splitSum (u : Fin 768 → EReal) (e : Fin 768 → Fin 768 → EReal) (k : Fin 768) : EReal :=
  ∑ j, u j * e j k + ∑ j, (u j - u j) * e j k

/-- The row less the means. -/
def centred (y : Fin 768 → EReal) (e : Fin 768 → Fin 768 → EReal) (k : Fin 768) : EReal := y k - splitSum y e k * recip

/-- The kernel's normed row. -/
def kernelNormed (y : Fin 768 → EReal) (e : Fin 768 → Fin 768 → EReal) (g b : Fin 768 → EReal) (k : Fin 768) : EReal :=
  centred y e k * Ideal.rsqrt (splitSum (fun j => centred y e j * centred y e j) e k * recip + eps) * g k + b k

/-- One where two entries are of one head, zero elsewhere. -/
def sameHead (j k : Fin 768) : EReal := if head j = head k then 1 else 0

theorem size_eq : size = ((64 : ℝ) : EReal) := by
  simp [size, Ideal.ofBits, Ideal.ieee]
  rw [← EReal.coe_mul]; norm_num

theorem recip_eq : recip = ((64⁻¹ : ℝ) : EReal) := by
  simp [recip, Ideal.ofBits, Ideal.ieee]
  rw [← EReal.coe_mul]; norm_num

/-- Times the reciprocal is over the size. -/
theorem mul_recip (a : ℝ) : (a : EReal) * recip = Ideal.div a size := by
  rw [recip_eq, size_eq, Ideal.div, if_neg (by norm_num), EReal.coe_inv]

/-- A sum over a head's entries as one over all entries. -/
theorem sum_head (a : Fin 768 → ℝ) (k : Fin 768) :
    ∑ j, (if head j = head k then a j else 0) = ∑ d, a (entry (head k) d) := by
  rw [← Finset.sum_filter]
  refine (Finset.sum_bij (fun d _ => entry (head k) d) (fun d _ => ?_) (fun d _ d' _ h => ?_) (fun j hj => ?_) fun _ _ => rfl).symm
  · refine Finset.mem_filter.mpr ⟨Finset.mem_univ _, Fin.ext ?_⟩
    show (64 * (head k).val + d.val) / 64 = (head k).val
    omega
  · have := congrArg Fin.val h
    simp only [entry] at this
    exact Fin.ext (by omega)
  · have h := congrArg Fin.val (Finset.mem_filter.mp hj).2
    refine ⟨⟨j.val % 64, by omega⟩, Finset.mem_univ _, Fin.ext ?_⟩
    show 64 * (head k).val + j.val % 64 = j.val
    rw [← h]
    show 64 * (j.val / 64) + j.val % 64 = j.val
    omega

theorem coe_sum {ι : Type} (s : Finset ι) (a : ι → ℝ) : ((∑ i ∈ s, a i : ℝ) : EReal) = ∑ i ∈ s, (a i : EReal) :=
  map_sum (⟨⟨Real.toEReal, EReal.coe_zero⟩, EReal.coe_add⟩ : ℝ →+ EReal) a s

/-- Of reals nothing is left over, and the two parts make the head's sum. -/
theorem splitSum_eq (a : Fin 768 → ℝ) (k : Fin 768) :
    splitSum (fun j => (a j : EReal)) sameHead k = ∑ d, (a (entry (head k) d) : EReal) := by
  have h0 : ∑ j, ((a j : EReal) - (a j : EReal)) * sameHead j k = 0 :=
    Finset.sum_eq_zero fun j _ => by rw [← EReal.coe_sub, sub_self, EReal.coe_zero, zero_mul]
  have h1 : ∀ j, (a j : EReal) * sameHead j k = ((if head j = head k then a j else 0 : ℝ) : EReal) := fun j => by
    unfold sameHead
    split <;> simp
  unfold splitSum
  rw [h0, add_zero, Finset.sum_congr rfl fun j _ => h1 j, ← coe_sum, sum_head, coe_sum]

theorem head_entry (h : Fin 12) (d : Fin 64) : head (entry h d) = h :=
  Fin.ext (show (64 * h.val + d.val) / 64 = h.val by omega)

/-- The mean of a head of reals is a real. -/
theorem mean_real (a : Fin 768 → ℝ) (h : Fin 12) :
    mean (fun j => (a j : EReal)) h = ((∑ d, a (entry h d)) * 64⁻¹ : ℝ) := by
  unfold mean
  rw [← coe_sum, ← mul_recip, recip_eq, ← EReal.coe_mul]

theorem centred_eq (a : Fin 768 → ℝ) (k : Fin 768) :
    centred (fun j => (a j : EReal)) sameHead k = (a k : EReal) - mean (fun j => (a j : EReal)) (head k) := by
  unfold centred mean
  rw [splitSum_eq, ← coe_sum, mul_recip]

/-- The kernel's normed row is the normed row, where the entries are reals. -/
theorem kernelNormed_eq (a : Fin 768 → ℝ) (g b : Fin 768 → EReal) (k : Fin 768) :
    kernelNormed (fun j => (a j : EReal)) sameHead g b k = normed (fun j => (a j : EReal)) g b k := by
  have hc : ∀ j, centred (fun j => (a j : EReal)) sameHead j * centred (fun j => (a j : EReal)) sameHead j
      = (((a j - (∑ d, a (entry (head j) d)) * 64⁻¹) * (a j - (∑ d, a (entry (head j) d)) * 64⁻¹) : ℝ) : EReal) := fun j => by
    rw [centred_eq, mean_real, ← EReal.coe_sub, ← EReal.coe_mul]
  have hv : splitSum (fun j => centred (fun j => (a j : EReal)) sameHead j * centred (fun j => (a j : EReal)) sameHead j) sameHead k
      * recip = variance (fun j => (a j : EReal)) (head k) := by
    rw [funext hc, splitSum_eq, ← coe_sum, mul_recip, coe_sum]
    unfold variance
    refine congrArg (Ideal.div · size) (Finset.sum_congr rfl fun d _ => ?_)
    rw [mean_real, head_entry, ← EReal.coe_sub, ← EReal.coe_mul]
  unfold kernelNormed normed
  rw [hv, centred_eq]

end Cert.HeadNorm

end
-- ==== Proof.HeadOut.lean ====
module
public import proofs.«01_k».proof.Proof.HeadNorm
public import proofs.«01_k».proof.Proof.InProj
public import proofs.«01_k».proof.Proof.OutProj
public import proofs.«01_k».proof.Proof.Gen.Kernel5Ideal.Value

/-! # The first mixer's output projection

At grid point `t` the kernel works on batch `t / 33` and the 256 rows from `256 (t % 33)` on. It adds the two directions, norms each
head, adds the bonus, multiplies by the gate, projects this with the other half of the mixer and adds the input. -/

@[expose] public section
noncomputable section
namespace Cert.HeadOut
open Cert.Kernel5Ideal Cert.Kernel5Ideal.Gen Cert.Kernel5Ideal.Value Cert.RowNorm Cert.HeadNorm
open Cert.InProj (rowsArr stacked latentSix contextSix side rowsArr_apply stacked_apply)
open Cert.OutProj (upperArr lowerArr upperRow lowerRow upperArr_apply lowerArr_apply)
open Idealize.ShloMosaic Idealize.ShloMosaic.TcCoe Idealize.SL.Sem Idealize.ShloMosaic.Pointwise

/-! ## The formula -/

/-- A row's projection: the normed heads `yn` with bonus and gate, and the other half `v`, into a column of weights, gated by
`gate` and added to `x`. -/
def mixed (yn bonus g : Fin 768 → EReal) (v : Fin 256 → EReal) (x gate : EReal) (w₁ : Fin 768 → EReal) (w₂ : Fin 256 → EReal) :
    EReal :=
  x + gate * (∑ k, (yn k + bonus k) * g k * w₁ k + ∑ k, v k * w₂ k)

/-! ## What a point computes -/

/-- The normed heads at row `r`. -/
theorem norm_apply (x0 x1 : Vec Ideal S1x256x768 .f32) (x6 : Vec Ideal S768x768 .bf16) (x4 x5 : Vec Ideal S1x768 .f32)
    (r : Fin 256) (k : Fin 768) : k0_pay2 x0 x1 x6 x4 x5 (ix2 r k)
      = kernelNormed (fun j => x0 (ix3 0 r j) + x1 (ix3 0 r j)) (fun j k => x6 (ix2 j k)) (fun k => x4 (ix2 0 k))
        (fun k => x5 (ix2 0 k)) k := by
  pointwise [k0_pay2]
  rfl

theorem pay_apply (z : FVec Ideal S256x768 .f32) (x2 x3 : Vec Ideal S1x256x768 .f32) (x10 : Vec Ideal S768x1024 .bf16)
    (x7 : Vec Ideal S1x256x256 .bf16) (x11 : Vec Ideal S256x1024 .bf16) (x8 : Vec Ideal S1x256x1024 .f32)
    (x9 : Vec Ideal S1x1x6x1024 .f32) (r : Fin 256) (n : Fin 1024) : k0_pay1 z x2 x3 x10 x7 x11 x8 x9 (ix3 0 r n)
      = mixed (fun k => z (ix2 r k)) (fun k => x2 (ix3 0 r k)) (fun k => x3 (ix3 0 r k)) (fun k => x7 (ix3 0 r k)) (x8 (ix3 0 r n))
        (x9 (ix4 0 0 2 n)) (fun k => x10 (ix2 k n)) (fun k => x11 (ix2 k n)) := by
  pointwise [k0_pay1]
  rfl

section
variable {F : FTy → Type} [FloatOps F]

theorem out_eq (x0 x1 x2 x3 : Vec F S1x256x768 .f32) (x4 x5 : Vec F S1x768 .f32) (x6 : Vec F S768x768 .bf16)
    (x7 : Vec F S1x256x256 .bf16) (x8 : Vec F S1x256x1024 .f32) (x9 : Vec F S1x1x6x1024 .f32) (x10 : Vec F S768x1024 .bf16)
    (x11 : Vec F S256x1024 .bf16) :
    out0_12 x0 x1 x2 x3 x4 x5 x6 x7 x8 x9 x10 x11 = k0_pay1 (k0_pay2 x0 x1 x6 x4 x5) x2 x3 x10 x7 x11 x8 x9 := by
  unfold out0_12 r0_0 r0_1 r0_2 r0_3 r0_4 r0_5 r0_6 r0_7
  rw [View.canon_unit_zero (by decide)]
  iterate 12 rw [View.ld_unit_zero (by decide)]

/-! ## The arrays the kernel reads -/

/-- The head of each entry, as a column of integers. -/
def headsArr : IVec S768 32 := shapeCast S768 (iotaInDim S12x64 32 0) shapeCasts_S12x64_S768

/-- The matrix of zeros and ones: one where row and column are of one head. -/
def onesArr : FVec F S768x768 .bf16 :=
  uitofp .bf16 (cmpi .eq (broadcastInDim S768x768 ![0, 1] bcast_S768x1_S768x768_0_1 (broadcastInDim S768x1 ![0] bcast_S768_S768x1_0 headsArr))
    (broadcastInDim S768x768 ![0, 1] bcast_S1x768_S768x768_0_1 (broadcastInDim S1x768 ![1] bcast_S768_S1x768_1 headsArr)))

variable (m : (ℓ : Loc nD τ sig) → Buf (Elt F) ℓ) (c : Dev nD)

theorem V_arg0 : V m c main_arg0 = m ((c : Thread nD τ).loc main_arg0) := by
  show StableHlo.after (List.flatten [hostOps0]) _ _ = _
  simp only [hostOps0, List.flatten_cons, List.flatten_nil, List.append_nil, List.cons_append, List.nil_append]
  after_results

theorem V_arg1 : V m c main_arg1 = m ((c : Thread nD τ).loc main_arg1) := by
  show StableHlo.after (List.flatten [hostOps0]) _ _ = _
  simp only [hostOps0, List.flatten_cons, List.flatten_nil, List.append_nil, List.cons_append, List.nil_append]
  after_results

theorem V_arg2 : V m c main_arg2 = m ((c : Thread nD τ).loc main_arg2) := by
  show StableHlo.after (List.flatten [hostOps0]) _ _ = _
  simp only [hostOps0, List.flatten_cons, List.flatten_nil, List.append_nil, List.cons_append, List.nil_append]
  after_results

theorem V_arg3 : V m c main_arg3 = m ((c : Thread nD τ).loc main_arg3) := by
  show StableHlo.after (List.flatten [hostOps0]) _ _ = _
  simp only [hostOps0, List.flatten_cons, List.flatten_nil, List.append_nil, List.cons_append, List.nil_append]
  after_results

theorem V_rows : V m c main_v0 = rowsArr (m ((c : Thread nD τ).loc main_arg7)) (m ((c : Thread nD τ).loc main_arg8)) := by
  show StableHlo.after (List.flatten [hostOps0]) _ _ = _
  simp only [hostOps0, List.flatten_cons, List.flatten_nil, List.append_nil, List.cons_append, List.nil_append]
  after_results
  rfl

theorem V_mod : V m c main_v6 = stacked (latentSix (m ((c : Thread nD τ).loc main_arg9)))
    (contextSix (m ((c : Thread nD τ).loc main_arg10))) := by
  show StableHlo.after (List.flatten [hostOps0]) _ _ = _
  simp only [hostOps0, List.flatten_cons, List.flatten_nil, List.append_nil, List.cons_append, List.nil_append]
  after_results
  rfl

theorem V_other : V m c main_v7 = (truncf .bf16 (m ((c : Thread nD τ).loc main_arg6) : FVec F S4x8448x256 .f32) bitsLt_bf16_f32
    : FVec F S4x8448x256 .bf16) := by
  show StableHlo.after (List.flatten [hostOps0]) _ _ = _
  simp only [hostOps0, List.flatten_cons, List.flatten_nil, List.append_nil, List.cons_append, List.nil_append]
  after_results

theorem V_scale : V m c main_v8 = (shapeCast S1x768 (m ((c : Thread nD τ).loc main_arg4) : FVec F S768 .f32)
    shapeCasts_S768_S1x768 : FVec F S1x768 .f32) := by
  show StableHlo.after (List.flatten [hostOps0]) _ _ = _
  simp only [hostOps0, List.flatten_cons, List.flatten_nil, List.append_nil, List.cons_append, List.nil_append]
  after_results
  rfl

theorem V_shift : V m c main_v9 = (shapeCast S1x768 (m ((c : Thread nD τ).loc main_arg5) : FVec F S768 .f32)
    shapeCasts_S768_S1x768 : FVec F S1x768 .f32) := by
  show StableHlo.after (List.flatten [hostOps0]) _ _ = _
  simp only [hostOps0, List.flatten_cons, List.flatten_nil, List.append_nil, List.cons_append, List.nil_append]
  after_results
  rfl

theorem V_ones : V m c main_v17 = (onesArr : FVec F S768x768 .bf16) := by
  show StableHlo.after (List.flatten [hostOps0]) _ _ = _
  simp only [hostOps0, List.flatten_cons, List.flatten_nil, List.append_nil, List.cons_append, List.nil_append]
  after_results
  rfl

theorem V_upper : V m c main_v19 = upperArr (m ((c : Thread nD τ).loc main_arg11)) := by
  show StableHlo.after (List.flatten [hostOps0]) _ _ = _
  simp only [hostOps0, List.flatten_cons, List.flatten_nil, List.append_nil, List.cons_append, List.nil_append]
  after_results
  rfl

theorem V_lower : V m c main_v21 = lowerArr (m ((c : Thread nD τ).loc main_arg11)) := by
  show StableHlo.after (List.flatten [hostOps0]) _ _ = _
  simp only [hostOps0, List.flatten_cons, List.flatten_nil, List.append_nil, List.cons_append, List.nil_append]
  after_results
  rfl

end

theorem headsArr_apply (k : Fin 768) : headsArr (ix1 k) = BitVec.ofNat 32 (head k).val := by
  unfold headsArr
  refine (shapeCast_apply _ _ _ (ix2 (head k) ⟨k.val % 64, by omega⟩) ?_).trans rfl
  rw [Shape.rowMajor_val_two, Shape.rowMajor_val_one]
  show (k.val / 64) * 64 + k.val % 64 = k.val
  omega

theorem onesArr_apply (j k : Fin 768) : (onesArr : FVec Ideal S768x768 .bf16) (ix2 j k) = sameHead j k := by
  have h : (onesArr : FVec Ideal S768x768 .bf16) (ix2 j k)
      = FloatOps.uitofp (F := Ideal) FTy.bf16 (IntOp.cmpi .eq (headsArr (ix1 j)) (headsArr (ix1 k))) := by
    pointwise [onesArr]
  rw [h, headsArr_apply, headsArr_apply]
  unfold sameHead
  by_cases e : head j = head k
  · rw [if_pos e, e]
    show (((IntOp.cmpi .eq (BitVec.ofNat 32 (head k).val) (BitVec.ofNat 32 (head k).val)).toNat : ℝ) : EReal) = 1
    simp [IntOp.cmpi]
  · rw [if_neg e]
    have hn : BitVec.ofNat 32 (head j).val ≠ BitVec.ofNat 32 (head k).val := fun h => e (Fin.ext (by
      have h' := congrArg BitVec.toNat h
      rw [BitVec.toNat_ofNat, BitVec.toNat_ofNat] at h'
      omega))
    show (((IntOp.cmpi .eq (BitVec.ofNat 32 (head j).val) (BitVec.ofNat 32 (head k).val)).toNat : ℝ) : EReal) = 0
    simp [IntOp.cmpi, hn]

theorem param_apply (g : FVec Ideal S768 .f32) (k : Fin 768) :
    (shapeCast S1x768 g shapeCasts_S768_S1x768 : FVec Ideal S1x768 .f32) (ix2 0 k) = g (ix1 k) := by
  pointwise

end Cert.HeadOut

end
-- ==== Proof.HeadOutArray.lean ====
module
public import proofs.«01_k».proof.Proof.HeadOut

/-! # The first mixer's output projection over the whole array

Every point leaves the formula in its block, and the blocks fill the array. -/

@[expose] public section
noncomputable section
namespace Cert.HeadOut
open Cert.Kernel5Ideal Cert.Kernel5Ideal.Gen Cert.Kernel5Ideal.Value Cert.RowNorm Cert.HeadNorm
open Cert.InProj (rowsArr stacked latentSix contextSix side rowsArr_apply stacked_apply)
open Cert.OutProj (upperArr lowerArr upperRow lowerRow upperArr_apply lowerArr_apply)
open Idealize.ShloMosaic Idealize.ShloMosaic.TcCoe Idealize.SL.Sem Idealize.ShloMosaic.Pointwise

/-! ## Where the blocks lie -/

theorem index_heads : ∀ t : Fin grid0.N, win0_0.index t (0 : Fin 3) = t.val / 33 ∧ win0_0.index t (1 : Fin 3) = t.val % 33
    ∧ win0_0.index t (2 : Fin 3) = 0 := by decide +kernel

theorem index_param : ∀ t : Fin grid0.N, win0_4.index t (0 : Fin 2) = 0 ∧ win0_4.index t (1 : Fin 2) = 0 := by decide +kernel

theorem index_ones : ∀ t : Fin grid0.N, win0_6.index t (0 : Fin 2) = 0 ∧ win0_6.index t (1 : Fin 2) = 0 := by decide +kernel

theorem index_other : ∀ t : Fin grid0.N, win0_7.index t (0 : Fin 3) = t.val / 33 ∧ win0_7.index t (1 : Fin 3) = t.val % 33
    ∧ win0_7.index t (2 : Fin 3) = 0 := by decide +kernel

theorem index_rows : ∀ t : Fin grid0.N, win0_8.index t (0 : Fin 3) = t.val / 33 ∧ win0_8.index t (1 : Fin 3) = t.val % 33
    ∧ win0_8.index t (2 : Fin 3) = 0 := by decide +kernel

theorem index_mod : ∀ t : Fin grid0.N, win0_9.index t (0 : Fin 4) = t.val / 33
    ∧ win0_9.index t (1 : Fin 4) = (if t.val % 33 = 0 then 0 else 1)
    ∧ win0_9.index t (2 : Fin 4) = 0 ∧ win0_9.index t (3 : Fin 4) = 0 := by decide +kernel

theorem index_upper : ∀ t : Fin grid0.N, win0_10.index t (0 : Fin 2) = 0 ∧ win0_10.index t (1 : Fin 2) = 0 := by decide +kernel

theorem index_lower : ∀ t : Fin grid0.N, win0_11.index t (0 : Fin 2) = 0 ∧ win0_11.index t (1 : Fin 2) = 0 := by decide +kernel

theorem points (t : Fin cfg0.N) : t.val < 132 := by
  have h := t.isLt
  have e : cfg0.N = 132 := N_0
  omega

/-- Point `t`'s batch. -/
def batchOf (t : Fin cfg0.N) : Fin 4 := ⟨t.val / 33, by have := points t; omega⟩

/-- Row `y` of point `t`'s block. -/
def rowOf (t : Fin cfg0.N) (y : Fin 256) : Fin 8448 := ⟨256 * (t.val % 33) + y.val, by omega⟩

section
variable (t : Fin cfg0.N)

theorem emb_heads (y : Fin 256) (k : Fin 768) :
    (((cfg0.win 0).blk t).view.emb (ix3 0 y k) : S4x8448x768.Idx) = ix3 (batchOf t) (rowOf t y) k := by
  obtain ⟨e0, e1, e2⟩ := index_heads t
  funext a
  refine Fin.ext ?_
  match a with
  | ⟨0, _⟩ => show win0_0.index t (0 : Fin 3) * 1 + 1 * 0 = t.val / 33; omega
  | ⟨1, _⟩ => show win0_0.index t (1 : Fin 3) * 256 + 1 * y.val = 256 * (t.val % 33) + y.val; omega
  | ⟨2, _⟩ => show win0_0.index t (2 : Fin 3) * 768 + 1 * k.val = k.val; omega

theorem emb_param (k : Fin 768) : (((cfg0.win 4).blk t).view.emb (ix2 0 k) : S1x768.Idx) = ix2 0 k := by
  obtain ⟨e0, e1⟩ := index_param t
  funext a
  refine Fin.ext ?_
  match a with
  | ⟨0, _⟩ => show win0_4.index t (0 : Fin 2) * 1 + 1 * 0 = 0; omega
  | ⟨1, _⟩ => show win0_4.index t (1 : Fin 2) * 768 + 1 * k.val = k.val; omega

theorem emb_ones (j k : Fin 768) : (((cfg0.win 6).blk t).view.emb (ix2 j k) : S768x768.Idx) = ix2 j k := by
  obtain ⟨e0, e1⟩ := index_ones t
  funext a
  refine Fin.ext ?_
  match a with
  | ⟨0, _⟩ => show win0_6.index t (0 : Fin 2) * 768 + 1 * j.val = j.val; omega
  | ⟨1, _⟩ => show win0_6.index t (1 : Fin 2) * 768 + 1 * k.val = k.val; omega

theorem emb_other (y k : Fin 256) :
    (((cfg0.win 7).blk t).view.emb (ix3 0 y k) : S4x8448x256.Idx) = ix3 (batchOf t) (rowOf t y) k := by
  obtain ⟨e0, e1, e2⟩ := index_other t
  funext a
  refine Fin.ext ?_
  match a with
  | ⟨0, _⟩ => show win0_7.index t (0 : Fin 3) * 1 + 1 * 0 = t.val / 33; omega
  | ⟨1, _⟩ => show win0_7.index t (1 : Fin 3) * 256 + 1 * y.val = 256 * (t.val % 33) + y.val; omega
  | ⟨2, _⟩ => show win0_7.index t (2 : Fin 3) * 256 + 1 * k.val = k.val; omega

theorem emb_rows (y : Fin 256) (n : Fin 1024) :
    (((cfg0.win 8).blk t).view.emb (ix3 0 y n) : S4x8448x1024.Idx) = ix3 (batchOf t) (rowOf t y) n := by
  obtain ⟨e0, e1, e2⟩ := index_rows t
  funext a
  refine Fin.ext ?_
  match a with
  | ⟨0, _⟩ => show win0_8.index t (0 : Fin 3) * 1 + 1 * 0 = t.val / 33; omega
  | ⟨1, _⟩ => show win0_8.index t (1 : Fin 3) * 256 + 1 * y.val = 256 * (t.val % 33) + y.val; omega
  | ⟨2, _⟩ => show win0_8.index t (2 : Fin 3) * 1024 + 1 * n.val = n.val; omega

theorem side_val (y : Fin 256) : (side (rowOf t y)).val = if t.val % 33 = 0 then 0 else 1 := by
  have h : (rowOf t y).val = 256 * (t.val % 33) + y.val := rfl
  unfold side
  by_cases h0 : t.val % 33 = 0
  · rw [if_pos (show (rowOf t y).val < 256 by omega), if_pos h0]
    rfl
  · rw [if_neg (show ¬ (rowOf t y).val < 256 by omega), if_neg h0]
    rfl

/-- All rows of a block take the same modulation. -/
theorem emb_mod (y : Fin 256) (n : Fin 1024) :
    (((cfg0.win 9).blk t).view.emb (ix4 0 0 2 n) : S4x2x6x1024.Idx) = ix4 (batchOf t) (side (rowOf t y)) 2 n := by
  obtain ⟨e0, e1, e2, e3⟩ := index_mod t
  have e := side_val t y
  funext a
  refine Fin.ext ?_
  match a with
  | ⟨0, _⟩ => show win0_9.index t (0 : Fin 4) * 1 + 1 * 0 = t.val / 33; omega
  | ⟨1, _⟩ => show win0_9.index t (1 : Fin 4) * 1 + 1 * 0 = (side (rowOf t y)).val; omega
  | ⟨2, _⟩ => show win0_9.index t (2 : Fin 4) * 6 + 1 * 2 = 2; omega
  | ⟨3, _⟩ => show win0_9.index t (3 : Fin 4) * 1024 + 1 * n.val = n.val; omega

theorem emb_upper (k : Fin 768) (n : Fin 1024) : (((cfg0.win 10).blk t).view.emb (ix2 k n) : S768x1024.Idx) = ix2 k n := by
  obtain ⟨e0, e1⟩ := index_upper t
  funext a
  refine Fin.ext ?_
  match a with
  | ⟨0, _⟩ => show win0_10.index t (0 : Fin 2) * 768 + 1 * k.val = k.val; omega
  | ⟨1, _⟩ => show win0_10.index t (1 : Fin 2) * 1024 + 1 * n.val = n.val; omega

theorem emb_lower (k : Fin 256) (n : Fin 1024) : (((cfg0.win 11).blk t).view.emb (ix2 k n) : S256x1024.Idx) = ix2 k n := by
  obtain ⟨e0, e1⟩ := index_lower t
  funext a
  refine Fin.ext ?_
  match a with
  | ⟨0, _⟩ => show win0_11.index t (0 : Fin 2) * 256 + 1 * k.val = k.val; omega
  | ⟨1, _⟩ => show win0_11.index t (1 : Fin 2) * 1024 + 1 * n.val = n.val; omega

/-- The output's blocks lie as the input rows' do. -/
theorem emb_out (y : Fin 256) (n : Fin 1024) :
    (((cfg0.win 12).blk t).view.emb (ix3 0 y n) : S4x8448x1024.Idx) = ix3 (batchOf t) (rowOf t y) n := emb_rows t y n

variable {F : FTy → Type} [FloatOps F] (m : (ℓ : Loc nD τ sig) → Buf (Elt F) ℓ) (c : Dev nD)

theorem forward_block (y : Fin 256) (k : Fin 768) : (iblk m c 0 t : Vec F S1x256x768 .f32) (ix3 0 y k)
    = (m ((c : Thread nD τ).loc main_arg0) : FVec F S4x8448x768 .f32) (ix3 (batchOf t) (rowOf t y) k) :=
  (congrArg (V m c main_arg0 : FVec F S4x8448x768 .f32) (emb_heads t y k)).trans (congrFun (V_arg0 m c) _)

theorem backward_block (y : Fin 256) (k : Fin 768) : (iblk m c 1 t : Vec F S1x256x768 .f32) (ix3 0 y k)
    = (m ((c : Thread nD τ).loc main_arg1) : FVec F S4x8448x768 .f32) (ix3 (batchOf t) (rowOf t y) k) :=
  (congrArg (V m c main_arg1 : FVec F S4x8448x768 .f32) (emb_heads t y k)).trans (congrFun (V_arg1 m c) _)

theorem bonus_block (y : Fin 256) (k : Fin 768) : (iblk m c 2 t : Vec F S1x256x768 .f32) (ix3 0 y k)
    = (m ((c : Thread nD τ).loc main_arg2) : FVec F S4x8448x768 .f32) (ix3 (batchOf t) (rowOf t y) k) :=
  (congrArg (V m c main_arg2 : FVec F S4x8448x768 .f32) (emb_heads t y k)).trans (congrFun (V_arg2 m c) _)

theorem gate_block (y : Fin 256) (k : Fin 768) : (iblk m c 3 t : Vec F S1x256x768 .f32) (ix3 0 y k)
    = (m ((c : Thread nD τ).loc main_arg3) : FVec F S4x8448x768 .f32) (ix3 (batchOf t) (rowOf t y) k) :=
  (congrArg (V m c main_arg3 : FVec F S4x8448x768 .f32) (emb_heads t y k)).trans (congrFun (V_arg3 m c) _)

theorem scale_block (k : Fin 768) : (iblk m c 4 t : Vec F S1x768 .f32) (ix2 0 k)
    = (shapeCast S1x768 (m ((c : Thread nD τ).loc main_arg4) : FVec F S768 .f32) shapeCasts_S768_S1x768 : FVec F S1x768 .f32)
      (ix2 0 k) :=
  (congrArg (V m c main_v8 : FVec F S1x768 .f32) (emb_param t k)).trans (congrFun (V_scale m c) _)

theorem shift_block (k : Fin 768) : (iblk m c 5 t : Vec F S1x768 .f32) (ix2 0 k)
    = (shapeCast S1x768 (m ((c : Thread nD τ).loc main_arg5) : FVec F S768 .f32) shapeCasts_S768_S1x768 : FVec F S1x768 .f32)
      (ix2 0 k) :=
  (congrArg (V m c main_v9 : FVec F S1x768 .f32) (emb_param t k)).trans (congrFun (V_shift m c) _)

theorem ones_block (j k : Fin 768) : (iblk m c 6 t : Vec F S768x768 .bf16) (ix2 j k)
    = (onesArr : FVec F S768x768 .bf16) (ix2 j k) :=
  (congrArg (V m c main_v17 : FVec F S768x768 .bf16) (emb_ones t j k)).trans (congrFun (V_ones m c) _)

theorem other_block (y k : Fin 256) : (iblk m c 7 t : Vec F S1x256x256 .bf16) (ix3 0 y k)
    = (truncf .bf16 (m ((c : Thread nD τ).loc main_arg6) : FVec F S4x8448x256 .f32) bitsLt_bf16_f32 : FVec F S4x8448x256 .bf16)
      (ix3 (batchOf t) (rowOf t y) k) :=
  (congrArg (V m c main_v7 : FVec F S4x8448x256 .bf16) (emb_other t y k)).trans (congrFun (V_other m c) _)

theorem rows_block (y : Fin 256) (n : Fin 1024) : (iblk m c 8 t : Vec F S1x256x1024 .f32) (ix3 0 y n)
    = rowsArr (m ((c : Thread nD τ).loc main_arg7)) (m ((c : Thread nD τ).loc main_arg8)) (ix3 (batchOf t) (rowOf t y) n) :=
  (congrArg (V m c main_v0 : FVec F S4x8448x1024 .f32) (emb_rows t y n)).trans (congrFun (V_rows m c) _)

theorem mod_block (y : Fin 256) (n : Fin 1024) : (iblk m c 9 t : Vec F S1x1x6x1024 .f32) (ix4 0 0 2 n)
    = stacked (latentSix (m ((c : Thread nD τ).loc main_arg9))) (contextSix (m ((c : Thread nD τ).loc main_arg10)))
      (ix4 (batchOf t) (side (rowOf t y)) 2 n) :=
  (congrArg (V m c main_v6 : FVec F S4x2x6x1024 .f32) (emb_mod t y n)).trans (congrFun (V_mod m c) _)

theorem upper_block (k : Fin 768) (n : Fin 1024) : (iblk m c 10 t : Vec F S768x1024 .bf16) (ix2 k n)
    = upperArr (m ((c : Thread nD τ).loc main_arg11)) (ix2 k n) :=
  (congrArg (V m c main_v19 : FVec F S768x1024 .bf16) (emb_upper t k n)).trans (congrFun (V_upper m c) _)

theorem lower_block (k : Fin 256) (n : Fin 1024) : (iblk m c 11 t : Vec F S256x1024 .bf16) (ix2 k n)
    = lowerArr (m ((c : Thread nD τ).loc main_arg11)) (ix2 k n) :=
  (congrArg (V m c main_v21 : FVec F S256x1024 .bf16) (emb_lower t k n)).trans (congrFun (V_lower m c) _)

end

/-! ## The output array -/

/-- The whole result: at each row the two directions' sum normed by heads, with bonus and gate, projected with the other half of
the mixer, gated and added to the input. -/
def resultArr (yf yr bonus g : S4x8448x768.Idx → EReal) (lg lb : S768.Idx → EReal) (o : S4x8448x256.Idx → EReal)
    (x : S4x8192x1024.Idx → EReal) (ctx : S4x256x1024.Idx → EReal) (mod : S4x6144.Idx → EReal) (modc : S6144.Idx → EReal)
    (w : S1024x1024.Idx → EReal) : S4x8448x1024.Idx → EReal :=
  fun i => mixed (normed (fun k => yf (ix3 (i 0) (i 1) k) + yr (ix3 (i 0) (i 1) k)) (fun k => lg (ix1 k)) (fun k => lb (ix1 k)))
    (fun k => bonus (ix3 (i 0) (i 1) k)) (fun k => g (ix3 (i 0) (i 1) k)) (fun k => o (ix3 (i 0) (i 1) k))
    (rowAt x ctx (i 0) (i 1) (i 2)) (modAt mod modc (i 0) (i 1) 2 (i 2)) (fun k => w (ix2 (upperRow k) (i 2)))
    (fun k => w (ix2 (lowerRow k) (i 2)))

/-- All entries are reals. -/
def Reals (a : S4x8448x768.Idx → EReal) : Prop := ∀ i, a i = ((a i).toReal : EReal)

/-- Blocks that hold the rows of one batch give the formula. -/
theorem block_formula (yf yr bonus g : S4x8448x768.Idx → EReal) (lg lb : FVec Ideal S768 .f32) (o : S4x8448x256.Idx → EReal)
    (x : FVec Ideal S4x8192x1024 .f32) (ctx : FVec Ideal S4x256x1024 .f32) (mod : FVec Ideal S4x6144 .f32)
    (modc : FVec Ideal S6144 .f32) (w : FVec Ideal S1024x1024 .f32) (hf : Reals yf) (hr : Reals yr)
    (x0 x1 x2 x3 : Vec Ideal S1x256x768 .f32) (x4 x5 : Vec Ideal S1x768 .f32) (x6 : Vec Ideal S768x768 .bf16)
    (x7 : Vec Ideal S1x256x256 .bf16) (x8 : Vec Ideal S1x256x1024 .f32) (x9 : Vec Ideal S1x1x6x1024 .f32)
    (x10 : Vec Ideal S768x1024 .bf16) (x11 : Vec Ideal S256x1024 .bf16) (b : Fin 4) (r : Fin 8448) (y : Fin 256) (n : Fin 1024)
    (h0 : ∀ k, x0 (ix3 0 y k) = yf (ix3 b r k)) (h1 : ∀ k, x1 (ix3 0 y k) = yr (ix3 b r k))
    (h2 : ∀ k, x2 (ix3 0 y k) = bonus (ix3 b r k)) (h3 : ∀ k, x3 (ix3 0 y k) = g (ix3 b r k))
    (h4 : ∀ k, x4 (ix2 0 k) = (shapeCast S1x768 lg shapeCasts_S768_S1x768 : FVec Ideal S1x768 .f32) (ix2 0 k))
    (h5 : ∀ k, x5 (ix2 0 k) = (shapeCast S1x768 lb shapeCasts_S768_S1x768 : FVec Ideal S1x768 .f32) (ix2 0 k))
    (h6 : ∀ j k, x6 (ix2 j k) = (onesArr : FVec Ideal S768x768 .bf16) (ix2 j k)) (h7 : ∀ k, x7 (ix3 0 y k) = o (ix3 b r k))
    (h8 : x8 (ix3 0 y n) = rowsArr x ctx (ix3 b r n))
    (h9 : x9 (ix4 0 0 2 n) = stacked (latentSix mod) (contextSix modc) (ix4 b (side r) 2 n))
    (h10 : ∀ k, x10 (ix2 k n) = upperArr w (ix2 k n)) (h11 : ∀ k, x11 (ix2 k n) = lowerArr w (ix2 k n)) :
    out0_12 x0 x1 x2 x3 x4 x5 x6 x7 x8 x9 x10 x11 (ix3 0 y n) = resultArr yf yr bonus g lg lb o x ctx mod modc w (ix3 b r n) := by
  have hs : (fun k => x0 (ix3 0 y k) + x1 (ix3 0 y k))
      = fun k => (((yf (ix3 b r k)).toReal + (yr (ix3 b r k)).toReal : ℝ) : EReal) :=
    funext fun k => by rw [h0, h1, EReal.coe_add, ← hf, ← hr]
  have hs' : (fun k => yf (ix3 b r k) + yr (ix3 b r k))
      = fun k => (((yf (ix3 b r k)).toReal + (yr (ix3 b r k)).toReal : ℝ) : EReal) :=
    funext fun k => by rw [EReal.coe_add, ← hf, ← hr]
  have hn : (fun k => k0_pay2 x0 x1 x6 x4 x5 (ix2 y k))
      = normed (fun k => yf (ix3 b r k) + yr (ix3 b r k)) (fun k => lg (ix1 k)) (fun k => lb (ix1 k)) :=
    funext fun k => by
      rw [norm_apply, hs, hs', funext fun j => funext fun k => (h6 j k).trans (onesArr_apply j k),
        funext fun k => (h4 k).trans (param_apply lg k), funext fun k => (h5 k).trans (param_apply lb k)]
      exact kernelNormed_eq _ _ _ k
  rw [out_eq, pay_apply, hn, h8, h9, rowsArr_apply, stacked_apply, funext h2, funext h3, funext h7,
    funext fun k => (h10 k).trans (upperArr_apply w k n), funext fun k => (h11 k).trans (lowerArr_apply w k n)]
  rfl

variable (m : (ℓ : Loc nD τ sig) → Buf (Elt Ideal) ℓ) (c : Dev nD)

/-- The formula of the program's arguments. -/
abbrev argResult : FVec Ideal S4x8448x1024 .f32 :=
  resultArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- The point whose block holds row `r` of batch `b`. -/
def pointOf (b : Fin 4) (r : Fin 8448) : Fin cfg0.N := ⟨33 * b.val + r.val / 256, by have e : cfg0.N = 132 := N_0; omega⟩

theorem batchOf_pointOf (b : Fin 4) (r : Fin 8448) : batchOf (pointOf b r) = b :=
  Fin.ext (show (33 * b.val + r.val / 256) / 33 = b.val by omega)

theorem rowOf_pointOf (b : Fin 4) (r : Fin 8448) : rowOf (pointOf b r) ⟨r.val % 256, by omega⟩ = r :=
  Fin.ext (show 256 * ((33 * b.val + r.val / 256) % 33) + r.val % 256 = r.val by omega)

theorem final_out (hf : Reals (m ((c : Thread nD τ).loc main_arg0))) (hr : Reals (m ((c : Thread nD τ).loc main_arg1))) :
    (dats m 0 c).arrAt 12 cfg0.N = argResult m c := by
  refine (dats m 0 c).arrAt_eq_of_emb 12 _ (fun t _ y => ?_) fun i => ?_
  · obtain ⟨r, n, rfl⟩ : ∃ (r : Fin 256) (n : Fin 1024), y = ix3 0 r n :=
      ⟨y 1, y 2, (eq_ix3 y).trans (congrArg (ix3 · (y 1) (y 2)) (Subsingleton.elim (α := Fin 1) _ _))⟩
    refine (congrFun (after0_12 m c t) _).trans ((block_formula _ _ _ _ _ _ _ _ _ _ _ _ hf hr _ _ _ _ _ _ _ _ _ _ _ _
      (batchOf t) (rowOf t r) r n (forward_block t m c r) (backward_block t m c r) (bonus_block t m c r) (gate_block t m c r)
      (scale_block t m c) (shift_block t m c) (ones_block t m c) (other_block t m c r) (rows_block t m c r n)
      (mod_block t m c r n) (fun k => upper_block t m c k n) (fun k => lower_block t m c k n)).trans
      (congrArg (argResult m c) (emb_out t r n)).symm)
  · obtain ⟨b, r, n, rfl⟩ : ∃ (b : Fin 4) (r : Fin 8448) (n : Fin 1024), i = ix3 b r n := ⟨i 0, i 1, i 2, eq_ix3 i⟩
    refine ⟨pointOf b r, flush0_12 (pointOf b r), ?_⟩
    have h := emb_out (pointOf b r) ⟨r.val % 256, by omega⟩ n
    rw [batchOf_pointOf, rowOf_pointOf] at h
    exact h ▸ View.emb_mem_set _ _

end Cert.HeadOut

end
-- ==== Proof.HeadOutRef.lean ====
module
public import proofs.«01_k».proof.Proof.HeadOutArray
public import proofs.«01_k».proof.Proof.Gen.Reference5Ideal.Read

/-! # The reference of the first mixer's output projection

It splits the rows into heads, norms them, joins them with the other half of the mixer and makes one product. Latents and context
take their own gates and are joined again. -/

@[expose] public section
noncomputable section
namespace Cert.HeadOutRef
open Cert.Reference5Ideal Cert.Reference5Ideal.Read Cert.RowNorm Cert.HeadNorm Cert.HeadOut
open Cert.OutProj (upperRow lowerRow)
open Idealize.ShloMosaic Idealize.ShloMosaic.TcCoe Idealize.ShloMosaic.Pointwise

variable (yf yr bonus g : FVec Ideal S4x8448x768 .f32) (lg lb : FVec Ideal S768 .f32) (o : FVec Ideal S4x8448x256 .f32)
    (x : FVec Ideal S4x8192x1024 .f32) (ctx : FVec Ideal S4x256x1024 .f32) (mod : FVec Ideal S4x6144 .f32)
    (modc : FVec Ideal S6144 .f32) (w : FVec Ideal S1024x1024 .f32)

/-- The two directions' sum, by heads. -/
theorem heads_apply (b : Fin 4) (r : Fin 8448) (h : Fin 12) (d : Fin 64) : val_main_v14 (F := Ideal) yf yr (ix4 b r h d)
    = yf (ix3 b r (entry h d)) + yr (ix3 b r (entry h d)) := by
  unfold val_main_v14
  refine (shapeCast_apply _ _ _ (ix3 b r (entry h d)) ?_).trans rfl
  rw [Shape.rowMajor_val_three, Shape.rowMajor_val_four]
  show (b.val * 8448 + r.val) * 768 + (64 * h.val + d.val) = ((b.val * 8448 + r.val) * 12 + h.val) * 64 + d.val
  omega

/-- A head, normed. -/
theorem head_apply (b : Fin 4) (r : Fin 8448) (h : Fin 12) (d : Fin 64) : val_main_v32 (F := Ideal) yf yr (ix4 b r h d)
    = (yf (ix3 b r (entry h d)) + yr (ix3 b r (entry h d)) - mean (fun k => yf (ix3 b r k) + yr (ix3 b r k)) h)
      * Ideal.rsqrt (variance (fun k => yf (ix3 b r k) + yr (ix3 b r k)) h + HeadNorm.eps) := by
  pointwise [val_main_v32, val_main_v31, val_main_v30, val_main_v29, val_main_v28, val_main_v27, val_main_v26, val_main_v25,
    val_main_v24, val_main_v23, val_main_v22, val_main_v21, val_main_v20, val_main_v19, val_main_v18, val_main_v17, val_main_v16,
    val_main_v15, val_main_cst, val_main_cst_0, val_main_cst_1, val_main_cst_2, val_main_cst_3]
  simp only [heads_apply]
  rfl

/-- A row, normed, with bonus and gate. -/
theorem gated_apply (b : Fin 4) (r : Fin 8448) (k : Fin 768) : val_main_v41 (F := Ideal) yf yr bonus g lg lb (ix3 b r k)
    = (normed (fun k => yf (ix3 b r k) + yr (ix3 b r k)) (fun k => lg (ix1 k)) (fun k => lb (ix1 k)) k + bonus (ix3 b r k))
      * g (ix3 b r k) := by
  have hk : entry (head k) ⟨k.val % 64, by omega⟩ = k := Fin.ext (show 64 * (k.val / 64) + k.val % 64 = k.val by omega)
  have h33 : val_main_v33 (F := Ideal) yf yr (ix3 b r k)
      = val_main_v32 (F := Ideal) yf yr (ix4 b r (head k) ⟨k.val % 64, by omega⟩) := by
    unfold val_main_v33
    refine shapeCast_apply _ _ _ _ ?_
    rw [Shape.rowMajor_val_three, Shape.rowMajor_val_four]
    show ((b.val * 8448 + r.val) * 12 + k.val / 64) * 64 + k.val % 64 = (b.val * 8448 + r.val) * 768 + k.val
    omega
  have h41 : val_main_v41 (F := Ideal) yf yr bonus g lg lb (ix3 b r k)
      = (val_main_v33 (F := Ideal) yf yr (ix3 b r k) * lg (ix1 k) + lb (ix1 k) + bonus (ix3 b r k)) * g (ix3 b r k) := by
    pointwise [val_main_v41, val_main_v40, val_main_v39, val_main_v38, val_main_v37, val_main_v36, val_main_v35, val_main_v34]
  rw [h41, h33, head_apply, hk]
  rfl

/-- The joined halves of the mixer. -/
theorem joined_apply (b : Fin 4) (r : Fin 8448) (k : Fin 1024) : val_main_v42 (F := Ideal) yf yr bonus g lg lb o (ix3 b r k)
    = if h : k.val < 768 then val_main_v41 (F := Ideal) yf yr bonus g lg lb (ix3 b r ⟨k.val, h⟩)
      else o (ix3 b r ⟨k.val - 768, by omega⟩) := by
  pointwise [val_main_v42]

/-- The product with the joined halves is the sum of the two products. -/
theorem product_apply (b : Fin 4) (r : Fin 8448) (n : Fin 1024) : val_main_v43 (F := Ideal) yf yr bonus g lg lb o w (ix3 b r n)
    = ∑ k : Fin 768, (normed (fun k => yf (ix3 b r k) + yr (ix3 b r k)) (fun k => lg (ix1 k)) (fun k => lb (ix1 k)) k
        + bonus (ix3 b r k)) * g (ix3 b r k) * w (ix2 (upperRow k) n) + ∑ k : Fin 256, o (ix3 b r k) * w (ix2 (lowerRow k) n) := by
  have h : val_main_v43 (F := Ideal) yf yr bonus g lg lb o w (ix3 b r n)
      = ∑ k : Fin (768 + 256), val_main_v42 (F := Ideal) yf yr bonus g lg lb o (ix3 b r k) * w (ix2 k n) := by
    unfold val_main_v43
    generalize val_main_v42 (F := Ideal) yf yr bonus g lg lb o = z
    pointwise
  rw [h, Fin.sum_univ_add]
  refine congrArg₂ (· + ·) (Finset.sum_congr rfl fun k _ => ?_) (Finset.sum_congr rfl fun k _ => ?_)
  · rw [joined_apply, dif_pos (show (Fin.castAdd 256 k).val < 768 from k.isLt)]
    exact congrArg (· * w (ix2 (upperRow k) n)) (gated_apply yf yr bonus g lg lb b r k)
  · have hk : (Fin.natAdd 768 k).val = 768 + k.val := rfl
    rw [joined_apply, dif_neg (by rw [hk]; omega)]
    refine congrArg₂ (· * ·) (congrArg (fun q => o (ix3 b r q)) (Fin.ext ?_)) rfl
    show (Fin.natAdd 768 k).val - 768 = k.val
    omega

/-- A row of the context, -/
theorem context_apply (b : Fin 4) (r : Fin 256) (n : Fin 1024) :
    val_main_v48 (F := Ideal) yf yr bonus g lg lb o ctx modc w (ix3 b r n) = ctx (ix3 b r n) + modc (ix1 (sixth 2 n))
      * val_main_v43 (F := Ideal) yf yr bonus g lg lb o w (ix3 b ⟨r.val, by omega⟩ n) := by
  pointwise [val_main_v48, val_main_v47, val_main_v46, val_main_v45, val_main_v44, val_main_v9]
  rfl

/-- and of the latents. -/
theorem latent_apply (b : Fin 4) (r : Fin 8192) (n : Fin 1024) :
    val_main_v52 (F := Ideal) yf yr bonus g lg lb o x mod w (ix3 b r n) = x (ix3 b r n) + mod (ix2 b (sixth 2 n))
      * val_main_v43 (F := Ideal) yf yr bonus g lg lb o w (ix3 b ⟨256 + r.val, by omega⟩ n) := by
  pointwise [val_main_v52, val_main_v51, val_main_v50, val_main_v49, val_main_v3, val_main_v0]
  rfl

theorem result_eq : val_main_v53 (F := Ideal) yf yr bonus g lg lb o x ctx mod modc w
    = resultArr yf yr bonus g lg lb o x ctx mod modc w := by
  funext i
  obtain ⟨b, r, n, rfl⟩ : ∃ (b : Fin 4) (r : Fin 8448) (n : Fin 1024), i = ix3 b r n := ⟨i 0, i 1, i 2, eq_ix3 i⟩
  have h : val_main_v53 (F := Ideal) yf yr bonus g lg lb o x ctx mod modc w (ix3 b r n)
      = if h : r.val < 256 then val_main_v48 (F := Ideal) yf yr bonus g lg lb o ctx modc w (ix3 b ⟨r.val, h⟩ n)
        else val_main_v52 (F := Ideal) yf yr bonus g lg lb o x mod w (ix3 b ⟨r.val - 256, by omega⟩ n) := by
    pointwise [val_main_v53]
  have e : resultArr yf yr bonus g lg lb o x ctx mod modc w (ix3 b r n) = rowAt x ctx b r n + modAt mod modc b r 2 n
      * val_main_v43 (F := Ideal) yf yr bonus g lg lb o w (ix3 b r n) := by
    rw [product_apply]
    rfl
  rw [h, e]
  unfold rowAt modAt
  by_cases hr : r.val < 256
  · rw [dif_pos hr, dif_pos hr, if_pos hr, context_apply]
  · have hs : (⟨256 + (r.val - 256), by omega⟩ : Fin 8448) = r := Fin.ext (show 256 + (r.val - 256) = r.val by omega)
    rw [dif_neg hr, dif_neg hr, if_neg hr, latent_apply]
    exact congrArg (fun q => x (ix3 b ⟨r.val - 256, by omega⟩ n) + mod (ix2 b (sixth 2 n))
      * val_main_v43 (F := Ideal) yf yr bonus g lg lb o w (ix3 b q n)) hs

end Cert.HeadOutRef

end
-- ==== Proof.Prep.lean ====
module
public import proofs.«01_k».proof.Proof.HeadNorm

/-! # The recurrence's terms at one row

A shifted row has 2688 columns: three times 768 for the receptance, the key and the value, and three times 128 for the decay, the
rate and the gate. The last 128 of decay and rate are 64 for each of the two directions. Here are the terms made of them, and the
kernel's way to them: it multiplies in parts, the rounded entries and what the rounding left. -/

@[expose] public section
noncomputable section
namespace Cert.Prep
open Cert.HeadNorm Idealize.ShloMosaic Idealize.ShloMosaic.Pointwise

/-! ## The columns -/

/-- Column `k` of the receptance, -/
def colR (k : Fin 768) : Fin 2688 := ⟨k.val, by omega⟩
/-- of the key, -/
def colK (k : Fin 768) : Fin 2688 := ⟨768 + k.val, by omega⟩
/-- of the value, -/
def colV (k : Fin 768) : Fin 2688 := ⟨1536 + k.val, by omega⟩
/-- column `q` of direction `d`'s decay, -/
def colW (d : Fin 2) (q : Fin 64) : Fin 2688 := ⟨2304 + (64 * d.val + q.val), by omega⟩
/-- of its rate, -/
def colA (d : Fin 2) (q : Fin 64) : Fin 2688 := ⟨2432 + (64 * d.val + q.val), by omega⟩
/-- and column `j` of the gate. -/
def colG (j : Fin 128) : Fin 2688 := ⟨2560 + j.val, by omega⟩

/-! ## The terms -/

/-- The least norm a key is divided by: the single-precision number next to 10⁻¹². -/
def tiny : EReal := Ideal.ofBits .f32 0x2B8CBCCC#32

/-- One half. -/
def half : EReal := Ideal.ofBits .f32 0x3F000000#32

/-- The logarithm of `1 + eˣ`, so written that the exponential stays small. -/
def softplus (x : EReal) : EReal := max x 0 + Ideal.log1p (Ideal.exp (-max x (-x)))

/-- The decay's logarithm at the pre-activation `x`. -/
def decayOf (x : EReal) : EReal := -Ideal.exp (-softplus (-x) - half)

section
variable (s : Fin 2688 → EReal) (w0 a0 : Fin 2 → Fin 768 → EReal) (w2 a2 : Fin 2 → Fin 64 → Fin 768 → EReal)
    (g2 : Fin 128 → Fin 768 → EReal) (kk ka rk : Fin 768 → EReal)

/-- The gate. -/
def gate (k : Fin 768) : EReal := ∑ j, Ideal.logistic (s (colG j)) * g2 j k

/-- The key that is removed, before its norm, -/
def scaledKey (k : Fin 768) : EReal := s (colK k) * kk k

/-- and divided by its head's norm. -/
def unitKey (k : Fin 768) : EReal :=
  Ideal.div (scaledKey s kk k) (max (Ideal.sqrt (∑ d, scaledKey s kk (entry (head k) d) * scaledKey s kk (entry (head k) d))) tiny)

/-- The decay's logarithm in direction `d`. -/
def logDecay (d : Fin 2) (k : Fin 768) : EReal := decayOf (w0 d k + ∑ q, Ideal.tanh (s (colW d q)) * w2 d q k)

/-- The rate in direction `d`. -/
def rate (d : Fin 2) (k : Fin 768) : EReal := Ideal.logistic (a0 d k + ∑ q, s (colA d q) * a2 d q k)

/-- The key in direction `d`. -/
def key (d : Fin 2) (k : Fin 768) : EReal := s (colK k) * (1 + (rate s a0 a2 d k - 1) * ka k)

/-- What is written for the removed key in direction `d`. -/
def written (d : Fin 2) (k : Fin 768) : EReal := unitKey s kk k * rate s a0 a2 d k

/-- A head's own weight in direction `d`. -/
def ownWeight (d : Fin 2) (h : Fin 12) : EReal :=
  ∑ e, s (colR (entry h e)) * key s a0 a2 ka d (entry h e) * rk (entry h e)

/-- The bonus: the value times the head's own weights. -/
def bonus (k : Fin 768) : EReal :=
  ownWeight s a0 a2 ka rk 0 (head k) * s (colV k) + ownWeight s a0 a2 ka rk 1 (head k) * s (colV k)

end

/-! ## As the kernel computes them -/

/-- A product in parts: both rounded, then what the rounding left of one factor by the other. -/
def splitProd {n : ℕ} (u w : Fin n → EReal) : EReal :=
  ∑ j, u j * w j + (∑ j, u j * (w j - w j) + ∑ j, (u j - u j) * w j)

theorem real_sub_self (x : EReal) (h : x = (x.toReal : EReal)) : x - x = 0 := by
  rw [h, ← EReal.coe_sub, sub_self, EReal.coe_zero]

/-- Of reals nothing is left over. -/
theorem splitProd_eq {n : ℕ} (u w : Fin n → EReal) (hu : ∀ j, u j = ((u j).toReal : EReal)) (hw : ∀ j, w j = ((w j).toReal : EReal)) :
    splitProd u w = ∑ j, u j * w j := by
  have h1 : ∑ j, u j * (w j - w j) = 0 := Finset.sum_eq_zero fun j _ => by rw [real_sub_self _ (hw j), mul_zero]
  have h2 : ∑ j, (u j - u j) * w j = 0 := Finset.sum_eq_zero fun j _ => by rw [real_sub_self _ (hu j), zero_mul]
  unfold splitProd
  rw [h1, h2, add_zero, add_zero]

/-- The kernel's decay: it negates by taking from zero, and asks whether a value differs from itself. -/
def kernelDecay (x : EReal) : EReal :=
  0 - Ideal.exp ((0 - if 0 - x ≠ 0 - x then 0 - x else max (0 - x) 0 + Ideal.log1p (Ideal.exp (0 - max (0 - x) (-(0 - x))))) - half)

theorem kernelDecay_eq (x : EReal) : kernelDecay x = decayOf x := by
  unfold kernelDecay decayOf softplus
  rw [if_neg (not_not.mpr rfl), zero_sub, zero_sub, zero_sub, zero_sub]

section
variable (s : Fin 2688 → EReal) (kk ka rk : Fin 768 → EReal) (a0 : Fin 2 → Fin 768 → EReal) (a2 : Fin 2 → Fin 64 → Fin 768 → EReal)
    (e : Fin 768 → Fin 768 → EReal)

/-- The kernel's removed key. -/
def kernelUnit (k : Fin 768) : EReal :=
  Ideal.div (scaledKey s kk k) (max (Ideal.sqrt (splitSum (fun j => scaledKey s kk j * scaledKey s kk j) e k)) tiny)

/-- The kernel's rate. -/
def kernelRate (d : Fin 2) (k : Fin 768) : EReal :=
  Ideal.logistic (a0 d k + splitProd (fun q => s (colA d q)) (fun q => a2 d q k))

/-- The kernel's key. -/
def kernelKey (d : Fin 2) (k : Fin 768) : EReal := s (colK k) * (1 + (kernelRate s a0 a2 d k - 1) * ka k)

/-- The kernel's bonus. -/
def kernelBonus (k : Fin 768) : EReal :=
  splitSum (fun j => s (colR j) * (kernelKey s ka a0 a2 0 j + kernelKey s ka a0 a2 1 j) * rk j) e k * s (colV k)

end

/-! ## Which are reals -/

/-- The value is a real. -/
def IsReal (x : EReal) : Prop := x = (x.toReal : EReal)

theorem isReal_coe (r : ℝ) : IsReal (r : EReal) := by unfold IsReal; rw [EReal.toReal_coe]

theorem IsReal.add {x y : EReal} (hx : IsReal x) (hy : IsReal y) : IsReal (x + y) := by
  rw [hx, hy, ← EReal.coe_add]; exact isReal_coe _

theorem IsReal.sub {x y : EReal} (hx : IsReal x) (hy : IsReal y) : IsReal (x - y) := by
  rw [hx, hy, ← EReal.coe_sub]; exact isReal_coe _

theorem IsReal.mul {x y : EReal} (hx : IsReal x) (hy : IsReal y) : IsReal (x * y) := by
  rw [hx, hy, ← EReal.coe_mul]; exact isReal_coe _

theorem isReal_zero : IsReal 0 := by rw [← EReal.coe_zero]; exact isReal_coe _

theorem isReal_one : IsReal 1 := by rw [← EReal.coe_one]; exact isReal_coe _

theorem isReal_tanh (x : EReal) : IsReal (Ideal.tanh x) := by
  induction x with
  | bot =>
    show IsReal (-1)
    rw [← EReal.coe_one, ← EReal.coe_neg]
    exact isReal_coe _
  | top => exact isReal_one
  | coe r => exact isReal_coe _

theorem isReal_logistic (x : EReal) : IsReal (Ideal.logistic x) := by
  induction x with
  | bot => rw [Ideal.logistic_bot]; exact isReal_zero
  | top => rw [Ideal.logistic_top]; exact isReal_one
  | coe r => rw [Ideal.logistic_coe]; exact isReal_coe _

section
variable {s : Fin 2688 → EReal} (a0 : Fin 2 → Fin 768 → EReal) (a2 : Fin 2 → Fin 64 → Fin 768 → EReal) {ka rk : Fin 768 → EReal}

theorem isReal_key (hs : ∀ c, IsReal (s c)) (hk : ∀ k, IsReal (ka k)) (d : Fin 2) (k : Fin 768) : IsReal (key s a0 a2 ka d k) :=
  (hs _).mul (isReal_one.add (((isReal_logistic _).sub isReal_one).mul (hk k)))

/-- The kernel adds the two directions' keys before it sums over the head. -/
theorem bonus_eq (hs : ∀ c, IsReal (s c)) (hk : ∀ k, IsReal (ka k)) (hr : ∀ k, IsReal (rk k)) (k : Fin 768) :
    splitSum (fun j => s (colR j) * (key s a0 a2 ka 0 j + key s a0 a2 ka 1 j) * rk j) sameHead k * s (colV k)
      = bonus s a0 a2 ka rk k := by
  have e : (fun j => s (colR j) * (key s a0 a2 ka 0 j + key s a0 a2 ka 1 j) * rk j)
      = fun j => (((s (colR j)).toReal * ((key s a0 a2 ka 0 j).toReal + (key s a0 a2 ka 1 j).toReal) * (rk j).toReal : ℝ) : EReal) :=
    funext fun j => by
      rw [EReal.coe_mul, EReal.coe_mul, EReal.coe_add, ← hs, ← hr, ← isReal_key a0 a2 hs hk, ← isReal_key a0 a2 hs hk]
  have o : ∀ d h, ownWeight s a0 a2 ka rk d h
      = ((∑ e, (s (colR (entry h e))).toReal * (key s a0 a2 ka d (entry h e)).toReal * (rk (entry h e)).toReal : ℝ) : EReal) :=
    fun d h => by
      rw [coe_sum]
      unfold ownWeight
      refine Finset.sum_congr rfl fun e _ => ?_
      rw [EReal.coe_mul, EReal.coe_mul, ← hs, ← hr, ← isReal_key a0 a2 hs hk]
  unfold bonus
  rw [e, splitSum_eq, ← coe_sum, o, o, hs (colV k), ← EReal.coe_mul, ← EReal.coe_mul, ← EReal.coe_mul, ← EReal.coe_add, ← add_mul,
    ← Finset.sum_add_distrib]
  refine congrArg (fun x : ℝ => ((x * (s (colV k)).toReal : ℝ) : EReal)) (Finset.sum_congr rfl fun e _ => ?_)
  ring

/-- The kernel's norm of a head. -/
theorem squares_eq {kk : Fin 768 → EReal} (hs : ∀ c, IsReal (s c)) (hk : ∀ k, IsReal (kk k)) (k : Fin 768) :
    splitSum (fun j => scaledKey s kk j * scaledKey s kk j) sameHead k
      = ∑ d, scaledKey s kk (entry (head k) d) * scaledKey s kk (entry (head k) d) := by
  have h : ∀ j, IsReal (scaledKey s kk j * scaledKey s kk j) := fun j => ((hs _).mul (hk j)).mul ((hs _).mul (hk j))
  rw [funext fun j => (h j), splitSum_eq]
  exact Finset.sum_congr rfl fun d _ => (h _).symm

/-! ## The two agree on reals -/

theorem kernelUnit_eq {kk : Fin 768 → EReal} (hs : ∀ c, IsReal (s c)) (hk : ∀ k, IsReal (kk k)) (k : Fin 768) :
    kernelUnit s kk sameHead k = unitKey s kk k := by
  unfold kernelUnit unitKey
  rw [squares_eq hs hk]

theorem kernelRate_eq (hs : ∀ c, IsReal (s c)) (ha : ∀ d q k, IsReal (a2 d q k)) : kernelRate s a0 a2 = rate s a0 a2 := by
  funext d k
  unfold kernelRate rate
  rw [splitProd_eq _ _ (fun q => hs _) (fun q => ha d q k)]

theorem kernelKey_eq (hs : ∀ c, IsReal (s c)) (ha : ∀ d q k, IsReal (a2 d q k)) : kernelKey s ka a0 a2 = key s a0 a2 ka := by
  funext d k
  unfold kernelKey key
  rw [kernelRate_eq a0 a2 hs ha]

theorem kernelBonus_eq (hs : ∀ c, IsReal (s c)) (ha : ∀ d q k, IsReal (a2 d q k)) (hk : ∀ k, IsReal (ka k)) (hr : ∀ k, IsReal (rk k))
    (k : Fin 768) : kernelBonus s ka rk a0 a2 sameHead k = bonus s a0 a2 ka rk k := by
  unfold kernelBonus
  rw [kernelKey_eq a0 a2 hs ha]
  exact bonus_eq a0 a2 hs hk hr k

end

end Cert.Prep

end
-- ==== Proof.PrepPoint.lean ====
module
public import proofs.«01_k».proof.Proof.Prep
public import proofs.«01_k».proof.Proof.Gen.Kernel6Ideal.Value

/-! # What a point of the preparation computes

At grid point `t` the kernel works on batch `t / 33` and the 256 rows from `256 (t % 33)` on. It shifts the rows, with the last
of the eight rows before them and the first of the eight rows after them at the block's ends, and makes the terms. -/

@[expose] public section
noncomputable section
namespace Cert.Prep
open Cert.Kernel6Ideal Cert.Kernel6Ideal.Gen Cert.Kernel6Ideal.Value Cert.HeadNorm
open Idealize.ShloMosaic Idealize.ShloMosaic.TcCoe Idealize.SL.Sem Idealize.ShloMosaic.Pointwise

/-! ## The shifted rows -/

/-- The block's rows, shifted. -/
def shifted (i : grid0.Coords) (x0 : Vec Ideal S1x256x2688 .f32) (x1 x2 : Vec Ideal S1x8x2688 .f32) (x3 x4 : Vec Ideal S1x2688 .f32) :
    FVec Ideal S256x2688 .f32 :=
  k0_pay6 (k0_pay2 x0) (k0_pay3 i x0 x1) (k0_pay4 i x0 x2) (k0_pay5 x3) x4

theorem shifted_apply (i : grid0.Coords) (x0 : Vec Ideal S1x256x2688 .f32) (x1 x2 : Vec Ideal S1x8x2688 .f32)
    (x3 x4 : Vec Ideal S1x2688 .f32) (y : Fin 256) (c : Fin 2688) : shifted i x0 x1 x2 x3 x4 (ix2 y c)
      = x0 (ix3 0 y c) + x3 (ix2 0 c) * (k0_pay3 i x0 x1 (ix2 y c) - x0 (ix3 0 y c))
        + x4 (ix2 0 c) * (k0_pay4 i x0 x2 (ix2 y c) - x0 (ix3 0 y c)) := by
  unfold shifted
  generalize k0_pay3 i x0 x1 = p
  generalize k0_pay4 i x0 x2 = n
  pointwise [k0_pay6, k0_pay5, k0_pay2]

theorem eq_ofNat (a b : ℕ) (ha : a < 2 ^ 32) (hb : b < 2 ^ 32) :
    IntOp.cmpi .eq (BitVec.ofNat 32 a) (BitVec.ofNat 32 b) = if a = b then 1#1 else 0#1 := by
  by_cases h : a = b
  · rw [if_pos h, h]
    simp [IntOp.cmpi]
  · have hn : BitVec.ofNat 32 a ≠ BitVec.ofNat 32 b := fun e => h (by
      have e' := congrArg BitVec.toNat e
      rw [BitVec.toNat_ofNat, BitVec.toNat_ofNat, Nat.mod_eq_of_lt ha, Nat.mod_eq_of_lt hb] at e'
      exact e')
    rw [if_neg h]
    show BitVec.ofBool (decide (BitVec.ofNat 32 a = BitVec.ofNat 32 b)) = 0#1
    rw [decide_eq_false hn]
    rfl

/-- The row before row `y`. -/
theorem before_apply (i : grid0.Coords) (x0 : Vec Ideal S1x256x2688 .f32) (x1 : Vec Ideal S1x8x2688 .f32) (y : Fin 256)
    (c : Fin 2688) : k0_pay3 i x0 x1 (ix2 y c)
      = if y.val = 0 then (if (i 1).val = 0 ∨ (i 1).val = 1 then 0 else x1 (ix3 0 7 c))
        else x0 (ix3 0 ⟨(y.val + 256 - 1) % 256, by omega⟩ c) := by
  have hi : (i 1).val < 33 := (i 1).isLt
  have h : k0_pay3 i x0 x1 (ix2 y c)
      = Scalar.select (IntOp.cmpi .eq (BitVec.ofNat 32 y.val) (BitVec.ofNat 32 0))
        (Scalar.select (Scalar.ori (IntOp.cmpi .eq (BitVec.ofNat 32 (i 1).val) (BitVec.ofNat 32 0))
          (IntOp.cmpi .eq (BitVec.ofNat 32 (i 1).val) (BitVec.ofNat 32 1))) 0 (x1 (ix3 0 7 c)))
        (x0 (ix3 0 ⟨(y.val + 256 - 1) % 256, by omega⟩ c)) := by
    pointwise [k0_pay3, k0_pay2]
    rfl
  rw [h, eq_ofNat _ _ (by omega) (by omega), eq_ofNat _ _ (by omega) (by omega), eq_ofNat _ _ (by omega) (by omega)]
  by_cases hy : y.val = 0
  · by_cases h0 : (i 1).val = 0
    · simp [Scalar.select, Scalar.ori, IntOp.ori, hy, h0]
    · by_cases h1 : (i 1).val = 1
      · simp [Scalar.select, Scalar.ori, IntOp.ori, hy, h1]
      · simp [Scalar.select, Scalar.ori, IntOp.ori, hy, h0, h1]
  · simp [Scalar.select, hy]

/-- The row after row `y`. -/
theorem after_apply (i : grid0.Coords) (x0 : Vec Ideal S1x256x2688 .f32) (x2 : Vec Ideal S1x8x2688 .f32) (y : Fin 256)
    (c : Fin 2688) : k0_pay4 i x0 x2 (ix2 y c)
      = if y.val = 255 then (if (i 1).val = 0 ∨ (i 1).val = 32 then 0 else x2 (ix3 0 0 c))
        else x0 (ix3 0 ⟨(y.val + 256 - 255) % 256, by omega⟩ c) := by
  have hi : (i 1).val < 33 := (i 1).isLt
  have h : k0_pay4 i x0 x2 (ix2 y c)
      = Scalar.select (IntOp.cmpi .eq (BitVec.ofNat 32 y.val) (BitVec.ofNat 32 255))
        (Scalar.select (Scalar.ori (IntOp.cmpi .eq (BitVec.ofNat 32 (i 1).val) (BitVec.ofNat 32 0))
          (IntOp.cmpi .eq (BitVec.ofNat 32 (i 1).val) (BitVec.ofNat 32 32))) 0 (x2 (ix3 0 0 c)))
        (x0 (ix3 0 ⟨(y.val + 256 - 255) % 256, by omega⟩ c)) := by
    pointwise [k0_pay4, k0_pay2]
    rfl
  rw [h, eq_ofNat _ _ (by omega) (by omega), eq_ofNat _ _ (by omega) (by omega), eq_ofNat _ _ (by omega) (by omega)]
  by_cases hy : y.val = 255
  · by_cases h0 : (i 1).val = 0
    · simp [Scalar.select, Scalar.ori, IntOp.ori, hy, h0]
    · by_cases h1 : (i 1).val = 32
      · simp [Scalar.select, Scalar.ori, IntOp.ori, hy, h1]
      · simp [Scalar.select, Scalar.ori, IntOp.ori, hy, h0, h1]
  · simp [Scalar.select, hy]

/-! ## The eleven terms -/

section
variable (i : grid0.Coords) (x0 : Vec Ideal S1x256x2688 .f32) (x1 x2 : Vec Ideal S1x8x2688 .f32) (x3 x4 : Vec Ideal S1x2688 .f32)
    (x5 : Vec Ideal S2x768 .f32) (x6 : Vec Ideal S2x64x768 .f32) (x7 : Vec Ideal S2x768 .f32) (x8 : Vec Ideal S2x64x768 .f32)
    (x9 : Vec Ideal S128x768 .f32) (x10 x11 x12 : Vec Ideal S1x768 .f32) (x13 : Vec Ideal S768x768 .bf16) (y : Fin 256) (k : Fin 768)

theorem receptance_apply : out0_14 i x0 x1 x2 x3 x4 x5 x6 x7 x8 x9 x10 x11 x12 x13 (ix3 0 y k)
    = shifted i x0 x1 x2 x3 x4 (ix2 y (colR k)) := by
  unfold out0_14 k0_pay58 k0_pay57 k0_pay56 k0_pay55 k0_pay54
  rw [View.canon_unit_zero (by decide)]
  repeat rw [View.ld_unit_zero (by decide)]
  pointwise [k0_pay19, k0_pay7]
  rfl

theorem value_apply : out0_15 i x0 x1 x2 x3 x4 x5 x6 x7 x8 x9 x10 x11 x12 x13 (ix3 0 y k)
    = shifted i x0 x1 x2 x3 x4 (ix2 y (colV k)) := by
  unfold out0_15 k0_pay60 k0_pay57 k0_pay56 k0_pay55 k0_pay54
  rw [View.canon_unit_zero (by decide)]
  repeat rw [View.ld_unit_zero (by decide)]
  pointwise [k0_pay20, k0_pay9]
  rfl

theorem gate_apply : out0_16 i x0 x1 x2 x3 x4 x5 x6 x7 x8 x9 x10 x11 x12 x13 (ix3 0 y k)
    = splitProd (fun j => Ideal.logistic (shifted i x0 x1 x2 x3 x4 (ix2 y (colG j)))) (fun j => x9 (ix2 j k)) := by
  unfold out0_16 k0_pay57 k0_pay56 k0_pay55 k0_pay54
  rw [View.canon_unit_zero (by decide)]
  repeat rw [View.ld_unit_zero (by decide)]
  pointwise [k0_pay13]
  rfl

theorem unit_apply : out0_18 i x0 x1 x2 x3 x4 x5 x6 x7 x8 x9 x10 x11 x12 x13 (ix3 0 y k)
    = kernelUnit (fun c => shifted i x0 x1 x2 x3 x4 (ix2 y c)) (fun k => x10 (ix2 0 k)) (fun j k => x13 (ix2 j k)) k := by
  unfold out0_18 k0_pay66 k0_pay65 k0_pay64 k0_pay63 k0_pay57 k0_pay56 k0_pay55 k0_pay54
  rw [View.canon_unit_zero (by decide)]
  repeat rw [View.ld_unit_zero (by decide)]
  pointwise [k0_pay21, k0_pay18, k0_pay17, k0_pay16, k0_pay15, k0_pay14, k0_pay12, k0_pay8]
  rfl

theorem decay_apply : out0_19 i x0 x1 x2 x3 x4 x5 x6 x7 x8 x9 x10 x11 x12 x13 (ix3 0 y k)
    = kernelDecay (x5 (ix2 0 k) + splitProd (fun q => Ideal.tanh (shifted i x0 x1 x2 x3 x4 (ix2 y (colW 0 q))))
      (fun q => x6 (ix3 0 q k))) := by
  unfold out0_19 k0_pay61 k0_pay57 k0_pay56 k0_pay55 k0_pay54
  rw [View.canon_unit_zero (by decide)]
  repeat rw [View.ld_unit_zero (by decide)]
  pointwise [k0_pay26, k0_pay25, k0_pay24, k0_pay23, k0_pay10]
  rfl

theorem key_apply : out0_20 i x0 x1 x2 x3 x4 x5 x6 x7 x8 x9 x10 x11 x12 x13 (ix3 0 y k)
    = kernelKey (fun c => shifted i x0 x1 x2 x3 x4 (ix2 y c)) (fun k => x11 (ix2 0 k)) (fun d k => x7 (ix2 d k))
      (fun d q k => x8 (ix3 d q k)) 0 k := by
  unfold out0_20 k0_pay70 k0_pay69 k0_pay68 k0_pay62 k0_pay59 k0_pay57 k0_pay56 k0_pay55 k0_pay54
  rw [View.canon_unit_zero (by decide)]
  repeat rw [View.ld_unit_zero (by decide)]
  pointwise [k0_pay36, k0_pay35, k0_pay34, k0_pay33, k0_pay32, k0_pay31, k0_pay30, k0_pay29, k0_pay28, k0_pay27, k0_pay11, k0_pay8]
  rfl

theorem written_apply : out0_21 i x0 x1 x2 x3 x4 x5 x6 x7 x8 x9 x10 x11 x12 x13 (ix3 0 y k)
    = kernelUnit (fun c => shifted i x0 x1 x2 x3 x4 (ix2 y c)) (fun k => x10 (ix2 0 k)) (fun j k => x13 (ix2 j k)) k
      * kernelRate (fun c => shifted i x0 x1 x2 x3 x4 (ix2 y c)) (fun d k => x7 (ix2 d k)) (fun d q k => x8 (ix3 d q k)) 0 k := by
  unfold out0_21 k0_pay67 k0_pay66 k0_pay65 k0_pay64 k0_pay63 k0_pay70 k0_pay69 k0_pay68 k0_pay62 k0_pay57 k0_pay56 k0_pay55 k0_pay54
  rw [View.canon_unit_zero (by decide)]
  repeat rw [View.ld_unit_zero (by decide)]
  pointwise [k0_pay37, k0_pay34, k0_pay33, k0_pay32, k0_pay31, k0_pay30, k0_pay29, k0_pay28, k0_pay27, k0_pay11, k0_pay18, k0_pay17,
    k0_pay16, k0_pay15, k0_pay14, k0_pay12, k0_pay8]
  rfl

theorem decay_apply' : out0_22 i x0 x1 x2 x3 x4 x5 x6 x7 x8 x9 x10 x11 x12 x13 (ix3 0 y k)
    = kernelDecay (x5 (ix2 1 k) + splitProd (fun q => Ideal.tanh (shifted i x0 x1 x2 x3 x4 (ix2 y (colW 1 q))))
      (fun q => x6 (ix3 1 q k))) := by
  unfold out0_22 k0_pay61 k0_pay57 k0_pay56 k0_pay55 k0_pay54
  rw [View.canon_unit_zero (by decide)]
  repeat rw [View.ld_unit_zero (by decide)]
  pointwise [k0_pay41, k0_pay40, k0_pay39, k0_pay23, k0_pay10]
  rfl

theorem key_apply' : out0_23 i x0 x1 x2 x3 x4 x5 x6 x7 x8 x9 x10 x11 x12 x13 (ix3 0 y k)
    = kernelKey (fun c => shifted i x0 x1 x2 x3 x4 (ix2 y c)) (fun k => x11 (ix2 0 k)) (fun d k => x7 (ix2 d k))
      (fun d q k => x8 (ix3 d q k)) 1 k := by
  unfold out0_23 k0_pay73 k0_pay72 k0_pay71 k0_pay62 k0_pay59 k0_pay57 k0_pay56 k0_pay55 k0_pay54
  rw [View.canon_unit_zero (by decide)]
  repeat rw [View.ld_unit_zero (by decide)]
  pointwise [k0_pay51, k0_pay50, k0_pay49, k0_pay48, k0_pay47, k0_pay46, k0_pay45, k0_pay44, k0_pay43, k0_pay42, k0_pay11, k0_pay8]
  rfl

theorem written_apply' : out0_24 i x0 x1 x2 x3 x4 x5 x6 x7 x8 x9 x10 x11 x12 x13 (ix3 0 y k)
    = kernelUnit (fun c => shifted i x0 x1 x2 x3 x4 (ix2 y c)) (fun k => x10 (ix2 0 k)) (fun j k => x13 (ix2 j k)) k
      * kernelRate (fun c => shifted i x0 x1 x2 x3 x4 (ix2 y c)) (fun d k => x7 (ix2 d k)) (fun d q k => x8 (ix3 d q k)) 1 k := by
  unfold out0_24 k0_pay67 k0_pay66 k0_pay65 k0_pay64 k0_pay63 k0_pay73 k0_pay72 k0_pay71 k0_pay62 k0_pay57 k0_pay56 k0_pay55 k0_pay54
  rw [View.canon_unit_zero (by decide)]
  repeat rw [View.ld_unit_zero (by decide)]
  pointwise [k0_pay52, k0_pay49, k0_pay48, k0_pay47, k0_pay46, k0_pay45, k0_pay44, k0_pay43, k0_pay42, k0_pay11, k0_pay18, k0_pay17,
    k0_pay16, k0_pay15, k0_pay14, k0_pay12, k0_pay8]
  rfl

theorem bonus_apply : out0_17 i x0 x1 x2 x3 x4 x5 x6 x7 x8 x9 x10 x11 x12 x13 (ix3 0 y k)
    = kernelBonus (fun c => shifted i x0 x1 x2 x3 x4 (ix2 y c)) (fun k => x11 (ix2 0 k)) (fun k => x12 (ix2 0 k))
      (fun d k => x7 (ix2 d k)) (fun d q k => x8 (ix3 d q k)) (fun j k => x13 (ix2 j k)) k := by
  unfold out0_17 k0_pay58 k0_pay59 k0_pay60 k0_pay63 k0_pay70 k0_pay69 k0_pay68 k0_pay73 k0_pay72 k0_pay71 k0_pay62 k0_pay57 k0_pay56
    k0_pay55 k0_pay54
  rw [View.canon_unit_zero (by decide)]
  repeat rw [View.ld_unit_zero (by decide)]
  pointwise [k0_pay1, k0_pay53, k0_pay38, k0_pay22, k0_pay35, k0_pay34, k0_pay33, k0_pay32, k0_pay31, k0_pay30, k0_pay29, k0_pay28,
    k0_pay27, k0_pay50, k0_pay49, k0_pay48, k0_pay47, k0_pay46, k0_pay45, k0_pay44, k0_pay43, k0_pay42, k0_pay12, k0_pay11, k0_pay9,
    k0_pay8, k0_pay7]
  rfl

end

end Cert.Prep

end
-- ==== Proof.PrepArray.lean ====
module
public import proofs.«01_k».proof.Proof.PrepPoint
public import proofs.«01_k».proof.Proof.HeadOut

/-! # The blocks of the preparation

Where a point's blocks lie, and that the block's rows, shifted, are the array's rows, shifted. -/

@[expose] public section
noncomputable section
namespace Cert.Prep
open Cert.Kernel6Ideal Cert.Kernel6Ideal.Gen Cert.Kernel6Ideal.Value Cert.HeadNorm
open Cert.HeadOut (onesArr onesArr_apply)
open Idealize.ShloMosaic Idealize.ShloMosaic.TcCoe Idealize.SL.Sem Idealize.ShloMosaic.Pointwise

/-! ## The array's rows, shifted -/

/-- The row before row `r`: the context's first row and the latents' first row have none. -/
def beforeRow (z : S4x8448x2688.Idx → EReal) (b : Fin 4) (r : Fin 8448) (c : Fin 2688) : EReal :=
  if r.val = 0 ∨ r.val = 256 then 0 else z (ix3 b ⟨r.val - 1, by omega⟩ c)

/-- The row after row `r`: the context's last row and the latents' last row have none. -/
def afterRow (z : S4x8448x2688.Idx → EReal) (b : Fin 4) (r : Fin 8448) (c : Fin 2688) : EReal :=
  if h : r.val = 255 ∨ r.val = 8447 then 0 else z (ix3 b ⟨r.val + 1, by omega⟩ c)

/-- A row, shifted toward the one before and the one after. -/
def shiftedRow (z : S4x8448x2688.Idx → EReal) (sp sn : S2688.Idx → EReal) (b : Fin 4) (r : Fin 8448) (c : Fin 2688) : EReal :=
  z (ix3 b r c) + sp (ix1 c) * (beforeRow z b r c - z (ix3 b r c)) + sn (ix1 c) * (afterRow z b r c - z (ix3 b r c))

/-- A block's rows, shifted, are the array's. -/
theorem shifted_eq (z : S4x8448x2688.Idx → EReal) (sp sn : S2688.Idx → EReal) (i : grid0.Coords) (x0 : Vec Ideal S1x256x2688 .f32)
    (x1 x2 : Vec Ideal S1x8x2688 .f32) (x3 x4 : Vec Ideal S1x2688 .f32) (b : Fin 4) (j : ℕ) (hj : j < 33) (hi : (i 1).val = j)
    (h0 : ∀ (y : Fin 256) c, x0 (ix3 0 y c) = z (ix3 b ⟨256 * j + y.val, by omega⟩ c))
    (h1 : ∀ c, x1 (ix3 0 7 c) = z (ix3 b ⟨8 * (32 * j - 1) + 7, by omega⟩ c))
    (h2 : ∀ c, x2 (ix3 0 0 c) = z (ix3 b ⟨8 * min (32 * (j + 1)) 1055, by omega⟩ c))
    (h3 : ∀ c, x3 (ix2 0 c) = sp (ix1 c)) (h4 : ∀ c, x4 (ix2 0 c) = sn (ix1 c)) (y : Fin 256) (c : Fin 2688) :
    shifted i x0 x1 x2 x3 x4 (ix2 y c) = shiftedRow z sp sn b ⟨256 * j + y.val, by omega⟩ c := by
  have hb : k0_pay3 i x0 x1 (ix2 y c) = beforeRow z b ⟨256 * j + y.val, by omega⟩ c := by
    rw [before_apply, h1, h0, hi]
    unfold beforeRow
    by_cases hy : y.val = 0
    · rw [if_pos hy]
      by_cases h : j = 0 ∨ j = 1
      · rw [if_pos h, if_pos (show 256 * j + y.val = 0 ∨ 256 * j + y.val = 256 by omega)]
      · rw [if_neg h, if_neg (show ¬(256 * j + y.val = 0 ∨ 256 * j + y.val = 256) by omega)]
        exact congrArg (fun q => z (ix3 b q c)) (Fin.ext (show 8 * (32 * j - 1) + 7 = 256 * j + y.val - 1 by omega))
    · rw [if_neg hy, if_neg (show ¬(256 * j + y.val = 0 ∨ 256 * j + y.val = 256) by omega)]
      exact congrArg (fun q => z (ix3 b q c))
        (Fin.ext (show 256 * j + (y.val + 256 - 1) % 256 = 256 * j + y.val - 1 by omega))
  have ha : k0_pay4 i x0 x2 (ix2 y c) = afterRow z b ⟨256 * j + y.val, by omega⟩ c := by
    rw [after_apply, h2, h0, hi]
    unfold afterRow
    by_cases hy : y.val = 255
    · rw [if_pos hy]
      by_cases h : j = 0 ∨ j = 32
      · rw [if_pos h, dif_pos (show 256 * j + y.val = 255 ∨ 256 * j + y.val = 8447 by omega)]
      · rw [if_neg h, dif_neg (show ¬(256 * j + y.val = 255 ∨ 256 * j + y.val = 8447) by omega)]
        exact congrArg (fun q => z (ix3 b q c)) (Fin.ext (show 8 * min (32 * (j + 1)) 1055 = 256 * j + y.val + 1 by omega))
    · rw [if_neg hy, dif_neg (show ¬(256 * j + y.val = 255 ∨ 256 * j + y.val = 8447) by omega)]
      exact congrArg (fun q => z (ix3 b q c))
        (Fin.ext (show 256 * j + (y.val + 256 - 255) % 256 = 256 * j + y.val + 1 by omega))
  rw [shifted_apply, hb, ha, h0, h3, h4]
  rfl

/-! ## Where the blocks lie -/

theorem index_rows : ∀ t : Fin grid0.N, win0_0.index t (0 : Fin 3) = t.val / 33 ∧ win0_0.index t (1 : Fin 3) = t.val % 33
    ∧ win0_0.index t (2 : Fin 3) = 0 := by decide +kernel

theorem index_before : ∀ t : Fin grid0.N, win0_1.index t (0 : Fin 3) = t.val / 33
    ∧ win0_1.index t (1 : Fin 3) = 32 * (t.val % 33) - 1 ∧ win0_1.index t (2 : Fin 3) = 0 := by decide +kernel

theorem index_after : ∀ t : Fin grid0.N, win0_2.index t (0 : Fin 3) = t.val / 33
    ∧ win0_2.index t (1 : Fin 3) = min (32 * (t.val % 33 + 1)) 1055 ∧ win0_2.index t (2 : Fin 3) = 0 := by decide +kernel

theorem index_shift : ∀ t : Fin grid0.N, win0_3.index t (0 : Fin 2) = 0 ∧ win0_3.index t (1 : Fin 2) = 0 := by decide +kernel

theorem index_pair : ∀ t : Fin grid0.N, win0_5.index t (0 : Fin 2) = 0 ∧ win0_5.index t (1 : Fin 2) = 0 := by decide +kernel

theorem index_slab : ∀ t : Fin grid0.N, win0_6.index t (0 : Fin 3) = 0 ∧ win0_6.index t (1 : Fin 3) = 0
    ∧ win0_6.index t (2 : Fin 3) = 0 := by decide +kernel

theorem index_gate : ∀ t : Fin grid0.N, win0_9.index t (0 : Fin 2) = 0 ∧ win0_9.index t (1 : Fin 2) = 0 := by decide +kernel

theorem index_param : ∀ t : Fin grid0.N, win0_10.index t (0 : Fin 2) = 0 ∧ win0_10.index t (1 : Fin 2) = 0 := by decide +kernel

theorem index_ones : ∀ t : Fin grid0.N, win0_13.index t (0 : Fin 2) = 0 ∧ win0_13.index t (1 : Fin 2) = 0 := by decide +kernel

theorem index_out : ∀ t : Fin grid0.N, win0_14.index t (0 : Fin 3) = t.val / 33 ∧ win0_14.index t (1 : Fin 3) = t.val % 33
    ∧ win0_14.index t (2 : Fin 3) = 0 := by decide +kernel

theorem coord : ∀ t : Fin grid0.N, (grid0.coords t 1).val = t.val % 33 := by decide +kernel

theorem points (t : Fin cfg0.N) : t.val < 132 := by
  have h := t.isLt
  have e : cfg0.N = 132 := N_0
  omega

/-- Point `t`'s batch. -/
def batchOf (t : Fin cfg0.N) : Fin 4 := ⟨t.val / 33, by have := points t; omega⟩

/-- Row `y` of point `t`'s block. -/
def rowOf (t : Fin cfg0.N) (y : Fin 256) : Fin 8448 := ⟨256 * (t.val % 33) + y.val, by omega⟩

section
variable (t : Fin cfg0.N)

theorem emb_rows (y : Fin 256) (c : Fin 2688) :
    (((cfg0.win 0).blk t).view.emb (ix3 0 y c) : S4x8448x2688.Idx) = ix3 (batchOf t) (rowOf t y) c := by
  obtain ⟨e0, e1, e2⟩ := index_rows t
  funext a
  refine Fin.ext ?_
  match a with
  | ⟨0, _⟩ => show win0_0.index t (0 : Fin 3) * 1 + 1 * 0 = t.val / 33; omega
  | ⟨1, _⟩ => show win0_0.index t (1 : Fin 3) * 256 + 1 * y.val = 256 * (t.val % 33) + y.val; omega
  | ⟨2, _⟩ => show win0_0.index t (2 : Fin 3) * 2688 + 1 * c.val = c.val; omega

theorem emb_before (c : Fin 2688) : (((cfg0.win 1).blk t).view.emb (ix3 0 7 c) : S4x8448x2688.Idx)
    = ix3 (batchOf t) ⟨8 * (32 * (t.val % 33) - 1) + 7, by omega⟩ c := by
  obtain ⟨e0, e1, e2⟩ := index_before t
  funext a
  refine Fin.ext ?_
  match a with
  | ⟨0, _⟩ => show win0_1.index t (0 : Fin 3) * 1 + 1 * 0 = t.val / 33; omega
  | ⟨1, _⟩ => show win0_1.index t (1 : Fin 3) * 8 + 1 * 7 = 8 * (32 * (t.val % 33) - 1) + 7; omega
  | ⟨2, _⟩ => show win0_1.index t (2 : Fin 3) * 2688 + 1 * c.val = c.val; omega

theorem emb_after (c : Fin 2688) : (((cfg0.win 2).blk t).view.emb (ix3 0 0 c) : S4x8448x2688.Idx)
    = ix3 (batchOf t) ⟨8 * min (32 * (t.val % 33 + 1)) 1055, by omega⟩ c := by
  obtain ⟨e0, e1, e2⟩ := index_after t
  funext a
  refine Fin.ext ?_
  match a with
  | ⟨0, _⟩ => show win0_2.index t (0 : Fin 3) * 1 + 1 * 0 = t.val / 33; omega
  | ⟨1, _⟩ => show win0_2.index t (1 : Fin 3) * 8 + 1 * 0 = 8 * min (32 * (t.val % 33 + 1)) 1055; omega
  | ⟨2, _⟩ => show win0_2.index t (2 : Fin 3) * 2688 + 1 * c.val = c.val; omega

theorem emb_shift (c : Fin 2688) : (((cfg0.win 3).blk t).view.emb (ix2 0 c) : S1x2688.Idx) = ix2 0 c := by
  obtain ⟨e0, e1⟩ := index_shift t
  funext a
  refine Fin.ext ?_
  match a with
  | ⟨0, _⟩ => show win0_3.index t (0 : Fin 2) * 1 + 1 * 0 = 0; omega
  | ⟨1, _⟩ => show win0_3.index t (1 : Fin 2) * 2688 + 1 * c.val = c.val; omega

theorem emb_pair (d : Fin 2) (k : Fin 768) : (((cfg0.win 5).blk t).view.emb (ix2 d k) : S2x768.Idx) = ix2 d k := by
  obtain ⟨e0, e1⟩ := index_pair t
  funext a
  refine Fin.ext ?_
  match a with
  | ⟨0, _⟩ => show win0_5.index t (0 : Fin 2) * 2 + 1 * d.val = d.val; omega
  | ⟨1, _⟩ => show win0_5.index t (1 : Fin 2) * 768 + 1 * k.val = k.val; omega

theorem emb_slab (d : Fin 2) (q : Fin 64) (k : Fin 768) :
    (((cfg0.win 6).blk t).view.emb (ix3 d q k) : S2x64x768.Idx) = ix3 d q k := by
  obtain ⟨e0, e1, e2⟩ := index_slab t
  funext a
  refine Fin.ext ?_
  match a with
  | ⟨0, _⟩ => show win0_6.index t (0 : Fin 3) * 2 + 1 * d.val = d.val; omega
  | ⟨1, _⟩ => show win0_6.index t (1 : Fin 3) * 64 + 1 * q.val = q.val; omega
  | ⟨2, _⟩ => show win0_6.index t (2 : Fin 3) * 768 + 1 * k.val = k.val; omega

theorem emb_gate (j : Fin 128) (k : Fin 768) : (((cfg0.win 9).blk t).view.emb (ix2 j k) : S128x768.Idx) = ix2 j k := by
  obtain ⟨e0, e1⟩ := index_gate t
  funext a
  refine Fin.ext ?_
  match a with
  | ⟨0, _⟩ => show win0_9.index t (0 : Fin 2) * 128 + 1 * j.val = j.val; omega
  | ⟨1, _⟩ => show win0_9.index t (1 : Fin 2) * 768 + 1 * k.val = k.val; omega

theorem emb_param (k : Fin 768) : (((cfg0.win 10).blk t).view.emb (ix2 0 k) : S1x768.Idx) = ix2 0 k := by
  obtain ⟨e0, e1⟩ := index_param t
  funext a
  refine Fin.ext ?_
  match a with
  | ⟨0, _⟩ => show win0_10.index t (0 : Fin 2) * 1 + 1 * 0 = 0; omega
  | ⟨1, _⟩ => show win0_10.index t (1 : Fin 2) * 768 + 1 * k.val = k.val; omega

theorem emb_ones (j k : Fin 768) : (((cfg0.win 13).blk t).view.emb (ix2 j k) : S768x768.Idx) = ix2 j k := by
  obtain ⟨e0, e1⟩ := index_ones t
  funext a
  refine Fin.ext ?_
  match a with
  | ⟨0, _⟩ => show win0_13.index t (0 : Fin 2) * 768 + 1 * j.val = j.val; omega
  | ⟨1, _⟩ => show win0_13.index t (1 : Fin 2) * 768 + 1 * k.val = k.val; omega

/-- All eleven outputs' blocks lie alike. -/
theorem emb_out (y : Fin 256) (k : Fin 768) :
    (((cfg0.win 14).blk t).view.emb (ix3 0 y k) : S4x8448x768.Idx) = ix3 (batchOf t) (rowOf t y) k := by
  obtain ⟨e0, e1, e2⟩ := index_out t
  funext a
  refine Fin.ext ?_
  match a with
  | ⟨0, _⟩ => show win0_14.index t (0 : Fin 3) * 1 + 1 * 0 = t.val / 33; omega
  | ⟨1, _⟩ => show win0_14.index t (1 : Fin 3) * 256 + 1 * y.val = 256 * (t.val % 33) + y.val; omega
  | ⟨2, _⟩ => show win0_14.index t (2 : Fin 3) * 768 + 1 * k.val = k.val; omega

end

/-! ## The arrays the kernel reads -/

section
variable {F : FTy → Type} [FloatOps F] (m : (ℓ : Loc nD τ sig) → Buf (Elt F) ℓ) (c : Dev nD)

theorem V_arg0 : V m c main_arg0 = m ((c : Thread nD τ).loc main_arg0) := by
  show StableHlo.after (List.flatten [hostOps0]) _ _ = _
  simp only [hostOps0, List.flatten_cons, List.flatten_nil, List.append_nil, List.cons_append, List.nil_append]
  after_results

theorem V_arg3 : V m c main_arg3 = m ((c : Thread nD τ).loc main_arg3) := by
  show StableHlo.after (List.flatten [hostOps0]) _ _ = _
  simp only [hostOps0, List.flatten_cons, List.flatten_nil, List.append_nil, List.cons_append, List.nil_append]
  after_results

theorem V_arg4 : V m c main_arg4 = m ((c : Thread nD τ).loc main_arg4) := by
  show StableHlo.after (List.flatten [hostOps0]) _ _ = _
  simp only [hostOps0, List.flatten_cons, List.flatten_nil, List.append_nil, List.cons_append, List.nil_append]
  after_results

theorem V_arg5 : V m c main_arg5 = m ((c : Thread nD τ).loc main_arg5) := by
  show StableHlo.after (List.flatten [hostOps0]) _ _ = _
  simp only [hostOps0, List.flatten_cons, List.flatten_nil, List.append_nil, List.cons_append, List.nil_append]
  after_results

theorem V_arg6 : V m c main_arg6 = m ((c : Thread nD τ).loc main_arg6) := by
  show StableHlo.after (List.flatten [hostOps0]) _ _ = _
  simp only [hostOps0, List.flatten_cons, List.flatten_nil, List.append_nil, List.cons_append, List.nil_append]
  after_results

theorem V_arg7 : V m c main_arg7 = m ((c : Thread nD τ).loc main_arg7) := by
  show StableHlo.after (List.flatten [hostOps0]) _ _ = _
  simp only [hostOps0, List.flatten_cons, List.flatten_nil, List.append_nil, List.cons_append, List.nil_append]
  after_results

theorem V_prev : V m c main_v0 = (shapeCast S1x2688 (m ((c : Thread nD τ).loc main_arg1) : FVec F S2688 .f32)
    shapeCasts_S2688_S1x2688 : FVec F S1x2688 .f32) := by
  show StableHlo.after (List.flatten [hostOps0]) _ _ = _
  simp only [hostOps0, List.flatten_cons, List.flatten_nil, List.append_nil, List.cons_append, List.nil_append]
  after_results
  rfl

theorem V_next : V m c main_v1 = (shapeCast S1x2688 (m ((c : Thread nD τ).loc main_arg2) : FVec F S2688 .f32)
    shapeCasts_S2688_S1x2688 : FVec F S1x2688 .f32) := by
  show StableHlo.after (List.flatten [hostOps0]) _ _ = _
  simp only [hostOps0, List.flatten_cons, List.flatten_nil, List.append_nil, List.cons_append, List.nil_append]
  after_results
  rfl

theorem V_kk : V m c main_v2 = (shapeCast S1x768 (m ((c : Thread nD τ).loc main_arg8) : FVec F S768 .f32)
    shapeCasts_S768_S1x768 : FVec F S1x768 .f32) := by
  show StableHlo.after (List.flatten [hostOps0]) _ _ = _
  simp only [hostOps0, List.flatten_cons, List.flatten_nil, List.append_nil, List.cons_append, List.nil_append]
  after_results
  rfl

theorem V_ka : V m c main_v3 = (shapeCast S1x768 (m ((c : Thread nD τ).loc main_arg9) : FVec F S768 .f32)
    shapeCasts_S768_S1x768 : FVec F S1x768 .f32) := by
  show StableHlo.after (List.flatten [hostOps0]) _ _ = _
  simp only [hostOps0, List.flatten_cons, List.flatten_nil, List.append_nil, List.cons_append, List.nil_append]
  after_results
  rfl

theorem V_rk : V m c main_v4 = (shapeCast S1x768 (m ((c : Thread nD τ).loc main_arg10) : FVec F S12x64 .f32)
    shapeCasts_S12x64_S1x768 : FVec F S1x768 .f32) := by
  show StableHlo.after (List.flatten [hostOps0]) _ _ = _
  simp only [hostOps0, List.flatten_cons, List.flatten_nil, List.append_nil, List.cons_append, List.nil_append]
  after_results
  rfl

theorem V_ones : V m c main_v12 = (onesArr : FVec F S768x768 .bf16) := by
  show StableHlo.after (List.flatten [hostOps0]) _ _ = _
  simp only [hostOps0, List.flatten_cons, List.flatten_nil, List.append_nil, List.cons_append, List.nil_append]
  after_results
  rfl

end

theorem wide_apply (g : FVec Ideal S2688 .f32) (k : Fin 2688) :
    (shapeCast S1x2688 g shapeCasts_S2688_S1x2688 : FVec Ideal S1x2688 .f32) (ix2 0 k) = g (ix1 k) := by
  pointwise

theorem vector_apply (g : FVec Ideal S768 .f32) (k : Fin 768) :
    (shapeCast S1x768 g shapeCasts_S768_S1x768 : FVec Ideal S1x768 .f32) (ix2 0 k) = g (ix1 k) := by
  pointwise

/-- The heads' parameter, laid out as a row. -/
theorem heads_apply (g : FVec Ideal S12x64 .f32) (k : Fin 768) :
    (shapeCast S1x768 g shapeCasts_S12x64_S1x768 : FVec Ideal S1x768 .f32) (ix2 0 k) = g (ix2 (head k) ⟨k.val % 64, by omega⟩) := by
  refine shapeCast_apply _ _ _ _ ?_
  rw [Shape.rowMajor_val_two, Shape.rowMajor_val_two]
  show (k.val / 64) * 64 + k.val % 64 = 0 * 768 + k.val
  omega

end Cert.Prep

end
-- ==== Proof.PrepResult.lean ====
module
public import proofs.«01_k».proof.Proof.PrepArray

/-! # The results of the preparation

The eleven arrays: each entry is the formula of its row, shifted. -/

@[expose] public section
noncomputable section
namespace Cert.Prep
open Cert.Kernel6Ideal Cert.HeadNorm
open Idealize.ShloMosaic Idealize.ShloMosaic.TcCoe

section
variable (z : S4x8448x2688.Idx → EReal) (sp sn : S2688.Idx → EReal) (w0 a0 : S2x768.Idx → EReal) (w2 a2 : S2x64x768.Idx → EReal)
    (g2 : S128x768.Idx → EReal) (kk ka : S768.Idx → EReal) (rk : S12x64.Idx → EReal)

/-- A parameter of both directions. -/
abbrev pair (a : S2x768.Idx → EReal) (d : Fin 2) (k : Fin 768) : EReal := a (ix2 d k)

/-- The matrices of both directions. -/
abbrev slab (a : S2x64x768.Idx → EReal) (d : Fin 2) (q : Fin 64) (k : Fin 768) : EReal := a (ix3 d q k)

/-- A parameter by columns. -/
abbrev flat (a : S768.Idx → EReal) (k : Fin 768) : EReal := a (ix1 k)

/-- A parameter by heads. -/
abbrev byHeads (a : S12x64.Idx → EReal) (k : Fin 768) : EReal := a (ix2 (head k) ⟨k.val % 64, by omega⟩)

def receptanceArr : S4x8448x768.Idx → EReal := fun i => shiftedRow z sp sn (i 0) (i 1) (colR (i 2))

def valueArr : S4x8448x768.Idx → EReal := fun i => shiftedRow z sp sn (i 0) (i 1) (colV (i 2))

def gateArr : S4x8448x768.Idx → EReal := fun i => gate (shiftedRow z sp sn (i 0) (i 1)) (fun j k => g2 (ix2 j k)) (i 2)

def bonusArr : S4x8448x768.Idx → EReal :=
  fun i => bonus (shiftedRow z sp sn (i 0) (i 1)) (pair a0) (slab a2) (flat ka) (byHeads rk) (i 2)

def unitArr : S4x8448x768.Idx → EReal := fun i => unitKey (shiftedRow z sp sn (i 0) (i 1)) (flat kk) (i 2)

def decayArr (d : Fin 2) : S4x8448x768.Idx → EReal :=
  fun i => logDecay (shiftedRow z sp sn (i 0) (i 1)) (pair w0) (slab w2) d (i 2)

def keyArr (d : Fin 2) : S4x8448x768.Idx → EReal :=
  fun i => key (shiftedRow z sp sn (i 0) (i 1)) (pair a0) (slab a2) (flat ka) d (i 2)

def writtenArr (d : Fin 2) : S4x8448x768.Idx → EReal :=
  fun i => written (shiftedRow z sp sn (i 0) (i 1)) (pair a0) (slab a2) (flat kk) d (i 2)

end

/-- A shifted row of reals is real. -/
theorem isReal_shifted {z : S4x8448x2688.Idx → EReal} {sp sn : S2688.Idx → EReal} (hz : ∀ i, IsReal (z i)) (hp : ∀ i, IsReal (sp i))
    (hn : ∀ i, IsReal (sn i)) (b : Fin 4) (r : Fin 8448) (c : Fin 2688) : IsReal (shiftedRow z sp sn b r c) := by
  have hb : IsReal (beforeRow z b r c) := by
    unfold beforeRow
    split
    · exact isReal_zero
    · exact hz _
  have ha : IsReal (afterRow z b r c) := by
    unfold afterRow
    split
    · exact isReal_zero
    · exact hz _
  exact ((hz _).add ((hp _).mul (hb.sub (hz _)))).add ((hn _).mul (ha.sub (hz _)))

end Cert.Prep

end
-- ==== Proof.PrepFinal.lean ====
module
public import proofs.«01_k».proof.Proof.PrepResult

/-! # The preparation's output arrays

Every point writes its block's rows of each result, and the points cover them. -/

@[expose] public section
noncomputable section
namespace Cert.Prep
open Cert.Kernel6Ideal Cert.Kernel6Ideal.Gen Cert.Kernel6Ideal.Value Cert.HeadNorm
open Cert.HeadOut (onesArr onesArr_apply)
open Idealize.ShloMosaic Idealize.ShloMosaic.TcCoe Idealize.SL.Sem Idealize.ShloMosaic.Pointwise

variable (m : (ℓ : Loc nD τ sig) → Buf (Elt Ideal) ℓ) (c : Dev nD)

abbrev zArr : FVec Ideal S4x8448x2688 .f32 := m ((c : Thread nD τ).loc main_arg0)
abbrev spArr : FVec Ideal S2688 .f32 := m ((c : Thread nD τ).loc main_arg1)
abbrev snArr : FVec Ideal S2688 .f32 := m ((c : Thread nD τ).loc main_arg2)
abbrev w0Arr : FVec Ideal S2x768 .f32 := m ((c : Thread nD τ).loc main_arg3)
abbrev w2Arr : FVec Ideal S2x64x768 .f32 := m ((c : Thread nD τ).loc main_arg4)
abbrev a0Arr : FVec Ideal S2x768 .f32 := m ((c : Thread nD τ).loc main_arg5)
abbrev a2Arr : FVec Ideal S2x64x768 .f32 := m ((c : Thread nD τ).loc main_arg6)
abbrev g2Arr : FVec Ideal S128x768 .f32 := m ((c : Thread nD τ).loc main_arg7)
abbrev kkArr : FVec Ideal S768 .f32 := m ((c : Thread nD τ).loc main_arg8)
abbrev kaArr : FVec Ideal S768 .f32 := m ((c : Thread nD τ).loc main_arg9)
abbrev rkArr : FVec Ideal S12x64 .f32 := m ((c : Thread nD τ).loc main_arg10)

section
variable (t : Fin cfg0.N)

/-- The point's rows, shifted. -/
theorem row_eq (y : Fin 256) : (fun k => shifted (grid0.coords t) (iblk m c 0 t) (iblk m c 1 t) (iblk m c 2 t) (iblk m c 3 t)
    (iblk m c 4 t) (ix2 y k)) = shiftedRow (zArr m c) (spArr m c) (snArr m c) (batchOf t) (rowOf t y) :=
  funext fun k => shifted_eq (zArr m c) (spArr m c) (snArr m c) _ _ _ _ _ _ (batchOf t) (t.val % 33) (by omega) (coord t)
    (fun y k => (congrArg (V m c main_arg0 : FVec Ideal S4x8448x2688 .f32) (emb_rows t y k)).trans (congrFun (V_arg0 m c) _))
    (fun k => (congrArg (V m c main_arg0 : FVec Ideal S4x8448x2688 .f32) (emb_before t k)).trans (congrFun (V_arg0 m c) _))
    (fun k => (congrArg (V m c main_arg0 : FVec Ideal S4x8448x2688 .f32) (emb_after t k)).trans (congrFun (V_arg0 m c) _))
    (fun k => ((congrArg (V m c main_v0 : FVec Ideal S1x2688 .f32) (emb_shift t k)).trans (congrFun (V_prev m c) _)).trans
      (wide_apply _ k))
    (fun k => ((congrArg (V m c main_v1 : FVec Ideal S1x2688 .f32) (emb_shift t k)).trans (congrFun (V_next m c) _)).trans
      (wide_apply _ k)) y k

theorem w0_block (d : Fin 2) (k : Fin 768) : (iblk m c 5 t : Vec Ideal S2x768 .f32) (ix2 d k) = pair (w0Arr m c) d k :=
  (congrArg (V m c main_arg3 : FVec Ideal S2x768 .f32) (emb_pair t d k)).trans (congrFun (V_arg3 m c) _)

theorem w2_block (d : Fin 2) (q : Fin 64) (k : Fin 768) : (iblk m c 6 t : Vec Ideal S2x64x768 .f32) (ix3 d q k)
    = slab (w2Arr m c) d q k :=
  (congrArg (V m c main_arg4 : FVec Ideal S2x64x768 .f32) (emb_slab t d q k)).trans (congrFun (V_arg4 m c) _)

theorem a0_block : (fun d k => (iblk m c 7 t : Vec Ideal S2x768 .f32) (ix2 d k)) = pair (a0Arr m c) :=
  funext fun d => funext fun k =>
    (congrArg (V m c main_arg5 : FVec Ideal S2x768 .f32) (emb_pair t d k)).trans (congrFun (V_arg5 m c) _)

theorem a2_block : (fun d q k => (iblk m c 8 t : Vec Ideal S2x64x768 .f32) (ix3 d q k)) = slab (a2Arr m c) :=
  funext fun d => funext fun q => funext fun k =>
    (congrArg (V m c main_arg6 : FVec Ideal S2x64x768 .f32) (emb_slab t d q k)).trans (congrFun (V_arg6 m c) _)

theorem g2_block (j : Fin 128) (k : Fin 768) : (iblk m c 9 t : Vec Ideal S128x768 .f32) (ix2 j k) = g2Arr m c (ix2 j k) :=
  (congrArg (V m c main_arg7 : FVec Ideal S128x768 .f32) (emb_gate t j k)).trans (congrFun (V_arg7 m c) _)

theorem kk_block : (fun k => (iblk m c 10 t : Vec Ideal S1x768 .f32) (ix2 0 k)) = flat (kkArr m c) :=
  funext fun k => ((congrArg (V m c main_v2 : FVec Ideal S1x768 .f32) (emb_param t k)).trans (congrFun (V_kk m c) _)).trans
    (vector_apply _ k)

theorem ka_block : (fun k => (iblk m c 11 t : Vec Ideal S1x768 .f32) (ix2 0 k)) = flat (kaArr m c) :=
  funext fun k => ((congrArg (V m c main_v3 : FVec Ideal S1x768 .f32) (emb_param t k)).trans (congrFun (V_ka m c) _)).trans
    (vector_apply _ k)

theorem rk_block : (fun k => (iblk m c 12 t : Vec Ideal S1x768 .f32) (ix2 0 k)) = byHeads (rkArr m c) :=
  funext fun k => ((congrArg (V m c main_v4 : FVec Ideal S1x768 .f32) (emb_param t k)).trans (congrFun (V_rk m c) _)).trans
    (heads_apply _ k)

theorem ones_block : (fun j k => (iblk m c 13 t : Vec Ideal S768x768 .bf16) (ix2 j k)) = sameHead :=
  funext fun j => funext fun k =>
    ((congrArg (V m c main_v12 : FVec Ideal S768x768 .bf16) (emb_ones t j k)).trans (congrFun (V_ones m c) _)).trans
      (onesArr_apply j k)

end

/-- The point whose block holds row `r` of batch `b`. -/
def pointOf (b : Fin 4) (r : Fin 8448) : Fin cfg0.N := ⟨33 * b.val + r.val / 256, by have e : cfg0.N = 132 := N_0; omega⟩

theorem batchOf_pointOf (b : Fin 4) (r : Fin 8448) : batchOf (pointOf b r) = b :=
  Fin.ext (show (33 * b.val + r.val / 256) / 33 = b.val by omega)

theorem rowOf_pointOf (b : Fin 4) (r : Fin 8448) : rowOf (pointOf b r) ⟨r.val % 256, by omega⟩ = r :=
  Fin.ext (show 256 * ((33 * b.val + r.val / 256) % 33) + r.val % 256 = r.val by omega)

/-- The points' blocks cover a result. -/
theorem covered (b : Fin 4) (r : Fin 8448) (k : Fin 768) :
    (ix3 b r k : S4x8448x768.Idx) ∈ ((cfg0.win 14).blk (pointOf b r)).view.set := by
  have h := emb_out (pointOf b r) ⟨r.val % 256, by omega⟩ k
  rw [batchOf_pointOf, rowOf_pointOf] at h
  exact h ▸ View.emb_mem_set _ _

theorem block_index (y : S1x256x768.Idx) : ∃ (r : Fin 256) (k : Fin 768), y = ix3 0 r k :=
  ⟨y 1, y 2, (eq_ix3 y).trans (congrArg (ix3 · (y 1) (y 2)) (Subsingleton.elim (α := Fin 1) _ _))⟩

theorem array_index (i : S4x8448x768.Idx) : ∃ (b : Fin 4) (r : Fin 8448) (k : Fin 768), i = ix3 b r k := ⟨i 0, i 1, i 2, eq_ix3 i⟩

theorem receptance_block  (t : Fin cfg0.N) (y : Fin 256) (k : Fin 768) : out0_14 (grid0.coords t) (iblk m c 0 t) (iblk m c 1 t)
    (iblk m c 2 t) (iblk m c 3 t) (iblk m c 4 t) (iblk m c 5 t) (iblk m c 6 t) (iblk m c 7 t) (iblk m c 8 t) (iblk m c 9 t)
    (iblk m c 10 t) (iblk m c 11 t) (iblk m c 12 t) (iblk m c 13 t) (ix3 0 y k) = receptanceArr (zArr m c) (spArr m c) (snArr m
    c) (ix3 (batchOf t) (rowOf t y) k) := by
  rw [receptance_apply]
  exact congrFun (row_eq m c t y) (colR k)

theorem final_receptance  : (dats m 0 c).arrAt 14 cfg0.N = (receptanceArr (zArr m c) (spArr m c) (snArr m c) : FVec Ideal
    S4x8448x768 .f32) := by
  refine (dats m 0 c).arrAt_eq_of_emb 14 _ (fun t _ y => ?_) fun i => ?_
  · obtain ⟨r, k, rfl⟩ := block_index y
    exact (congrFun (after0_14 m c t) _).trans ((receptance_block m c  t r k).trans
      (congrArg (receptanceArr (zArr m c) (spArr m c) (snArr m c)) (emb_out t r k)).symm)
  · obtain ⟨b, r, k, rfl⟩ := array_index i
    exact ⟨pointOf b r, flush0_14 (pointOf b r), covered b r k⟩

theorem value_block  (t : Fin cfg0.N) (y : Fin 256) (k : Fin 768) : out0_15 (grid0.coords t) (iblk m c 0 t) (iblk m c 1 t) (iblk
    m c 2 t) (iblk m c 3 t) (iblk m c 4 t) (iblk m c 5 t) (iblk m c 6 t) (iblk m c 7 t) (iblk m c 8 t) (iblk m c 9 t) (iblk m c
    10 t) (iblk m c 11 t) (iblk m c 12 t) (iblk m c 13 t) (ix3 0 y k) = valueArr (zArr m c) (spArr m c) (snArr m c) (ix3
    (batchOf t) (rowOf t y) k) := by
  rw [value_apply]
  exact congrFun (row_eq m c t y) (colV k)

theorem final_value  : (dats m 0 c).arrAt 15 cfg0.N = (valueArr (zArr m c) (spArr m c) (snArr m c) : FVec Ideal S4x8448x768
    .f32) := by
  refine (dats m 0 c).arrAt_eq_of_emb 15 _ (fun t _ y => ?_) fun i => ?_
  · obtain ⟨r, k, rfl⟩ := block_index y
    exact (congrFun (after0_15 m c t) _).trans ((value_block m c  t r k).trans
      (congrArg (valueArr (zArr m c) (spArr m c) (snArr m c)) (emb_out t r k)).symm)
  · obtain ⟨b, r, k, rfl⟩ := array_index i
    exact ⟨pointOf b r, flush0_15 (pointOf b r), covered b r k⟩

theorem gate_block (hz : ∀ i, IsReal (zArr m c i)) (hp : ∀ i, IsReal (spArr m c i)) (hn : ∀ i, IsReal (snArr m c i)) (hg2 : ∀ i,
    IsReal (g2Arr m c i)) (t : Fin cfg0.N) (y : Fin 256) (k : Fin 768) : out0_16 (grid0.coords t) (iblk m c 0 t) (iblk m c 1 t)
    (iblk m c 2 t) (iblk m c 3 t) (iblk m c 4 t) (iblk m c 5 t) (iblk m c 6 t) (iblk m c 7 t) (iblk m c 8 t) (iblk m c 9 t)
    (iblk m c 10 t) (iblk m c 11 t) (iblk m c 12 t) (iblk m c 13 t) (ix3 0 y k) = gateArr (zArr m c) (spArr m c) (snArr m c)
    (g2Arr m c) (ix3 (batchOf t) (rowOf t y) k) := by
  rw [gate_apply]
  rw [funext fun j => congrArg Ideal.logistic (congrFun (row_eq m c t y) (colG j)), funext fun j => g2_block m c t j k]
  exact splitProd_eq _ _ (fun j => isReal_logistic _) (fun j => hg2 _)

theorem final_gate (hz : ∀ i, IsReal (zArr m c i)) (hp : ∀ i, IsReal (spArr m c i)) (hn : ∀ i, IsReal (snArr m c i)) (hg2 : ∀ i,
    IsReal (g2Arr m c i)) : (dats m 0 c).arrAt 16 cfg0.N = (gateArr (zArr m c) (spArr m c) (snArr m c) (g2Arr m c) : FVec Ideal
    S4x8448x768 .f32) := by
  refine (dats m 0 c).arrAt_eq_of_emb 16 _ (fun t _ y => ?_) fun i => ?_
  · obtain ⟨r, k, rfl⟩ := block_index y
    exact (congrFun (after0_16 m c t) _).trans ((gate_block m c hz hp hn hg2 t r k).trans
      (congrArg (gateArr (zArr m c) (spArr m c) (snArr m c) (g2Arr m c)) (emb_out t r k)).symm)
  · obtain ⟨b, r, k, rfl⟩ := array_index i
    exact ⟨pointOf b r, flush0_16 (pointOf b r), covered b r k⟩

theorem bonus_block (hz : ∀ i, IsReal (zArr m c i)) (hp : ∀ i, IsReal (spArr m c i)) (hn : ∀ i, IsReal (snArr m c i)) (ha2 : ∀
    i, IsReal (a2Arr m c i)) (hka : ∀ i, IsReal (kaArr m c i)) (hrk : ∀ i, IsReal (rkArr m c i)) (t : Fin cfg0.N) (y : Fin 256)
    (k : Fin 768) : out0_17 (grid0.coords t) (iblk m c 0 t) (iblk m c 1 t) (iblk m c 2 t) (iblk m c 3 t) (iblk m c 4 t) (iblk m
    c 5 t) (iblk m c 6 t) (iblk m c 7 t) (iblk m c 8 t) (iblk m c 9 t) (iblk m c 10 t) (iblk m c 11 t) (iblk m c 12 t) (iblk m c
    13 t) (ix3 0 y k) = bonusArr (zArr m c) (spArr m c) (snArr m c) (a0Arr m c) (a2Arr m c) (kaArr m c) (rkArr m c) (ix3
    (batchOf t) (rowOf t y) k) := by
  rw [bonus_apply]
  rw [row_eq, a0_block, a2_block, ka_block, rk_block, ones_block]
  exact kernelBonus_eq _ _ (isReal_shifted hz hp hn _ _) (fun _ _ _ => ha2 _) (fun _ => hka _) (fun _ => hrk _) k

theorem final_bonus (hz : ∀ i, IsReal (zArr m c i)) (hp : ∀ i, IsReal (spArr m c i)) (hn : ∀ i, IsReal (snArr m c i)) (ha2 : ∀
    i, IsReal (a2Arr m c i)) (hka : ∀ i, IsReal (kaArr m c i)) (hrk : ∀ i, IsReal (rkArr m c i)) : (dats m 0 c).arrAt 17 cfg0.N
    = (bonusArr (zArr m c) (spArr m c) (snArr m c) (a0Arr m c) (a2Arr m c) (kaArr m c) (rkArr m c) : FVec Ideal S4x8448x768
    .f32) := by
  refine (dats m 0 c).arrAt_eq_of_emb 17 _ (fun t _ y => ?_) fun i => ?_
  · obtain ⟨r, k, rfl⟩ := block_index y
    exact (congrFun (after0_17 m c t) _).trans ((bonus_block m c hz hp hn ha2 hka hrk t r k).trans
      (congrArg (bonusArr (zArr m c) (spArr m c) (snArr m c) (a0Arr m c) (a2Arr m c) (kaArr m c) (rkArr m c)) (emb_out t r k)).symm)
  · obtain ⟨b, r, k, rfl⟩ := array_index i
    exact ⟨pointOf b r, flush0_17 (pointOf b r), covered b r k⟩

theorem unit_block (hz : ∀ i, IsReal (zArr m c i)) (hp : ∀ i, IsReal (spArr m c i)) (hn : ∀ i, IsReal (snArr m c i)) (hkk : ∀ i,
    IsReal (kkArr m c i)) (t : Fin cfg0.N) (y : Fin 256) (k : Fin 768) : out0_18 (grid0.coords t) (iblk m c 0 t) (iblk m c 1 t)
    (iblk m c 2 t) (iblk m c 3 t) (iblk m c 4 t) (iblk m c 5 t) (iblk m c 6 t) (iblk m c 7 t) (iblk m c 8 t) (iblk m c 9 t)
    (iblk m c 10 t) (iblk m c 11 t) (iblk m c 12 t) (iblk m c 13 t) (ix3 0 y k) = unitArr (zArr m c) (spArr m c) (snArr m c)
    (kkArr m c) (ix3 (batchOf t) (rowOf t y) k) := by
  rw [unit_apply]
  rw [row_eq, kk_block, ones_block]
  exact kernelUnit_eq (isReal_shifted hz hp hn _ _) (fun _ => hkk _) k

theorem final_unit (hz : ∀ i, IsReal (zArr m c i)) (hp : ∀ i, IsReal (spArr m c i)) (hn : ∀ i, IsReal (snArr m c i)) (hkk : ∀ i,
    IsReal (kkArr m c i)) : (dats m 0 c).arrAt 18 cfg0.N = (unitArr (zArr m c) (spArr m c) (snArr m c) (kkArr m c) : FVec Ideal
    S4x8448x768 .f32) := by
  refine (dats m 0 c).arrAt_eq_of_emb 18 _ (fun t _ y => ?_) fun i => ?_
  · obtain ⟨r, k, rfl⟩ := block_index y
    exact (congrFun (after0_18 m c t) _).trans ((unit_block m c hz hp hn hkk t r k).trans
      (congrArg (unitArr (zArr m c) (spArr m c) (snArr m c) (kkArr m c)) (emb_out t r k)).symm)
  · obtain ⟨b, r, k, rfl⟩ := array_index i
    exact ⟨pointOf b r, flush0_18 (pointOf b r), covered b r k⟩

theorem decay_block (hw2 : ∀ i, IsReal (w2Arr m c i)) (t : Fin cfg0.N) (y : Fin 256) (k : Fin 768) : out0_19 (grid0.coords t)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (ix3 0 y k) = decayArr (zArr m
    c) (spArr m c) (snArr m c) (w0Arr m c) (w2Arr m c) 0 (ix3 (batchOf t) (rowOf t y) k) := by
  rw [decay_apply]
  rw [kernelDecay_eq, funext fun q => congrArg Ideal.tanh (congrFun (row_eq m c t y) (colW 0 q)), w0_block,
    funext fun q => w2_block m c t 0 q k, splitProd_eq _ _ (fun q => isReal_tanh _) (fun q => hw2 _)]
  rfl

theorem final_decay (hw2 : ∀ i, IsReal (w2Arr m c i)) : (dats m 0 c).arrAt 19 cfg0.N = (decayArr (zArr m c) (spArr m c) (snArr m
    c) (w0Arr m c) (w2Arr m c) 0 : FVec Ideal S4x8448x768 .f32) := by
  refine (dats m 0 c).arrAt_eq_of_emb 19 _ (fun t _ y => ?_) fun i => ?_
  · obtain ⟨r, k, rfl⟩ := block_index y
    exact (congrFun (after0_19 m c t) _).trans ((decay_block m c hw2 t r k).trans
      (congrArg (decayArr (zArr m c) (spArr m c) (snArr m c) (w0Arr m c) (w2Arr m c) 0) (emb_out t r k)).symm)
  · obtain ⟨b, r, k, rfl⟩ := array_index i
    exact ⟨pointOf b r, flush0_19 (pointOf b r), covered b r k⟩

theorem key_block (hz : ∀ i, IsReal (zArr m c i)) (hp : ∀ i, IsReal (spArr m c i)) (hn : ∀ i, IsReal (snArr m c i)) (ha2 : ∀ i,
    IsReal (a2Arr m c i)) (t : Fin cfg0.N) (y : Fin 256) (k : Fin 768) : out0_20 (grid0.coords t) (iblk m c 0 t) (iblk m c 1 t)
    (iblk m c 2 t) (iblk m c 3 t) (iblk m c 4 t) (iblk m c 5 t) (iblk m c 6 t) (iblk m c 7 t) (iblk m c 8 t) (iblk m c 9 t)
    (iblk m c 10 t) (iblk m c 11 t) (iblk m c 12 t) (iblk m c 13 t) (ix3 0 y k) = keyArr (zArr m c) (spArr m c) (snArr m c)
    (a0Arr m c) (a2Arr m c) (kaArr m c) 0 (ix3 (batchOf t) (rowOf t y) k) := by
  rw [key_apply]
  rw [row_eq, a0_block, a2_block, ka_block, kernelKey_eq _ _ (isReal_shifted hz hp hn _ _) (fun _ _ _ => ha2 _)]
  rfl

theorem final_key (hz : ∀ i, IsReal (zArr m c i)) (hp : ∀ i, IsReal (spArr m c i)) (hn : ∀ i, IsReal (snArr m c i)) (ha2 : ∀ i,
    IsReal (a2Arr m c i)) : (dats m 0 c).arrAt 20 cfg0.N = (keyArr (zArr m c) (spArr m c) (snArr m c) (a0Arr m c) (a2Arr m c)
    (kaArr m c) 0 : FVec Ideal S4x8448x768 .f32) := by
  refine (dats m 0 c).arrAt_eq_of_emb 20 _ (fun t _ y => ?_) fun i => ?_
  · obtain ⟨r, k, rfl⟩ := block_index y
    exact (congrFun (after0_20 m c t) _).trans ((key_block m c hz hp hn ha2 t r k).trans
      (congrArg (keyArr (zArr m c) (spArr m c) (snArr m c) (a0Arr m c) (a2Arr m c) (kaArr m c) 0) (emb_out t r k)).symm)
  · obtain ⟨b, r, k, rfl⟩ := array_index i
    exact ⟨pointOf b r, flush0_20 (pointOf b r), covered b r k⟩

theorem written_block (hz : ∀ i, IsReal (zArr m c i)) (hp : ∀ i, IsReal (spArr m c i)) (hn : ∀ i, IsReal (snArr m c i)) (ha2 : ∀
    i, IsReal (a2Arr m c i)) (hkk : ∀ i, IsReal (kkArr m c i)) (t : Fin cfg0.N) (y : Fin 256) (k : Fin 768) : out0_21
    (grid0.coords t) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (ix3 0 y k) =
    writtenArr (zArr m c) (spArr m c) (snArr m c) (a0Arr m c) (a2Arr m c) (kkArr m c) 0 (ix3 (batchOf t) (rowOf t y) k) := by
  rw [written_apply]
  rw [row_eq, a0_block, a2_block, kk_block, ones_block, kernelUnit_eq (isReal_shifted hz hp hn _ _) (fun _ => hkk _),
    kernelRate_eq _ _ (isReal_shifted hz hp hn _ _) (fun _ _ _ => ha2 _)]
  rfl

theorem final_written (hz : ∀ i, IsReal (zArr m c i)) (hp : ∀ i, IsReal (spArr m c i)) (hn : ∀ i, IsReal (snArr m c i)) (ha2 : ∀
    i, IsReal (a2Arr m c i)) (hkk : ∀ i, IsReal (kkArr m c i)) : (dats m 0 c).arrAt 21 cfg0.N = (writtenArr (zArr m c) (spArr m
    c) (snArr m c) (a0Arr m c) (a2Arr m c) (kkArr m c) 0 : FVec Ideal S4x8448x768 .f32) := by
  refine (dats m 0 c).arrAt_eq_of_emb 21 _ (fun t _ y => ?_) fun i => ?_
  · obtain ⟨r, k, rfl⟩ := block_index y
    exact (congrFun (after0_21 m c t) _).trans ((written_block m c hz hp hn ha2 hkk t r k).trans
      (congrArg (writtenArr (zArr m c) (spArr m c) (snArr m c) (a0Arr m c) (a2Arr m c) (kkArr m c) 0) (emb_out t r k)).symm)
  · obtain ⟨b, r, k, rfl⟩ := array_index i
    exact ⟨pointOf b r, flush0_21 (pointOf b r), covered b r k⟩

theorem decay'_block (hw2 : ∀ i, IsReal (w2Arr m c i)) (t : Fin cfg0.N) (y : Fin 256) (k : Fin 768) : out0_22 (grid0.coords t)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (ix3 0 y k) = decayArr (zArr m
    c) (spArr m c) (snArr m c) (w0Arr m c) (w2Arr m c) 1 (ix3 (batchOf t) (rowOf t y) k) := by
  rw [decay_apply']
  rw [kernelDecay_eq, funext fun q => congrArg Ideal.tanh (congrFun (row_eq m c t y) (colW 1 q)), w0_block,
    funext fun q => w2_block m c t 1 q k, splitProd_eq _ _ (fun q => isReal_tanh _) (fun q => hw2 _)]
  rfl

theorem final_decay' (hw2 : ∀ i, IsReal (w2Arr m c i)) : (dats m 0 c).arrAt 22 cfg0.N = (decayArr (zArr m c) (spArr m c) (snArr
    m c) (w0Arr m c) (w2Arr m c) 1 : FVec Ideal S4x8448x768 .f32) := by
  refine (dats m 0 c).arrAt_eq_of_emb 22 _ (fun t _ y => ?_) fun i => ?_
  · obtain ⟨r, k, rfl⟩ := block_index y
    exact (congrFun (after0_22 m c t) _).trans ((decay'_block m c hw2 t r k).trans
      (congrArg (decayArr (zArr m c) (spArr m c) (snArr m c) (w0Arr m c) (w2Arr m c) 1) (emb_out t r k)).symm)
  · obtain ⟨b, r, k, rfl⟩ := array_index i
    exact ⟨pointOf b r, flush0_22 (pointOf b r), covered b r k⟩

theorem key'_block (hz : ∀ i, IsReal (zArr m c i)) (hp : ∀ i, IsReal (spArr m c i)) (hn : ∀ i, IsReal (snArr m c i)) (ha2 : ∀ i,
    IsReal (a2Arr m c i)) (t : Fin cfg0.N) (y : Fin 256) (k : Fin 768) : out0_23 (grid0.coords t) (iblk m c 0 t) (iblk m c 1 t)
    (iblk m c 2 t) (iblk m c 3 t) (iblk m c 4 t) (iblk m c 5 t) (iblk m c 6 t) (iblk m c 7 t) (iblk m c 8 t) (iblk m c 9 t)
    (iblk m c 10 t) (iblk m c 11 t) (iblk m c 12 t) (iblk m c 13 t) (ix3 0 y k) = keyArr (zArr m c) (spArr m c) (snArr m c)
    (a0Arr m c) (a2Arr m c) (kaArr m c) 1 (ix3 (batchOf t) (rowOf t y) k) := by
  rw [key_apply']
  rw [row_eq, a0_block, a2_block, ka_block, kernelKey_eq _ _ (isReal_shifted hz hp hn _ _) (fun _ _ _ => ha2 _)]
  rfl

theorem final_key' (hz : ∀ i, IsReal (zArr m c i)) (hp : ∀ i, IsReal (spArr m c i)) (hn : ∀ i, IsReal (snArr m c i)) (ha2 : ∀ i,
    IsReal (a2Arr m c i)) : (dats m 0 c).arrAt 23 cfg0.N = (keyArr (zArr m c) (spArr m c) (snArr m c) (a0Arr m c) (a2Arr m c)
    (kaArr m c) 1 : FVec Ideal S4x8448x768 .f32) := by
  refine (dats m 0 c).arrAt_eq_of_emb 23 _ (fun t _ y => ?_) fun i => ?_
  · obtain ⟨r, k, rfl⟩ := block_index y
    exact (congrFun (after0_23 m c t) _).trans ((key'_block m c hz hp hn ha2 t r k).trans
      (congrArg (keyArr (zArr m c) (spArr m c) (snArr m c) (a0Arr m c) (a2Arr m c) (kaArr m c) 1) (emb_out t r k)).symm)
  · obtain ⟨b, r, k, rfl⟩ := array_index i
    exact ⟨pointOf b r, flush0_23 (pointOf b r), covered b r k⟩

theorem written'_block (hz : ∀ i, IsReal (zArr m c i)) (hp : ∀ i, IsReal (spArr m c i)) (hn : ∀ i, IsReal (snArr m c i)) (ha2 :
    ∀ i, IsReal (a2Arr m c i)) (hkk : ∀ i, IsReal (kkArr m c i)) (t : Fin cfg0.N) (y : Fin 256) (k : Fin 768) : out0_24
    (grid0.coords t) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (ix3 0 y k) =
    writtenArr (zArr m c) (spArr m c) (snArr m c) (a0Arr m c) (a2Arr m c) (kkArr m c) 1 (ix3 (batchOf t) (rowOf t y) k) := by
  rw [written_apply']
  rw [row_eq, a0_block, a2_block, kk_block, ones_block, kernelUnit_eq (isReal_shifted hz hp hn _ _) (fun _ => hkk _),
    kernelRate_eq _ _ (isReal_shifted hz hp hn _ _) (fun _ _ _ => ha2 _)]
  rfl

theorem final_written' (hz : ∀ i, IsReal (zArr m c i)) (hp : ∀ i, IsReal (spArr m c i)) (hn : ∀ i, IsReal (snArr m c i)) (ha2 :
    ∀ i, IsReal (a2Arr m c i)) (hkk : ∀ i, IsReal (kkArr m c i)) : (dats m 0 c).arrAt 24 cfg0.N = (writtenArr (zArr m c) (spArr
    m c) (snArr m c) (a0Arr m c) (a2Arr m c) (kkArr m c) 1 : FVec Ideal S4x8448x768 .f32) := by
  refine (dats m 0 c).arrAt_eq_of_emb 24 _ (fun t _ y => ?_) fun i => ?_
  · obtain ⟨r, k, rfl⟩ := block_index y
    exact (congrFun (after0_24 m c t) _).trans ((written'_block m c hz hp hn ha2 hkk t r k).trans
      (congrArg (writtenArr (zArr m c) (spArr m c) (snArr m c) (a0Arr m c) (a2Arr m c) (kkArr m c) 1) (emb_out t r k)).symm)
  · obtain ⟨b, r, k, rfl⟩ := array_index i
    exact ⟨pointOf b r, flush0_24 (pointOf b r), covered b r k⟩

end Cert.Prep

end
-- ==== Proof.PrepRef.lean ====
module
public import proofs.«01_k».proof.Proof.PrepResult
public import proofs.«01_k».proof.Proof.Gen.Reference6Ideal.Read
public import Idealize.ShloMosaic.Lib.KernelVsHost

/-! # The reference of the preparation: the shifted rows

It shifts the context's rows and the latents' rows apart, a row of zeros standing for the one that is missing, and joins them. -/

@[expose] public section
noncomputable section
namespace Cert.PrepRef
open Cert.Reference6Ideal Cert.Reference6Ideal.Read Cert.HeadNorm Cert.Prep
open Idealize.ShloMosaic Idealize.ShloMosaic.TcCoe Idealize.ShloMosaic.Pointwise

variable (z : FVec Ideal S4x8448x2688 .f32) (sp sn : FVec Ideal S2688 .f32)

theorem fill_apply (i : S_.Idx) : val_main_call0_v0 (F := Ideal) i = 0 := by
  show (((0#32 : BitVec 32).toInt : ℝ) : EReal) = 0
  simp

/-- The context's row before. -/
theorem contextBefore_apply (b : Fin 4) (r : Fin 256) (c : Fin 2688) :
    val_main_v2 (F := Ideal) z (ix3 b r c) = beforeRow z b ⟨r.val, by omega⟩ c := by
  unfold val_main_v2 beforeRow
  by_cases h : r.val = 0
  · rw [if_pos (show r.val = 0 ∨ r.val = 256 from Or.inl h)]
    refine (pad_apply_of_not_inside _ _ _ _ _ _ _ (ix3 b r c) (1 : Fin 3) ?_).trans (fill_apply _)
    show ¬(1 ≤ r.val ∧ _)
    omega
  · rw [if_neg (show ¬(r.val = 0 ∨ r.val = 256) by omega)]
    refine (pad_apply_of_inside _ _ _ _ _ _ _ (ix3 b r c) (ix3 b (⟨r.val - 1, by omega⟩ : Fin 255) c) fun a => ?_).trans ?_
    · match a with
      | ⟨0, _⟩ => show b.val = 0 + b.val * (0 + 1); omega
      | ⟨1, _⟩ => show r.val = 1 + (r.val - 1) * (0 + 1); omega
      | ⟨2, _⟩ => show c.val = 0 + c.val * (0 + 1); omega
    · pointwise [val_main_v1, val_main_v0]

/-- The context's row after. -/
theorem contextAfter_apply (b : Fin 4) (r : Fin 256) (c : Fin 2688) :
    val_main_v4 (F := Ideal) z (ix3 b r c) = afterRow z b ⟨r.val, by omega⟩ c := by
  unfold val_main_v4 afterRow
  by_cases h : r.val = 255
  · rw [dif_pos (show r.val = 255 ∨ r.val = 8447 from Or.inl h)]
    refine (pad_apply_of_not_inside _ _ _ _ _ _ _ (ix3 b r c) (1 : Fin 3) ?_).trans (fill_apply _)
    show ¬(0 ≤ r.val ∧ (r.val - 0) % (0 + 1) = 0 ∧ (r.val - 0) / (0 + 1) < 255)
    omega
  · rw [dif_neg (show ¬(r.val = 255 ∨ r.val = 8447) by omega)]
    refine (pad_apply_of_inside _ _ _ _ _ _ _ (ix3 b r c) (ix3 b (⟨r.val, by omega⟩ : Fin 255) c) fun a => ?_).trans ?_
    · match a with
      | ⟨0, _⟩ => show b.val = 0 + b.val * (0 + 1); omega
      | ⟨1, _⟩ => show r.val = 0 + r.val * (0 + 1); omega
      | ⟨2, _⟩ => show c.val = 0 + c.val * (0 + 1); omega
    · pointwise [val_main_v3, val_main_v0]
      exact congrArg (fun q => z (ix3 b q c)) (Fin.ext (show 1 + r.val = r.val + 1 by omega))

/-- The latents' row before. -/
theorem latentBefore_apply (b : Fin 4) (r : Fin 8192) (c : Fin 2688) :
    val_main_v17 (F := Ideal) z (ix3 b r c) = beforeRow z b ⟨256 + r.val, by omega⟩ c := by
  unfold val_main_v17 beforeRow
  by_cases h : r.val = 0
  · rw [if_pos (show 256 + r.val = 0 ∨ 256 + r.val = 256 by omega)]
    refine (pad_apply_of_not_inside _ _ _ _ _ _ _ (ix3 b r c) (1 : Fin 3) ?_).trans (fill_apply _)
    show ¬(1 ≤ r.val ∧ _)
    omega
  · rw [if_neg (show ¬(256 + r.val = 0 ∨ 256 + r.val = 256) by omega)]
    refine (pad_apply_of_inside _ _ _ _ _ _ _ (ix3 b r c) (ix3 b (⟨r.val - 1, by omega⟩ : Fin 8191) c) fun a => ?_).trans ?_
    · match a with
      | ⟨0, _⟩ => show b.val = 0 + b.val * (0 + 1); omega
      | ⟨1, _⟩ => show r.val = 1 + (r.val - 1) * (0 + 1); omega
      | ⟨2, _⟩ => show c.val = 0 + c.val * (0 + 1); omega
    · pointwise [val_main_v16, val_main_v15]
      exact congrArg (fun q => z (ix3 b q c)) (Fin.ext (show 256 + (r.val - 1) = 256 + r.val - 1 by omega))

/-- The latents' row after. -/
theorem latentAfter_apply (b : Fin 4) (r : Fin 8192) (c : Fin 2688) :
    val_main_v19 (F := Ideal) z (ix3 b r c) = afterRow z b ⟨256 + r.val, by omega⟩ c := by
  unfold val_main_v19 afterRow
  by_cases h : r.val = 8191
  · rw [dif_pos (show 256 + r.val = 255 ∨ 256 + r.val = 8447 by omega)]
    refine (pad_apply_of_not_inside _ _ _ _ _ _ _ (ix3 b r c) (1 : Fin 3) ?_).trans (fill_apply _)
    show ¬(0 ≤ r.val ∧ (r.val - 0) % (0 + 1) = 0 ∧ (r.val - 0) / (0 + 1) < 8191)
    omega
  · rw [dif_neg (show ¬(256 + r.val = 255 ∨ 256 + r.val = 8447) by omega)]
    refine (pad_apply_of_inside _ _ _ _ _ _ _ (ix3 b r c) (ix3 b (⟨r.val, by omega⟩ : Fin 8191) c) fun a => ?_).trans ?_
    · match a with
      | ⟨0, _⟩ => show b.val = 0 + b.val * (0 + 1); omega
      | ⟨1, _⟩ => show r.val = 0 + r.val * (0 + 1); omega
      | ⟨2, _⟩ => show c.val = 0 + c.val * (0 + 1); omega
    · pointwise [val_main_v18, val_main_v15]
      exact congrArg (fun q => z (ix3 b q c)) (Fin.ext (show 256 + (1 + r.val) = 256 + r.val + 1 by omega))

theorem context_apply (b : Fin 4) (r : Fin 256) (c : Fin 2688) :
    val_main_v14 (F := Ideal) z sp sn (ix3 b r c) = shiftedRow z sp sn b ⟨r.val, by omega⟩ c := by
  have h : val_main_v14 (F := Ideal) z sp sn (ix3 b r c) = z (ix3 b ⟨r.val, by omega⟩ c)
      + sp (ix1 c) * (val_main_v2 (F := Ideal) z (ix3 b r c) - z (ix3 b ⟨r.val, by omega⟩ c))
      + sn (ix1 c) * (val_main_v4 (F := Ideal) z (ix3 b r c) - z (ix3 b ⟨r.val, by omega⟩ c)) := by
    unfold val_main_v14 val_main_v13 val_main_v10 val_main_v9 val_main_v8 val_main_v5
    generalize val_main_v2 (F := Ideal) z = p
    generalize val_main_v4 (F := Ideal) z = n
    pointwise [val_main_v12, val_main_v11, val_main_v7, val_main_v6, val_main_v0]
  rw [h, contextBefore_apply, contextAfter_apply]
  rfl

theorem latent_apply (b : Fin 4) (r : Fin 8192) (c : Fin 2688) :
    val_main_v29 (F := Ideal) z sp sn (ix3 b r c) = shiftedRow z sp sn b ⟨256 + r.val, by omega⟩ c := by
  have h : val_main_v29 (F := Ideal) z sp sn (ix3 b r c) = z (ix3 b ⟨256 + r.val, by omega⟩ c)
      + sp (ix1 c) * (val_main_v17 (F := Ideal) z (ix3 b r c) - z (ix3 b ⟨256 + r.val, by omega⟩ c))
      + sn (ix1 c) * (val_main_v19 (F := Ideal) z (ix3 b r c) - z (ix3 b ⟨256 + r.val, by omega⟩ c)) := by
    unfold val_main_v29 val_main_v28 val_main_v25 val_main_v24 val_main_v23 val_main_v20
    generalize val_main_v17 (F := Ideal) z = p
    generalize val_main_v19 (F := Ideal) z = n
    pointwise [val_main_v27, val_main_v26, val_main_v22, val_main_v21, val_main_v15]
  rw [h, latentBefore_apply, latentAfter_apply]
  rfl

/-- The joined rows, shifted. -/
theorem joined_apply (b : Fin 4) (r : Fin 8448) (c : Fin 2688) :
    val_main_v30 (F := Ideal) z sp sn (ix3 b r c) = shiftedRow z sp sn b r c := by
  have h : val_main_v30 (F := Ideal) z sp sn (ix3 b r c)
      = if h : r.val < 256 then val_main_v14 (F := Ideal) z sp sn (ix3 b ⟨r.val, h⟩ c)
        else val_main_v29 (F := Ideal) z sp sn (ix3 b ⟨r.val - 256, by omega⟩ c) := by
    pointwise [val_main_v30]
  rw [h]
  by_cases hr : r.val < 256
  · rw [dif_pos hr, context_apply]
  · rw [dif_neg hr, latent_apply]
    exact congrArg (fun q => shiftedRow z sp sn b q c) (Fin.ext (show 256 + (r.val - 256) = r.val by omega))

/-! ## Its columns -/

theorem receptance_apply (b : Fin 4) (r : Fin 8448) (k : Fin 768) :
    val_main_v31 (F := Ideal) z sp sn (ix3 b r k) = shiftedRow z sp sn b r (colR k) := by
  rw [← joined_apply]
  unfold val_main_v31
  generalize val_main_v30 (F := Ideal) z sp sn = s
  pointwise
  rfl

theorem column_apply (b : Fin 4) (r : Fin 8448) (k : Fin 768) :
    val_main_v32 (F := Ideal) z sp sn (ix3 b r k) = shiftedRow z sp sn b r (colK k) := by
  rw [← joined_apply]
  unfold val_main_v32
  generalize val_main_v30 (F := Ideal) z sp sn = s
  pointwise
  rfl

theorem value_apply (b : Fin 4) (r : Fin 8448) (k : Fin 768) :
    val_main_v33 (F := Ideal) z sp sn (ix3 b r k) = shiftedRow z sp sn b r (colV k) := by
  rw [← joined_apply]
  unfold val_main_v33
  generalize val_main_v30 (F := Ideal) z sp sn = s
  pointwise
  rfl

/-- The decay's columns, by directions, -/
theorem decayColumn_apply (b : Fin 4) (r : Fin 8448) (d : Fin 2) (q : Fin 64) :
    val_main_v37 (F := Ideal) z sp sn (ix4 b r d q) = shiftedRow z sp sn b r (colW d q) := by
  rw [← joined_apply]
  unfold val_main_v37 val_main_v34
  generalize val_main_v30 (F := Ideal) z sp sn = s
  refine (shapeCast_apply _ _ _ (ix3 b r ⟨64 * d.val + q.val, by omega⟩) ?_).trans ?_
  · rw [Shape.rowMajor_val_three, Shape.rowMajor_val_four]
    show (b.val * 8448 + r.val) * 128 + (64 * d.val + q.val) = ((b.val * 8448 + r.val) * 2 + d.val) * 64 + q.val
    omega
  · pointwise
    rfl

/-- and the rate's. -/
theorem rateColumn_apply (b : Fin 4) (r : Fin 8448) (d : Fin 2) (q : Fin 64) :
    val_main_v38 (F := Ideal) z sp sn (ix4 b r d q) = shiftedRow z sp sn b r (colA d q) := by
  rw [← joined_apply]
  unfold val_main_v38 val_main_v35
  generalize val_main_v30 (F := Ideal) z sp sn = s
  refine (shapeCast_apply _ _ _ (ix3 b r ⟨64 * d.val + q.val, by omega⟩) ?_).trans ?_
  · rw [Shape.rowMajor_val_three, Shape.rowMajor_val_four]
    show (b.val * 8448 + r.val) * 128 + (64 * d.val + q.val) = ((b.val * 8448 + r.val) * 2 + d.val) * 64 + q.val
    omega
  · pointwise
    rfl

/-- The gate. -/
theorem gate_apply (g2 : FVec Ideal S128x768 .f32) (b : Fin 4) (r : Fin 8448) (k : Fin 768) :
    val_main_v45 (F := Ideal) z sp sn g2 (ix3 b r k) = gate (shiftedRow z sp sn b r) (fun j k => g2 (ix2 j k)) k := by
  have h : val_main_v45 (F := Ideal) z sp sn g2 (ix3 b r k)
      = gate (fun c => val_main_v30 (F := Ideal) z sp sn (ix3 b r c)) (fun j k => g2 (ix2 j k)) k := by
    unfold val_main_v45 val_main_v44 val_main_v42 val_main_v40 val_main_v39 val_main_v36
    generalize val_main_v30 (F := Ideal) z sp sn = s
    pointwise [val_main_v43, val_main_v41, val_main_cst, val_main_cst_3]
    rfl
  rw [h, funext fun c => joined_apply z sp sn b r c]

end Cert.PrepRef

end
-- ==== Proof.PrepRefHeads.lean ====
module
public import proofs.«01_k».proof.Proof.PrepRef

/-! # The reference of the preparation: heads

Rows split into heads and joined again, and the removed key, divided by its head's norm. -/

@[expose] public section
noncomputable section
namespace Cert.PrepRef
open Cert.Reference6Ideal Cert.Reference6Ideal.Read Cert.HeadNorm Cert.Prep
open Idealize.ShloMosaic Idealize.ShloMosaic.TcCoe Idealize.ShloMosaic.Pointwise

/-! ## Rows by heads -/

/-- A row, split into heads, -/
theorem split_apply (x : S4x8448x768.Idx → EReal) (hc : S4x8448x768.ShapeCasts S4x8448x12x64) (b : Fin 4) (r : Fin 8448) (h : Fin 12) (d : Fin 64) :
    shapeCast S4x8448x12x64 x hc (ix4 b r h d) = x (ix3 b r (entry h d)) := by
  refine shapeCast_apply _ _ _ _ ?_
  rw [Shape.rowMajor_val_three, Shape.rowMajor_val_four]
  show (b.val * 8448 + r.val) * 768 + (64 * h.val + d.val) = ((b.val * 8448 + r.val) * 12 + h.val) * 64 + d.val
  omega

/-- and joined again. -/
theorem join_apply (x : S4x8448x12x64.Idx → EReal) (hc : S4x8448x12x64.ShapeCasts S4x8448x768) (b : Fin 4) (r : Fin 8448) (k : Fin 768) :
    shapeCast S4x8448x768 x hc (ix3 b r k) = x (ix4 b r (head k) ⟨k.val % 64, by omega⟩) := by
  refine shapeCast_apply _ _ _ _ ?_
  rw [Shape.rowMajor_val_three, Shape.rowMajor_val_four]
  show ((b.val * 8448 + r.val) * 12 + k.val / 64) * 64 + k.val % 64 = (b.val * 8448 + r.val) * 768 + k.val
  omega

theorem head_index {b : Fin 4} {r : Fin 8448} {h : Fin 12} {d : Fin 64} (i : S4x8448x12x64.Idx) (j : S4x8448x12x64.Idx)
    (e : j = ix4 b r h d) (h0 : i 0 = b) (h1 : i 1 = r) (h2 : i 2 = h) (h3 : i 3 = d) : i = j := by
  subst e h0 h1 h2 h3
  exact eq_ix4 i

theorem product_apply (s t : FVec Ideal S4x8448x12x64 .f32) (i : S4x8448x12x64.Idx) : mulf s t i = s i * t i := rfl

/-- A sum that starts from zero. -/
theorem zero_start {x : EReal} (y : EReal) (h : x = 0) : x + y = y := by rw [h, zero_add]

theorem entry_head (k : Fin 768) : entry (head k) ⟨k.val % 64, by omega⟩ = k :=
  Fin.ext (show 64 * (k.val / 64) + k.val % 64 = k.val by omega)

theorem byHeads_entry (rk : S12x64.Idx → EReal) (h : Fin 12) (d : Fin 64) : byHeads rk (entry h d) = rk (ix2 h d) := by
  have hd : (⟨(entry h d).val % 64, by omega⟩ : Fin 64) = d := Fin.ext (show (64 * h.val + d.val) % 64 = d.val by omega)
  show rk (ix2 (head (entry h d)) ⟨(entry h d).val % 64, _⟩) = _
  rw [head_entry, hd]

variable (z : FVec Ideal S4x8448x2688 .f32) (sp sn : FVec Ideal S2688 .f32) (w0 a0 : FVec Ideal S2x768 .f32)
    (w2 a2 : FVec Ideal S2x64x768 .f32) (kk ka : FVec Ideal S768 .f32) (rk : FVec Ideal S12x64 .f32)

/-! ## The removed key -/

theorem scaled_apply (b : Fin 4) (r : Fin 8448) (h : Fin 12) (d : Fin 64) : val_main_v49 (F := Ideal) z sp sn kk (ix4 b r h d)
    = scaledKey (shiftedRow z sp sn b r) (flat kk) (entry h d) := by
  unfold val_main_v49
  refine (split_apply _ _ b r h d).trans ?_
  have e : val_main_v48 (F := Ideal) z sp sn kk (ix3 b r (entry h d))
      = (val_main_v32 (F := Ideal) z sp sn (ix3 b r (entry h d)) * kk (ix1 (entry h d)) : EReal) := by
    unfold val_main_v48
    generalize val_main_v32 (F := Ideal) z sp sn = s
    pointwise [val_main_v47, val_main_v46]
  rw [e, column_apply]
  rfl

theorem unitHeads_apply (b : Fin 4) (r : Fin 8448) (h : Fin 12) (d : Fin 64) : val_main_v57 (F := Ideal) z sp sn kk (ix4 b r h d)
    = unitKey (shiftedRow z sp sn b r) (flat kk) (entry h d) := by
  have e : val_main_v57 (F := Ideal) z sp sn kk (ix4 b r h d) = Ideal.div (val_main_v49 (F := Ideal) z sp sn kk (ix4 b r h d))
      (max (Ideal.sqrt (val_main_v51 (F := Ideal) z sp sn kk (ix3 b r h))) tiny) := by
    unfold val_main_v57 val_main_v56 val_main_v55 val_main_v53 val_main_v52
    generalize val_main_v51 (F := Ideal) z sp sn kk = s
    generalize val_main_v49 (F := Ideal) z sp sn kk = t
    pointwise [val_main_v54, val_main_cst_5]
    rfl
  have e' : val_main_v51 (F := Ideal) z sp sn kk (ix3 b r h)
      = ∑ e, scaledKey (shiftedRow z sp sn b r) (flat kk) (entry h e) * scaledKey (shiftedRow z sp sn b r) (flat kk) (entry h e) := by
    refine (val_main_v51_apply z sp sn kk _).trans ((zero_start _ Ideal.ofBits_zero_f32).trans (Finset.sum_congr rfl fun e _ => ?_))
    rw [show idx_main_v51 (ix3 b r h) e = ix4 b r h e from head_index _ _ rfl rfl rfl rfl rfl]
    exact (product_apply (val_main_v49 (F := Ideal) z sp sn kk) (val_main_v49 (F := Ideal) z sp sn kk) _).trans
      (congrArg₂ (· * ·) (scaled_apply z sp sn kk b r h e) (scaled_apply z sp sn kk b r h e))
  rw [e, e', scaled_apply]
  unfold unitKey
  rw [head_entry]

theorem unit_apply (b : Fin 4) (r : Fin 8448) (k : Fin 768) : val_main_v174 (F := Ideal) z sp sn kk (ix3 b r k)
    = unitKey (shiftedRow z sp sn b r) (flat kk) k := by
  unfold val_main_v174
  refine (join_apply _ _ b r k).trans ?_
  rw [unitHeads_apply, entry_head]

theorem receptanceHeads_apply (b : Fin 4) (r : Fin 8448) (h : Fin 12) (d : Fin 64) :
    val_main_v58 (F := Ideal) z sp sn (ix4 b r h d) = shiftedRow z sp sn b r (colR (entry h d)) := by
  unfold val_main_v58
  exact (split_apply _ _ b r h d).trans (receptance_apply z sp sn b r _)

theorem valueHeads_apply (b : Fin 4) (r : Fin 8448) (h : Fin 12) (d : Fin 64) :
    val_main_v59 (F := Ideal) z sp sn (ix4 b r h d) = shiftedRow z sp sn b r (colV (entry h d)) := by
  unfold val_main_v59
  exact (split_apply _ _ b r h d).trans (value_apply z sp sn b r _)

/-- A comparison of a number with itself for being different selects the second choice. -/
theorem select_self (y : Ideal .f32) (a b : EReal) : Scalar.select (FloatOps.cmpf .une y y) a b = b := by
  simp [Scalar.select, Ideal.cmpf_def, Ideal.cmp]

end Cert.PrepRef

end
-- ==== Proof.PrepRefForward.lean ====
module
public import proofs.«01_k».proof.Proof.PrepRefHeads

/-! # The reference of the preparation: the forward direction -/

@[expose] public section
noncomputable section
namespace Cert.PrepRef
open Cert.Reference6Ideal Cert.Reference6Ideal.Read Cert.HeadNorm Cert.Prep
open Idealize.ShloMosaic Idealize.ShloMosaic.TcCoe Idealize.ShloMosaic.Pointwise

variable (z : FVec Ideal S4x8448x2688 .f32) (sp sn : FVec Ideal S2688 .f32) (w0 a0 : FVec Ideal S2x768 .f32)
    (w2 a2 : FVec Ideal S2x64x768 .f32) (kk ka : FVec Ideal S768 .f32) (rk : FVec Ideal S12x64 .f32)

/-! ## Direction 0 -/

theorem decayRows_apply (b : Fin 4) (r : Fin 8448) (q : Fin 64) :
    val_main_v63 (F := Ideal) z sp sn (ix3 b r q) = shiftedRow z sp sn b r (colW 0 q) := by
  rw [← decayColumn_apply]
  unfold val_main_v63 val_main_v62
  generalize val_main_v37 (F := Ideal) z sp sn = s
  refine (shapeCast_apply _ _ _ (ix4 b r (0 : Fin 1) q) ?_).trans ?_
  · rw [Shape.rowMajor_val_three, Shape.rowMajor_val_four]
    show ((b.val * 8448 + r.val) * 1 + 0) * 64 + q.val = (b.val * 8448 + r.val) * 64 + q.val
    omega
  · exact extractStridedSlice_apply _ _ _ (ix4 b r (0 : Fin 1) q) (ix4 b r (0 : Fin 2) q) fun a => by
      match a with
      | ⟨0, _⟩ => show b.val = 0 + b.val; omega
      | ⟨1, _⟩ => show r.val = 0 + r.val; omega
      | ⟨2, _⟩ => show 0 = 0 + 0; omega
      | ⟨3, _⟩ => show q.val = 0 + q.val; omega

theorem zeroMax_apply (i : S4x8448x768.Idx) : val_main_call4_v0 (F := Ideal) i = (0 : EReal) := Ideal.ofBits_zero_f32

theorem zeroSub_apply (i : S4x8448x768.Idx) : val_main_call4_v2 (F := Ideal) i = (0 : EReal) := Ideal.ofBits_zero_f32

theorem decayTanh_apply (b : Fin 4) (r : Fin 8448) (q : Fin 64) :
    val_main_v64 (F := Ideal) z sp sn (ix3 b r q) = Ideal.tanh (shiftedRow z sp sn b r (colW 0 q)) :=
  (val_main_v64_apply (F := Ideal) z sp sn _).trans (congrArg (fun x : EReal => Ideal.tanh x) (decayRows_apply z sp sn b r q))

theorem decayInner_apply (b : Fin 4) (r : Fin 8448) (k : Fin 768) : val_main_v70 (F := Ideal) z sp sn w0 w2 (ix3 b r k) = w0 (ix2 0 k)
    + ∑ q, (val_main_v64 (F := Ideal) z sp sn : FVec Ideal S4x8448x64 .f32) (ix3 b r q) * w2 (ix3 0 q k) := by
  unfold val_main_v70 val_main_v67
  generalize val_main_v64 (F := Ideal) z sp sn = s
  pointwise [val_main_v69, val_main_v68, val_main_v61, val_main_v60, val_main_v66, val_main_v65]

theorem decayOuter_apply (b : Fin 4) (r : Fin 8448) (k : Fin 768) : val_main_v102 (F := Ideal) z sp sn w0 w2 (ix3 b r k)
    = decayOf (val_main_v70 (F := Ideal) z sp sn w0 w2 (ix3 b r k)) := by
  rw [val_main_v102_apply, val_main_v101_apply, val_main_v75_apply, val_main_v73_apply, val_main_v72_apply, val_main_call4_v4_apply, select_self,
    val_main_call4_v11_apply, val_main_call4_v10_apply, val_main_call4_v9_apply, val_main_call4_v8_apply, val_main_call4_v7_apply, val_main_call4_v3_apply,
    val_main_call4_v1_apply, val_main_v71_apply, zeroMax_apply, zeroSub_apply]
  generalize val_main_v70 (F := Ideal) z sp sn w0 w2 (ix3 b r k) = x
  have e : FloatOps.subf (F := Ideal) (φ := .f32) (FloatOps.hostNegf (F := Ideal) (φ := .f32) x) (0 : EReal)
      = FloatOps.hostNegf (F := Ideal) (φ := .f32) x := sub_zero (-x : EReal)
  rw [e]
  rfl

theorem decay_apply (b : Fin 4) (r : Fin 8448) (k : Fin 768) : val_main_v102 (F := Ideal) z sp sn w0 w2 (ix3 b r k)
    = logDecay (shiftedRow z sp sn b r) (pair w0) (slab w2) 0 k := by
  rw [decayOuter_apply, decayInner_apply]
  unfold logDecay
  exact congrArg (fun x : EReal => decayOf (w0 (ix2 0 k) + x)) (Finset.sum_congr rfl fun q _ =>
    congrArg (fun x : EReal => x * w2 (ix3 0 q k)) (decayTanh_apply z sp sn b r q))

theorem rateRows_apply (b : Fin 4) (r : Fin 8448) (q : Fin 64) :
    val_main_v79 (F := Ideal) z sp sn (ix3 b r q) = shiftedRow z sp sn b r (colA 0 q) := by
  rw [← rateColumn_apply]
  unfold val_main_v79 val_main_v78
  generalize val_main_v38 (F := Ideal) z sp sn = s
  refine (shapeCast_apply _ _ _ (ix4 b r (0 : Fin 1) q) ?_).trans ?_
  · rw [Shape.rowMajor_val_three, Shape.rowMajor_val_four]
    show ((b.val * 8448 + r.val) * 1 + 0) * 64 + q.val = (b.val * 8448 + r.val) * 64 + q.val
    omega
  · exact extractStridedSlice_apply _ _ _ (ix4 b r (0 : Fin 1) q) (ix4 b r (0 : Fin 2) q) fun a => by
      match a with
      | ⟨0, _⟩ => show b.val = 0 + b.val; omega
      | ⟨1, _⟩ => show r.val = 0 + r.val; omega
      | ⟨2, _⟩ => show 0 = 0 + 0; omega
      | ⟨3, _⟩ => show q.val = 0 + q.val; omega

theorem rate_apply (b : Fin 4) (r : Fin 8448) (k : Fin 768) : val_main_v91 (F := Ideal) z sp sn a0 a2 (ix3 b r k)
    = rate (shiftedRow z sp sn b r) (pair a0) (slab a2) 0 k := by
  have e : val_main_v91 (F := Ideal) z sp sn a0 a2 (ix3 b r k) = Ideal.logistic (a0 (ix2 0 k)
      + ∑ q, (val_main_v79 (F := Ideal) z sp sn : FVec Ideal S4x8448x64 .f32) (ix3 b r q) * a2 (ix3 0 q k)) := by
    unfold val_main_v91 val_main_v89 val_main_v87 val_main_v86 val_main_v85 val_main_v82
    generalize val_main_v79 (F := Ideal) z sp sn = s
    pointwise [val_main_v90, val_main_v88, val_main_v84, val_main_v83, val_main_v77, val_main_v76, val_main_v81, val_main_v80, val_main_cst_7, val_main_cst_8]
    rfl
  rw [e]
  simp only [rateRows_apply]
  rfl

theorem keyFlat_apply (b : Fin 4) (r : Fin 8448) (k : Fin 768) : val_main_v99 (F := Ideal) z sp sn a0 a2 ka (ix3 b r k)
    = key (shiftedRow z sp sn b r) (pair a0) (slab a2) (flat ka) 0 k := by
  have e : val_main_v99 (F := Ideal) z sp sn a0 a2 ka (ix3 b r k)
      = (val_main_v32 (F := Ideal) z sp sn : FVec Ideal S4x8448x768 .f32) (ix3 b r k)
        * (1 + ((val_main_v91 (F := Ideal) z sp sn a0 a2 : FVec Ideal S4x8448x768 .f32) (ix3 b r k) - 1) * ka (ix1 k)) := by
    unfold val_main_v99 val_main_v98 val_main_v96 val_main_v93
    generalize val_main_v91 (F := Ideal) z sp sn a0 a2 = s
    generalize val_main_v32 (F := Ideal) z sp sn = t
    pointwise [val_main_v97, val_main_v95, val_main_v94, val_main_v92, val_main_cst_9, val_main_cst_10]
  rw [e, column_apply, rate_apply]
  rfl

theorem keyHeads_apply (b : Fin 4) (r : Fin 8448) (h : Fin 12) (d : Fin 64) :
    val_main_v100 (F := Ideal) z sp sn a0 a2 ka (ix4 b r h d)
      = key (shiftedRow z sp sn b r) (pair a0) (slab a2) (flat ka) 0 (entry h d) := by
  unfold val_main_v100
  exact (split_apply _ _ b r h d).trans (keyFlat_apply z sp sn a0 a2 ka b r _)

theorem key_apply (b : Fin 4) (r : Fin 8448) (k : Fin 768) : val_main_v103 (F := Ideal) z sp sn a0 a2 ka (ix3 b r k)
    = key (shiftedRow z sp sn b r) (pair a0) (slab a2) (flat ka) 0 k := by
  unfold val_main_v103
  refine (join_apply _ _ b r k).trans ?_
  rw [keyHeads_apply, entry_head]

theorem written_apply (b : Fin 4) (r : Fin 8448) (k : Fin 768) : val_main_v106 (F := Ideal) z sp sn a0 a2 kk (ix3 b r k)
    = written (shiftedRow z sp sn b r) (pair a0) (slab a2) (flat kk) 0 k := by
  unfold val_main_v106
  refine (join_apply _ _ b r k).trans ?_
  have e : val_main_v104 (F := Ideal) z sp sn a0 a2 (ix4 b r (head k) ⟨k.val % 64, by omega⟩)
      = val_main_v91 (F := Ideal) z sp sn a0 a2 (ix3 b r k) := by
    unfold val_main_v104
    refine (split_apply _ _ _ _ _ _).trans ?_
    rw [entry_head]
  exact (product_apply (val_main_v57 (F := Ideal) z sp sn kk) (val_main_v104 (F := Ideal) z sp sn a0 a2) _).trans
    (congrArg₂ (· * ·) ((unitHeads_apply z sp sn kk b r _ _).trans (congrArg (unitKey (shiftedRow z sp sn b r) (flat kk)) (entry_head k)))
      (e.trans (rate_apply z sp sn a0 a2 b r k)))

/-- A head's own weight. -/
theorem weight_apply (b : Fin 4) (r : Fin 8448) (h : Fin 12) : val_main_v111 (F := Ideal) z sp sn a0 a2 ka rk (ix3 b r h)
    = ownWeight (shiftedRow z sp sn b r) (pair a0) (slab a2) (flat ka) (byHeads rk) 0 h := by
  have e : ∀ e : Fin 64, val_main_v109 (F := Ideal) rk (ix4 b r h e) = byHeads rk (entry h e) := fun e =>
    (val_main_v109_apply (F := Ideal) rk _).trans ((val_main_v108_apply (F := Ideal) rk _).trans ((congrArg rk (eq_ix2 _)).trans (byHeads_entry rk h e).symm))
  refine (val_main_v111_apply z sp sn a0 a2 ka rk _).trans ((zero_start _ Ideal.ofBits_zero_f32).trans (Finset.sum_congr rfl fun e' _ => ?_))
  rw [show idx_main_v111 (ix3 b r h) e' = ix4 b r h e' from head_index _ _ rfl rfl rfl rfl rfl]
  exact (product_apply (val_main_v107 (F := Ideal) z sp sn a0 a2 ka) (val_main_v109 (F := Ideal) rk) _).trans (congrArg₂ (· * ·)
    ((product_apply (val_main_v58 (F := Ideal) z sp sn) (val_main_v100 (F := Ideal) z sp sn a0 a2 ka) _).trans (congrArg₂ (· * ·)
      (receptanceHeads_apply z sp sn b r h e') (keyHeads_apply z sp sn a0 a2 ka b r h e'))) (e e'))

end Cert.PrepRef

end
-- ==== Proof.PrepRefBackward.lean ====
module
public import proofs.«01_k».proof.Proof.PrepRefHeads

/-! # The reference of the preparation: the backward direction -/

@[expose] public section
noncomputable section
namespace Cert.PrepRef
open Cert.Reference6Ideal Cert.Reference6Ideal.Read Cert.HeadNorm Cert.Prep
open Idealize.ShloMosaic Idealize.ShloMosaic.TcCoe Idealize.ShloMosaic.Pointwise

variable (z : FVec Ideal S4x8448x2688 .f32) (sp sn : FVec Ideal S2688 .f32) (w0 a0 : FVec Ideal S2x768 .f32)
    (w2 a2 : FVec Ideal S2x64x768 .f32) (kk ka : FVec Ideal S768 .f32) (rk : FVec Ideal S12x64 .f32)

/-! ## Direction 1 -/

theorem decayRows'_apply (b : Fin 4) (r : Fin 8448) (q : Fin 64) :
    val_main_v120 (F := Ideal) z sp sn (ix3 b r q) = shiftedRow z sp sn b r (colW 1 q) := by
  rw [← decayColumn_apply]
  unfold val_main_v120 val_main_v119
  generalize val_main_v37 (F := Ideal) z sp sn = s
  refine (shapeCast_apply _ _ _ (ix4 b r (0 : Fin 1) q) ?_).trans ?_
  · rw [Shape.rowMajor_val_three, Shape.rowMajor_val_four]
    show ((b.val * 8448 + r.val) * 1 + 0) * 64 + q.val = (b.val * 8448 + r.val) * 64 + q.val
    omega
  · exact extractStridedSlice_apply _ _ _ (ix4 b r (0 : Fin 1) q) (ix4 b r (1 : Fin 2) q) fun a => by
      match a with
      | ⟨0, _⟩ => show b.val = 0 + b.val; omega
      | ⟨1, _⟩ => show r.val = 0 + r.val; omega
      | ⟨2, _⟩ => show 1 = 1 + 0; omega
      | ⟨3, _⟩ => show q.val = 0 + q.val; omega

theorem zeroMax'_apply (i : S4x8448x768.Idx) : val_main_call5_v0 (F := Ideal) i = (0 : EReal) := Ideal.ofBits_zero_f32

theorem zeroSub'_apply (i : S4x8448x768.Idx) : val_main_call5_v2 (F := Ideal) i = (0 : EReal) := Ideal.ofBits_zero_f32

theorem decayTanh'_apply (b : Fin 4) (r : Fin 8448) (q : Fin 64) :
    val_main_v121 (F := Ideal) z sp sn (ix3 b r q) = Ideal.tanh (shiftedRow z sp sn b r (colW 1 q)) :=
  (val_main_v121_apply (F := Ideal) z sp sn _).trans (congrArg (fun x : EReal => Ideal.tanh x) (decayRows'_apply z sp sn b r q))

theorem decayInner'_apply (b : Fin 4) (r : Fin 8448) (k : Fin 768) : val_main_v127 (F := Ideal) z sp sn w0 w2 (ix3 b r k) = w0 (ix2 1 k)
    + ∑ q, (val_main_v121 (F := Ideal) z sp sn : FVec Ideal S4x8448x64 .f32) (ix3 b r q) * w2 (ix3 1 q k) := by
  unfold val_main_v127 val_main_v124
  generalize val_main_v121 (F := Ideal) z sp sn = s
  pointwise [val_main_v126, val_main_v125, val_main_v118, val_main_v117, val_main_v123, val_main_v122]

theorem decayOuter'_apply (b : Fin 4) (r : Fin 8448) (k : Fin 768) : val_main_v159 (F := Ideal) z sp sn w0 w2 (ix3 b r k)
    = decayOf (val_main_v127 (F := Ideal) z sp sn w0 w2 (ix3 b r k)) := by
  rw [val_main_v159_apply, val_main_v158_apply, val_main_v132_apply, val_main_v130_apply, val_main_v129_apply, val_main_call5_v4_apply, select_self,
    val_main_call5_v11_apply, val_main_call5_v10_apply, val_main_call5_v9_apply, val_main_call5_v8_apply, val_main_call5_v7_apply, val_main_call5_v3_apply,
    val_main_call5_v1_apply, val_main_v128_apply, zeroMax'_apply, zeroSub'_apply]
  generalize val_main_v127 (F := Ideal) z sp sn w0 w2 (ix3 b r k) = x
  have e : FloatOps.subf (F := Ideal) (φ := .f32) (FloatOps.hostNegf (F := Ideal) (φ := .f32) x) (0 : EReal)
      = FloatOps.hostNegf (F := Ideal) (φ := .f32) x := sub_zero (-x : EReal)
  rw [e]
  rfl

theorem decay'_apply (b : Fin 4) (r : Fin 8448) (k : Fin 768) : val_main_v159 (F := Ideal) z sp sn w0 w2 (ix3 b r k)
    = logDecay (shiftedRow z sp sn b r) (pair w0) (slab w2) 1 k := by
  rw [decayOuter'_apply, decayInner'_apply]
  unfold logDecay
  exact congrArg (fun x : EReal => decayOf (w0 (ix2 1 k) + x)) (Finset.sum_congr rfl fun q _ =>
    congrArg (fun x : EReal => x * w2 (ix3 1 q k)) (decayTanh'_apply z sp sn b r q))

theorem rateRows'_apply (b : Fin 4) (r : Fin 8448) (q : Fin 64) :
    val_main_v136 (F := Ideal) z sp sn (ix3 b r q) = shiftedRow z sp sn b r (colA 1 q) := by
  rw [← rateColumn_apply]
  unfold val_main_v136 val_main_v135
  generalize val_main_v38 (F := Ideal) z sp sn = s
  refine (shapeCast_apply _ _ _ (ix4 b r (0 : Fin 1) q) ?_).trans ?_
  · rw [Shape.rowMajor_val_three, Shape.rowMajor_val_four]
    show ((b.val * 8448 + r.val) * 1 + 0) * 64 + q.val = (b.val * 8448 + r.val) * 64 + q.val
    omega
  · exact extractStridedSlice_apply _ _ _ (ix4 b r (0 : Fin 1) q) (ix4 b r (1 : Fin 2) q) fun a => by
      match a with
      | ⟨0, _⟩ => show b.val = 0 + b.val; omega
      | ⟨1, _⟩ => show r.val = 0 + r.val; omega
      | ⟨2, _⟩ => show 1 = 1 + 0; omega
      | ⟨3, _⟩ => show q.val = 0 + q.val; omega

theorem rate'_apply (b : Fin 4) (r : Fin 8448) (k : Fin 768) : val_main_v148 (F := Ideal) z sp sn a0 a2 (ix3 b r k)
    = rate (shiftedRow z sp sn b r) (pair a0) (slab a2) 1 k := by
  have e : val_main_v148 (F := Ideal) z sp sn a0 a2 (ix3 b r k) = Ideal.logistic (a0 (ix2 1 k)
      + ∑ q, (val_main_v136 (F := Ideal) z sp sn : FVec Ideal S4x8448x64 .f32) (ix3 b r q) * a2 (ix3 1 q k)) := by
    unfold val_main_v148 val_main_v146 val_main_v144 val_main_v143 val_main_v142 val_main_v139
    generalize val_main_v136 (F := Ideal) z sp sn = s
    pointwise [val_main_v147, val_main_v145, val_main_v141, val_main_v140, val_main_v134, val_main_v133, val_main_v138, val_main_v137, val_main_cst_14, val_main_cst_15]
    rfl
  rw [e]
  simp only [rateRows'_apply]
  rfl

theorem keyFlat'_apply (b : Fin 4) (r : Fin 8448) (k : Fin 768) : val_main_v156 (F := Ideal) z sp sn a0 a2 ka (ix3 b r k)
    = key (shiftedRow z sp sn b r) (pair a0) (slab a2) (flat ka) 1 k := by
  have e : val_main_v156 (F := Ideal) z sp sn a0 a2 ka (ix3 b r k)
      = (val_main_v32 (F := Ideal) z sp sn : FVec Ideal S4x8448x768 .f32) (ix3 b r k)
        * (1 + ((val_main_v148 (F := Ideal) z sp sn a0 a2 : FVec Ideal S4x8448x768 .f32) (ix3 b r k) - 1) * ka (ix1 k)) := by
    unfold val_main_v156 val_main_v155 val_main_v153 val_main_v150
    generalize val_main_v148 (F := Ideal) z sp sn a0 a2 = s
    generalize val_main_v32 (F := Ideal) z sp sn = t
    pointwise [val_main_v154, val_main_v152, val_main_v151, val_main_v149, val_main_cst_16, val_main_cst_17]
  rw [e, column_apply, rate'_apply]
  rfl

theorem keyHeads'_apply (b : Fin 4) (r : Fin 8448) (h : Fin 12) (d : Fin 64) :
    val_main_v157 (F := Ideal) z sp sn a0 a2 ka (ix4 b r h d)
      = key (shiftedRow z sp sn b r) (pair a0) (slab a2) (flat ka) 1 (entry h d) := by
  unfold val_main_v157
  exact (split_apply _ _ b r h d).trans (keyFlat'_apply z sp sn a0 a2 ka b r _)

theorem key'_apply (b : Fin 4) (r : Fin 8448) (k : Fin 768) : val_main_v160 (F := Ideal) z sp sn a0 a2 ka (ix3 b r k)
    = key (shiftedRow z sp sn b r) (pair a0) (slab a2) (flat ka) 1 k := by
  unfold val_main_v160
  refine (join_apply _ _ b r k).trans ?_
  rw [keyHeads'_apply, entry_head]

theorem written'_apply (b : Fin 4) (r : Fin 8448) (k : Fin 768) : val_main_v163 (F := Ideal) z sp sn a0 a2 kk (ix3 b r k)
    = written (shiftedRow z sp sn b r) (pair a0) (slab a2) (flat kk) 1 k := by
  unfold val_main_v163
  refine (join_apply _ _ b r k).trans ?_
  have e : val_main_v161 (F := Ideal) z sp sn a0 a2 (ix4 b r (head k) ⟨k.val % 64, by omega⟩)
      = val_main_v148 (F := Ideal) z sp sn a0 a2 (ix3 b r k) := by
    unfold val_main_v161
    refine (split_apply _ _ _ _ _ _).trans ?_
    rw [entry_head]
  exact (product_apply (val_main_v57 (F := Ideal) z sp sn kk) (val_main_v161 (F := Ideal) z sp sn a0 a2) _).trans
    (congrArg₂ (· * ·) ((unitHeads_apply z sp sn kk b r _ _).trans (congrArg (unitKey (shiftedRow z sp sn b r) (flat kk)) (entry_head k)))
      (e.trans (rate'_apply z sp sn a0 a2 b r k)))

/-- A head's own weight. -/
theorem weight'_apply (b : Fin 4) (r : Fin 8448) (h : Fin 12) : val_main_v168 (F := Ideal) z sp sn a0 a2 ka rk (ix3 b r h)
    = ownWeight (shiftedRow z sp sn b r) (pair a0) (slab a2) (flat ka) (byHeads rk) 1 h := by
  have e : ∀ e : Fin 64, val_main_v166 (F := Ideal) rk (ix4 b r h e) = byHeads rk (entry h e) := fun e =>
    (val_main_v166_apply (F := Ideal) rk _).trans ((val_main_v165_apply (F := Ideal) rk _).trans ((congrArg rk (eq_ix2 _)).trans (byHeads_entry rk h e).symm))
  refine (val_main_v168_apply z sp sn a0 a2 ka rk _).trans ((zero_start _ Ideal.ofBits_zero_f32).trans (Finset.sum_congr rfl fun e' _ => ?_))
  rw [show idx_main_v168 (ix3 b r h) e' = ix4 b r h e' from head_index _ _ rfl rfl rfl rfl rfl]
  exact (product_apply (val_main_v164 (F := Ideal) z sp sn a0 a2 ka) (val_main_v166 (F := Ideal) rk) _).trans (congrArg₂ (· * ·)
    ((product_apply (val_main_v58 (F := Ideal) z sp sn) (val_main_v157 (F := Ideal) z sp sn a0 a2 ka) _).trans (congrArg₂ (· * ·)
      (receptanceHeads_apply z sp sn b r h e') (keyHeads'_apply z sp sn a0 a2 ka b r h e'))) (e e'))

end Cert.PrepRef

end
-- ==== Proof.PrepRefResult.lean ====
module
public import proofs.«01_k».proof.Proof.PrepRefForward
public import proofs.«01_k».proof.Proof.PrepRefBackward

/-! # The reference of the preparation: its results -/

@[expose] public section
noncomputable section
namespace Cert.PrepRef
open Cert.Reference6Ideal Cert.Reference6Ideal.Read Cert.HeadNorm Cert.Prep
open Idealize.ShloMosaic Idealize.ShloMosaic.TcCoe Idealize.ShloMosaic.Pointwise

variable (z : FVec Ideal S4x8448x2688 .f32) (sp sn : FVec Ideal S2688 .f32) (w0 a0 : FVec Ideal S2x768 .f32)
    (w2 a2 : FVec Ideal S2x64x768 .f32) (kk ka : FVec Ideal S768 .f32) (rk : FVec Ideal S12x64 .f32)

/-! ## The bonus -/

theorem bonus_apply (b : Fin 4) (r : Fin 8448) (k : Fin 768) : val_main_v173 (F := Ideal) z sp sn a0 a2 ka rk (ix3 b r k)
    = bonus (shiftedRow z sp sn b r) (pair a0) (slab a2) (flat ka) (byHeads rk) k := by
  unfold val_main_v173
  refine (join_apply _ _ b r k).trans ?_
  have e : ∀ (h : Fin 12) (d : Fin 64), val_main_v172 (F := Ideal) z sp sn a0 a2 ka rk (ix4 b r h d)
      = (val_main_v111 (F := Ideal) z sp sn a0 a2 ka rk : FVec Ideal S4x8448x12 .f32) (ix3 b r h)
          * (val_main_v59 (F := Ideal) z sp sn : FVec Ideal S4x8448x12x64 .f32) (ix4 b r h d)
        + (val_main_v168 (F := Ideal) z sp sn a0 a2 ka rk : FVec Ideal S4x8448x12 .f32) (ix3 b r h)
          * (val_main_v59 (F := Ideal) z sp sn : FVec Ideal S4x8448x12x64 .f32) (ix4 b r h d) := by
    intro h d
    unfold val_main_v172 val_main_v116 val_main_v114 val_main_v171 val_main_v113 val_main_v112 val_main_v170 val_main_v169
    generalize val_main_v111 (F := Ideal) z sp sn a0 a2 ka rk = s
    generalize val_main_v168 (F := Ideal) z sp sn a0 a2 ka rk = s'
    generalize val_main_v59 (F := Ideal) z sp sn = t
    pointwise [val_main_v115, val_main_cst_12]
  rw [e, weight_apply, weight'_apply, valueHeads_apply, entry_head]
  rfl

/-! ## The whole results -/

theorem receptance_eq : val_main_v31 (F := Ideal) z sp sn = receptanceArr z sp sn := by
  funext i
  obtain ⟨b, r, k, rfl⟩ : ∃ (b : Fin 4) (r : Fin 8448) (k : Fin 768), i = ix3 b r k := ⟨i 0, i 1, i 2, eq_ix3 i⟩
  exact receptance_apply z sp sn b r k

theorem value_eq : val_main_v33 (F := Ideal) z sp sn = valueArr z sp sn := by
  funext i
  obtain ⟨b, r, k, rfl⟩ : ∃ (b : Fin 4) (r : Fin 8448) (k : Fin 768), i = ix3 b r k := ⟨i 0, i 1, i 2, eq_ix3 i⟩
  exact value_apply z sp sn b r k

theorem gate_eq (g2 : FVec Ideal S128x768 .f32) : val_main_v45 (F := Ideal) z sp sn g2 = gateArr z sp sn g2 := by
  funext i
  obtain ⟨b, r, k, rfl⟩ : ∃ (b : Fin 4) (r : Fin 8448) (k : Fin 768), i = ix3 b r k := ⟨i 0, i 1, i 2, eq_ix3 i⟩
  exact gate_apply z sp sn g2 b r k

theorem bonus_eq : val_main_v173 (F := Ideal) z sp sn a0 a2 ka rk = bonusArr z sp sn a0 a2 ka rk := by
  funext i
  obtain ⟨b, r, k, rfl⟩ : ∃ (b : Fin 4) (r : Fin 8448) (k : Fin 768), i = ix3 b r k := ⟨i 0, i 1, i 2, eq_ix3 i⟩
  exact bonus_apply z sp sn a0 a2 ka rk b r k

theorem unit_eq : val_main_v174 (F := Ideal) z sp sn kk = unitArr z sp sn kk := by
  funext i
  obtain ⟨b, r, k, rfl⟩ : ∃ (b : Fin 4) (r : Fin 8448) (k : Fin 768), i = ix3 b r k := ⟨i 0, i 1, i 2, eq_ix3 i⟩
  exact unit_apply z sp sn kk b r k

theorem decay_eq : val_main_v102 (F := Ideal) z sp sn w0 w2 = decayArr z sp sn w0 w2 0 := by
  funext i
  obtain ⟨b, r, k, rfl⟩ : ∃ (b : Fin 4) (r : Fin 8448) (k : Fin 768), i = ix3 b r k := ⟨i 0, i 1, i 2, eq_ix3 i⟩
  exact decay_apply z sp sn w0 w2 b r k

theorem key_eq : val_main_v103 (F := Ideal) z sp sn a0 a2 ka = keyArr z sp sn a0 a2 ka 0 := by
  funext i
  obtain ⟨b, r, k, rfl⟩ : ∃ (b : Fin 4) (r : Fin 8448) (k : Fin 768), i = ix3 b r k := ⟨i 0, i 1, i 2, eq_ix3 i⟩
  exact key_apply z sp sn a0 a2 ka b r k

theorem written_eq : val_main_v106 (F := Ideal) z sp sn a0 a2 kk = writtenArr z sp sn a0 a2 kk 0 := by
  funext i
  obtain ⟨b, r, k, rfl⟩ : ∃ (b : Fin 4) (r : Fin 8448) (k : Fin 768), i = ix3 b r k := ⟨i 0, i 1, i 2, eq_ix3 i⟩
  exact written_apply z sp sn a0 a2 kk b r k

theorem decay'_eq : val_main_v159 (F := Ideal) z sp sn w0 w2 = decayArr z sp sn w0 w2 1 := by
  funext i
  obtain ⟨b, r, k, rfl⟩ : ∃ (b : Fin 4) (r : Fin 8448) (k : Fin 768), i = ix3 b r k := ⟨i 0, i 1, i 2, eq_ix3 i⟩
  exact decay'_apply z sp sn w0 w2 b r k

theorem key'_eq : val_main_v160 (F := Ideal) z sp sn a0 a2 ka = keyArr z sp sn a0 a2 ka 1 := by
  funext i
  obtain ⟨b, r, k, rfl⟩ : ∃ (b : Fin 4) (r : Fin 8448) (k : Fin 768), i = ix3 b r k := ⟨i 0, i 1, i 2, eq_ix3 i⟩
  exact key'_apply z sp sn a0 a2 ka b r k

theorem written'_eq : val_main_v163 (F := Ideal) z sp sn a0 a2 kk = writtenArr z sp sn a0 a2 kk 1 := by
  funext i
  obtain ⟨b, r, k, rfl⟩ : ∃ (b : Fin 4) (r : Fin 8448) (k : Fin 768), i = ix3 b r k := ⟨i 0, i 1, i 2, eq_ix3 i⟩
  exact written'_apply z sp sn a0 a2 kk b r k

end Cert.PrepRef

end
-- ==== Proof.CondBlock.lean ====
module
public import proofs.«01_k».proof.Proof.Gen.Kernel7Ideal.Value
public import proofs.«01_k».proof.Proof.Prep
public import Idealize.ShloMosaic.Lib.Pipeline.ValueKit
public import Idealize.ShloMosaic.Lib.Pointwise
public import Idealize.ShloMosaic.Lib.Routing.OpsOne

/-! # The modulation: one point

The rows are the four conditions, the context's condition, and three of zeros. A point takes the conditions through `x · σ(x)`, and
multiplies them by a quarter of the columns of the weights, in parts. -/

@[expose] public section
noncomputable section
namespace Cert.Cond
open Cert.Kernel7Ideal Cert.Kernel7Ideal.Gen Cert.Kernel7Ideal.Value Idealize.ShloMosaic Idealize.ShloMosaic.TcCoe Idealize.SL.Sem
open Idealize.ShloMosaic.Pointwise Idealize.ShloMosaic.Routing Cert.Prep

/-! ## The formula -/

/-- The unit `x · σ(x)`. -/
def silu (x : EReal) : EReal := x * Ideal.logistic x

/-- Row `r` of the conditions. -/
def condRow (c : S4x1024.Idx → EReal) (cc : S1024.Idx → EReal) (r : Fin 8) (k : Fin 1024) : EReal :=
  if h : r.val < 4 then c (ix2 ⟨r.val, h⟩ k) else if r.val = 4 then cc (ix1 k) else 0

/-- The modulation of every row. -/
def modulated (c : S4x1024.Idx → EReal) (cc : S1024.Idx → EReal) (w : S1024x6144.Idx → EReal) (b : S6144.Idx → EReal) :
    S8x6144.Idx → EReal :=
  fun i => ∑ k, silu (condRow c cc (i 0) k) * w (ix2 k (i 1)) + b (ix1 (i 1))

theorem isReal_silu {x : EReal} (h : IsReal x) : IsReal (silu x) := h.mul (isReal_logistic x)

theorem silu_zero : silu 0 = 0 := zero_mul _

theorem isReal_condRow {c : S4x1024.Idx → EReal} {cc : S1024.Idx → EReal} (hc : ∀ i, IsReal (c i)) (hcc : ∀ i, IsReal (cc i))
    (r : Fin 8) (k : Fin 1024) : IsReal (condRow c cc r k) := by
  unfold condRow
  split
  · exact hc _
  · split
    · exact hcc _
    · exact isReal_zero

/-! ## A point -/

theorem pay_apply (x0 : Vec Ideal S8x1024 .f32) (x1 : Vec Ideal S1024x1536 .f32) (x2 : Vec Ideal S1x1536 .f32) (r : Fin 8)
    (n : Fin 1536) : k0_pay1 x0 x1 x2 (ix2 r n)
      = splitProd (fun k => silu (x0 (ix2 r k))) (fun k => x1 (ix2 k n)) + x2 (ix2 0 n) := by
  unfold splitProd silu
  pointwise [k0_pay1]

section
variable {F : FTy → Type} [FloatOps F]

theorem out_eq (x0 : Vec F S8x1024 .f32) (x1 : Vec F S1024x1536 .f32) (x2 : Vec F S1x1536 .f32) :
    out0_3 x0 x1 x2 = k0_pay1 x0 x1 x2 := by
  unfold out0_3 r0_0 r0_1 r0_2 r0_3
  rw [View.canon_unit_zero (by decide), View.ld_unit_zero (by decide), View.ld_unit_zero (by decide), View.ld_unit_zero (by decide)]

/-! ## The rows of the conditions -/

/-- The first row a set of rows is written to. -/
def startAt (v : BitVec 32) : IVec S1 32 := broadcastInDim S1 ![] bcast_S_S1 (constantI S_ 32 v)

/-- The conditions over rows of zeros, and the context's after them. -/
def condArr (c : FVec F S4x1024 .f32) (cc : FVec F S1024 .f32) : FVec F S8x1024 .f32 :=
  Host.scatter scatter_S8x1024_S1_S1024_0_0_0_0 (fun _ b => b)
    (Host.scatter scatter_S8x1024_S1_S4x1024_01_n_0_0 (fun _ b => b)
      (broadcastInDim S8x1024 ![] bcast_S_S8x1024 (constant S_ .f32 0x00000000#32 : FVec F S_ .f32)) (startAt 0#32) c)
    (startAt 4#32) cc

variable (m : (ℓ : Loc nD τ sig) → Buf (Elt F) ℓ) (c : Dev nD)

theorem V_cond : V m c main_v4 = condArr (m ((c : Thread nD τ).loc main_arg0)) (m ((c : Thread nD τ).loc main_arg1)) := by
  show StableHlo.after hostOps0 _ _ = _
  simp only [hostOps0]
  after_results
  rfl

theorem V_bias : V m c main_v5 = (shapeCast S1x6144 (m ((c : Thread nD τ).loc main_arg3) : FVec F S6144 .f32)
    shapeCasts_S6144_S1x6144 : FVec F S1x6144 .f32) := by
  show StableHlo.after hostOps0 _ _ = _
  simp only [hostOps0]
  after_results
  rfl

theorem V_weights : V m c main_arg2 = m ((c : Thread nD τ).loc main_arg2) := by
  show StableHlo.after hostOps0 _ _ = _
  simp only [hostOps0]
  after_results

end

theorem lands_rows (p : Fin 4) (q : Fin 1024) (r : Fin 8) (k : Fin 1024) :
    scatter_S8x1024_S1_S4x1024_01_n_0_0.resultIdx? (ix2 p q) (startAt 0#32) = some (ix2 r k) ↔ p.val = r.val ∧ q.val = k.val := by
  refine (resultIdx?_ix2 (R := 8) (C := 1024) scatter_S8x1024_S1_S4x1024_01_n_0_0 (ix2 p q) (startAt 0#32) r k).trans ?_
  show (0 : Int) + (p.val : Int) = r.val ∧ (0 : Int) + (q.val : Int) = k.val ↔ _
  omega

theorem lands_row (q : Fin 1024) (r : Fin 8) (k : Fin 1024) :
    scatter_S8x1024_S1_S1024_0_0_0_0.resultIdx? (ix1 q) (startAt 4#32) = some (ix2 r k) ↔ r.val = 4 ∧ q.val = k.val := by
  refine (resultIdx?_ix2 (R := 8) (C := 1024) scatter_S8x1024_S1_S1024_0_0_0_0 (ix1 q) (startAt 4#32) r k).trans ?_
  show (4 : Int) + ((0 : Nat) : Int) = r.val ∧ (0 : Int) + (q.val : Int) = k.val ↔ _
  omega

theorem condArr_apply (c : FVec Ideal S4x1024 .f32) (cc : FVec Ideal S1024 .f32) (r : Fin 8) (k : Fin 1024) :
    condArr c cc (ix2 r k) = condRow c cc r k := by
  unfold condArr condRow
  by_cases h4 : r.val = 4
  · rw [dif_neg (by omega), if_pos h4]
    refine scatter_set_hit _ _ _ _ _ _ (fun j hj => ?_) (ix1 k) ((lands_row k r k).2 ⟨h4, rfl⟩)
    rw [eq_ix1 j] at hj ⊢
    exact congrArg (fun a => cc (ix1 a)) (Fin.ext ((lands_row _ r k).1 hj).2)
  · rw [if_neg h4]
    refine (scatter_set_miss _ _ _ _ _ fun j hj => h4 ?_).trans ?_
    · rw [eq_ix1 j] at hj
      exact ((lands_row _ r k).1 hj).1
    · by_cases h : r.val < 4
      · rw [dif_pos h]
        refine scatter_set_hit _ _ _ _ _ _ (fun j hj => ?_) (ix2 ⟨r.val, h⟩ k) ((lands_rows ⟨r.val, h⟩ k r k).2 ⟨rfl, rfl⟩)
        rw [eq_ix2 j] at hj ⊢
        obtain ⟨a, b⟩ := (lands_rows _ _ r k).1 hj
        exact congrArg₂ (fun a b => c (ix2 a b)) (Fin.ext a) (Fin.ext b)
      · rw [dif_neg h]
        refine (scatter_set_miss _ _ _ _ _ fun j hj => h ?_).trans Ideal.ofBits_zero_f32
        rw [eq_ix2 j] at hj
        have := ((lands_rows _ _ r k).1 hj).1
        have := (j 0).isLt
        omega

end Cert.Cond

end
-- ==== Proof.CondArray.lean ====
module
public import proofs.«01_k».proof.Proof.CondBlock
public import proofs.«01_k».proof.Proof.Gen.Reference7Ideal.Read

/-! # The modulation over the whole array, and the reference

Every point leaves the formula `modulated` in its quarter of the columns. The reference makes the four conditions' rows and the
context's row apart, and its last three rows are the bias, which is what a row of zeros gives. -/

@[expose] public section
noncomputable section
namespace Cert.Cond
open Cert.Kernel7Ideal Cert.Kernel7Ideal.Gen Cert.Kernel7Ideal.Value Idealize.ShloMosaic Idealize.ShloMosaic.TcCoe Idealize.SL.Sem
open Idealize.ShloMosaic.Pointwise Cert.Prep

/-! ## Where the blocks lie -/

theorem index_cond : ∀ t : Fin grid0.N, win0_0.index t (0 : Fin 2) = 0 ∧ win0_0.index t (1 : Fin 2) = 0 := by decide +kernel

theorem index_weights : ∀ t : Fin grid0.N, win0_1.index t (0 : Fin 2) = 0 ∧ win0_1.index t (1 : Fin 2) = t.val := by decide +kernel

theorem index_bias : ∀ t : Fin grid0.N, win0_2.index t (0 : Fin 2) = 0 ∧ win0_2.index t (1 : Fin 2) = t.val := by decide +kernel

theorem index_out : ∀ t : Fin grid0.N, win0_3.index t (0 : Fin 2) = 0 ∧ win0_3.index t (1 : Fin 2) = t.val := by decide +kernel

theorem points (t : Fin cfg0.N) : t.val < 4 := by
  have h := t.isLt
  have e : cfg0.N = 4 := N_0
  omega

/-- Column `n` of point `t`'s block. -/
def colOf (t : Fin cfg0.N) (n : Fin 1536) : Fin 6144 := ⟨1536 * t.val + n.val, by have := points t; omega⟩

section
variable {F : FTy → Type} [FloatOps F] (m : (ℓ : Loc nD τ sig) → Buf (Elt F) ℓ) (c : Dev nD) (t : Fin cfg0.N)

theorem cond_block (r : Fin 8) (k : Fin 1024) : (iblk m c 0 t : Vec F S8x1024 .f32) (ix2 r k)
    = (V m c main_v4 : FVec F S8x1024 .f32) (ix2 r k) := by
  show (V m c main_v4 : FVec F S8x1024 .f32) (((cfg0.win 0).blk t).view.emb (ix2 r k)) = _
  obtain ⟨e0, e1⟩ := index_cond t
  congr 1
  funext a
  refine Fin.ext ?_
  match a with
  | ⟨0, _⟩ => show win0_0.index t (0 : Fin 2) * 8 + 1 * r.val = r.val; omega
  | ⟨1, _⟩ => show win0_0.index t (1 : Fin 2) * 1024 + 1 * k.val = k.val; omega

theorem weights_block (k : Fin 1024) (n : Fin 1536) : (iblk m c 1 t : Vec F S1024x1536 .f32) (ix2 k n)
    = (V m c main_arg2 : FVec F S1024x6144 .f32) (ix2 k (colOf t n)) := by
  show (V m c main_arg2 : FVec F S1024x6144 .f32) (((cfg0.win 1).blk t).view.emb (ix2 k n)) = _
  obtain ⟨e0, e1⟩ := index_weights t
  congr 1
  funext a
  refine Fin.ext ?_
  match a with
  | ⟨0, _⟩ => show win0_1.index t (0 : Fin 2) * 1024 + 1 * k.val = k.val; omega
  | ⟨1, _⟩ => show win0_1.index t (1 : Fin 2) * 1536 + 1 * n.val = 1536 * t.val + n.val; omega

theorem bias_block (n : Fin 1536) : (iblk m c 2 t : Vec F S1x1536 .f32) (ix2 0 n)
    = (V m c main_v5 : FVec F S1x6144 .f32) (ix2 0 (colOf t n)) := by
  show (V m c main_v5 : FVec F S1x6144 .f32) (((cfg0.win 2).blk t).view.emb (ix2 0 n)) = _
  obtain ⟨e0, e1⟩ := index_bias t
  congr 1
  funext a
  refine Fin.ext ?_
  match a with
  | ⟨0, _⟩ => show win0_2.index t (0 : Fin 2) * 1 + 1 * 0 = 0; omega
  | ⟨1, _⟩ => show win0_2.index t (1 : Fin 2) * 1536 + 1 * n.val = 1536 * t.val + n.val; omega

theorem out_block (r : Fin 8) (n : Fin 1536) :
    (((cfg0.win 3).blk t).view.emb (ix2 r n) : S8x6144.Idx) = ix2 r (colOf t n) := by
  obtain ⟨e0, e1⟩ := index_out t
  funext a
  refine Fin.ext ?_
  match a with
  | ⟨0, _⟩ => show win0_3.index t (0 : Fin 2) * 8 + 1 * r.val = r.val; omega
  | ⟨1, _⟩ => show win0_3.index t (1 : Fin 2) * 1536 + 1 * n.val = 1536 * t.val + n.val; omega

end

/-! ## The output array -/

/-- The bias as one row. -/
theorem biasRow_apply (b : FVec Ideal S6144 .f32) (n : Fin 6144) :
    (shapeCast S1x6144 b shapeCasts_S6144_S1x6144 : FVec Ideal S1x6144 .f32) (ix2 0 n) = b (ix1 n) := by
  pointwise []

/-- Blocks that hold the conditions, and a column of the weights and of the bias, give the formula. -/
theorem block_formula (c : FVec Ideal S4x1024 .f32) (cc : FVec Ideal S1024 .f32) (w : FVec Ideal S1024x6144 .f32)
    (b : FVec Ideal S6144 .f32) (hc : ∀ i, IsReal (c i)) (hcc : ∀ i, IsReal (cc i)) (hw : ∀ i, IsReal (w i))
    (x0 : Vec Ideal S8x1024 .f32) (x1 : Vec Ideal S1024x1536 .f32) (x2 : Vec Ideal S1x1536 .f32)
    (r : Fin 8) (n : Fin 1536) (q : Fin 6144) (h0 : ∀ k, x0 (ix2 r k) = condArr c cc (ix2 r k))
    (h1 : ∀ k, x1 (ix2 k n) = w (ix2 k q)) (h2 : x2 (ix2 0 n) = b (ix1 q)) :
    out0_3 x0 x1 x2 (ix2 r n) = modulated c cc w b (ix2 r q) := by
  have e0 : (fun k => silu (x0 (ix2 r k))) = fun k => silu (condRow c cc r k) := funext fun k => by rw [h0, condArr_apply]
  have e1 : (fun k => x1 (ix2 k n)) = fun k => w (ix2 k q) := funext h1
  rw [out_eq, pay_apply, h2, e0, e1, splitProd_eq _ _ (fun k => isReal_silu (isReal_condRow hc hcc r k)) (fun k => hw _)]
  rfl

variable (m : (ℓ : Loc nD τ sig) → Buf (Elt Ideal) ℓ) (c : Dev nD)

abbrev condArg : FVec Ideal S4x1024 .f32 := m ((c : Thread nD τ).loc main_arg0)
abbrev contextArg : FVec Ideal S1024 .f32 := m ((c : Thread nD τ).loc main_arg1)
abbrev weightsArg : FVec Ideal S1024x6144 .f32 := m ((c : Thread nD τ).loc main_arg2)
abbrev biasArg : FVec Ideal S6144 .f32 := m ((c : Thread nD τ).loc main_arg3)

/-- The formula of the arguments. -/
abbrev argModulated : S8x6144.Idx → EReal := modulated (condArg m c) (contextArg m c) (weightsArg m c) (biasArg m c)

/-- Every entry of the output array lies in one point's block. -/
theorem covered (i : S8x6144.Idx) : ∃ t : Fin cfg0.N, ∃ y : S8x1536.Idx, ((cfg0.win 3).blk t).view.emb y = i := by
  obtain ⟨r, n, rfl⟩ : ∃ (r : Fin 8) (n : Fin 6144), i = ix2 r n := ⟨i 0, i 1, eq_ix2 i⟩
  refine ⟨⟨n.val / 1536, by have e : cfg0.N = 4 := N_0; omega⟩, ix2 r ⟨n.val % 1536, by omega⟩, (out_block _ _ _).trans ?_⟩
  refine congrArg (ix2 r) (Fin.ext ?_)
  show 1536 * (n.val / 1536) + n.val % 1536 = n.val
  omega

/-- After the run the output array is the formula. -/
theorem final_out (hc : ∀ i, IsReal (condArg m c i)) (hcc : ∀ i, IsReal (contextArg m c i)) (hw : ∀ i, IsReal (weightsArg m c i)) :
    (dats m 0 c).arrAt 3 cfg0.N = argModulated m c := by
  refine (dats m 0 c).arrAt_eq_of_emb 3 _ (fun t _ y => ?_) fun i => ?_
  · obtain ⟨r, n, rfl⟩ : ∃ (r : Fin 8) (n : Fin 1536), y = ix2 r n := ⟨y 0, y 1, eq_ix2 y⟩
    refine (congrFun (after0_3 m c t) _).trans ((block_formula (condArg m c) (contextArg m c) (weightsArg m c) (biasArg m c)
      hc hcc hw _ _ _ r n (colOf t n) (fun k => (cond_block m c t r k).trans (congrFun (V_cond m c) _))
      (fun k => (weights_block m c t k n).trans (congrFun (V_weights m c) _))
      ((bias_block m c t n).trans ((congrFun (V_bias m c) _).trans (biasRow_apply _ _)))).trans
      (congrArg (argModulated m c) (out_block t r n)).symm)
  · obtain ⟨t, y, h⟩ := covered i
    exact ⟨t, flush0_3 t, h ▸ View.emb_mem_set _ y⟩

end Cert.Cond

/-! ## The reference -/

namespace Cert.CondRef
open Cert.Reference7Ideal Cert.Reference7Ideal.Read Cert.Cond Idealize.ShloMosaic Idealize.ShloMosaic.TcCoe
open Idealize.ShloMosaic.Pointwise

variable (c : FVec Ideal S4x1024 .f32) (cc : FVec Ideal S1024 .f32) (w : FVec Ideal S1024x6144 .f32) (b : FVec Ideal S6144 .f32)

theorem unit_apply (r : Fin 4) (k : Fin 1024) : (val_main_v0 (F := Ideal) c : FVec Ideal S4x1024 .f32) (ix2 r k) = silu (c (ix2 r k)) := by
  unfold silu
  pointwise [val_main_v0, val_main_call0_v5, val_main_call0_v4, val_main_call0_v3, val_main_call0_v2, val_main_call0_v1,
    val_main_call0_v0, val_main_call0_cst, val_main_call0_cst_0]
  rfl

theorem contextUnit_apply (k : Fin 1024) : (val_main_v5 (F := Ideal) cc : FVec Ideal S1024 .f32) (ix1 k) = silu (cc (ix1 k)) := by
  unfold silu
  pointwise [val_main_v5, val_main_call1_v5, val_main_call1_v4, val_main_call1_v3, val_main_call1_v2, val_main_call1_v1,
    val_main_call1_v0, val_main_call1_cst, val_main_call1_cst_0]
  rfl

theorem rows_apply (r : Fin 4) (n : Fin 6144) : (val_main_v4 (F := Ideal) c w b : FVec Ideal S4x6144 .f32) (ix2 r n)
    = ∑ k, silu (c (ix2 r k)) * w (ix2 k n) + b (ix1 n) := by
  rw [val_main_v4_apply, val_main_v1_apply, val_main_v3_apply, val_main_v2_apply]
  refine congrArg₂ (fun p q : EReal => p + q) (Finset.sum_congr rfl fun k _ => ?_) (congrArg b (eq_ix1 _))
  refine congrArg₂ (fun p q : EReal => p * q) ((congrArg _ (eq_ix2 _)).trans (unit_apply c r k)) (congrArg w (eq_ix2 _))

theorem row_apply (n : Fin 6144) : (val_main_v8 (F := Ideal) cc w b : FVec Ideal S1x6144 .f32) (ix2 0 n)
    = ∑ k, silu (cc (ix1 k)) * w (ix2 k n) + b (ix1 n) := by
  rw [val_main_v8_apply, val_main_v7_apply, val_main_v6_apply]
  refine congrArg₂ (fun p q : EReal => p + q) (Finset.sum_congr rfl fun k _ => ?_) (congrArg b (eq_ix1 _))
  refine congrArg₂ (fun p q : EReal => p * q) ((congrArg _ (eq_ix1 _)).trans (contextUnit_apply cc k)) (congrArg w (eq_ix2 _))

theorem padding_apply (r : Fin 3) (n : Fin 6144) : (val_main_v9 (F := Ideal) b : FVec Ideal S3x6144 .f32) (ix2 r n) = b (ix1 n) := by
  rw [val_main_v9_apply]
  exact congrArg b (eq_ix1 _)

theorem stacked_apply (r : Fin 8) (n : Fin 6144) : (val_main_v10 (F := Ideal) c cc w b : FVec Ideal S8x6144 .f32) (ix2 r n)
    = if h : r.val < 4 then (val_main_v4 (F := Ideal) c w b : FVec Ideal S4x6144 .f32) (ix2 ⟨r.val, h⟩ n)
      else if r.val = 4 then (val_main_v8 (F := Ideal) cc w b : FVec Ideal S1x6144 .f32) (ix2 0 n) else b (ix1 n) := by
  unfold val_main_v10
  generalize (val_main_v4 (F := Ideal) c w b : FVec Ideal S4x6144 .f32) = y4
  generalize (val_main_v8 (F := Ideal) cc w b : FVec Ideal S1x6144 .f32) = y8
  pointwise []
  by_cases h : r.val < 4
  · rw [dif_pos h, dif_pos h]
  · rw [dif_neg h, dif_neg h]
    by_cases h4 : r.val = 4
    · rw [dif_pos (by omega), if_pos h4]
      exact congrArg (fun q => y8 (ix2 q n)) (Subsingleton.elim (α := Fin 1) _ _)
    · rw [dif_neg (by omega), if_neg h4]
      exact padding_apply b _ n

theorem result_eq : val_main_v10 (F := Ideal) c cc w b = modulated c cc w b := by
  funext i
  obtain ⟨r, n, rfl⟩ : ∃ (r : Fin 8) (n : Fin 6144), i = ix2 r n := ⟨i 0, i 1, eq_ix2 i⟩
  refine (stacked_apply c cc w b r n).trans ?_
  show _ = ∑ k, silu (condRow c cc r k) * w (ix2 k n) + b (ix1 n)
  unfold condRow
  by_cases h : r.val < 4
  · rw [dif_pos h, rows_apply]
    simp only [dif_pos h]
  · rw [dif_neg h]
    simp only [dif_neg h]
    by_cases h4 : r.val = 4
    · rw [if_pos h4, row_apply]
      simp only [if_pos h4]
    · rw [if_neg h4]
      simp only [if_neg h4, silu_zero, zero_mul, Finset.sum_const_zero, zero_add]

end Cert.CondRef

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Finite
public import proofs.«01_k».proof.Proof.RefValue
public import proofs.«01_k».proof.Proof.InProjRef
public import proofs.«01_k».proof.Proof.OutProjArray
public import proofs.«01_k».proof.Proof.InProjSecond
public import proofs.«01_k».proof.Proof.HeadOutRef
public import Idealize.ShloMosaic.Adequacy
public import Idealize.ShloMosaic.Lib.Quiescent
public import Idealize.ShloMosaic.Init
public import proofs.«01_k».proof.Proof.PrepFinal
public import proofs.«01_k».proof.Proof.PrepRefResult
public import proofs.«01_k».proof.Proof.CondArray

@[expose] public section

noncomputable section

namespace Cert.Proof

open Idealize.ShloMosaic Idealize.SL.Sem Cert.Kernel

open Cert.Attn

section
variable [Cert.Pre_finite_scores.Facts] (m : (ℓ : Loc Cert.KernelIdeal.nD Cert.KernelIdeal.τ Cert.KernelIdeal.sig) → Buf (Elt Ideal) ℓ)
  (h : Pre_KernelIdeal_finite_scores m) (c : Dev Cert.KernelIdeal.nD)
include h

theorem queries_finite : Finite (m ((c.tc : Thread Cert.KernelIdeal.nD Cert.KernelIdeal.τ).loc Cert.KernelIdeal.main_arg0)) :=
  fun i => real_of_below _ (congrFun (h c).1 i)

theorem keys_finite : Finite (m ((c.tc : Thread Cert.KernelIdeal.nD Cert.KernelIdeal.τ).loc Cert.KernelIdeal.main_arg1)) :=
  fun i => real_of_below _ (congrFun (h c).2.1 i)

theorem context_keys_finite : Finite (m ((c.tc : Thread Cert.KernelIdeal.nD Cert.KernelIdeal.τ).loc Cert.KernelIdeal.main_arg3)) :=
  fun i => real_of_below _ (congrFun (h c).2.2 i)

end

/-- The reference leaves its arguments as they were; its signature has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r hr => ⟨fun c => (hr c).2, sem_eq_zero_of_no_sems (by decide) r.2⟩)
    (Cert.ReferenceIdeal.Value.run m g)

/-- The kernel and the reference end with the same array. -/
theorem algebraic [Cert.Pre_finite_scores.Facts] :
    @algebraic_KernelIdeal_ReferenceIdeal_pre_finite_scores Cert.KernelIdeal.Gen.facts Cert.ReferenceIdeal.Gen.facts _ := by
  intro m g m' g' h hm
  refine ⟨fun c => attentionArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r hr c => ?_) (Cert.KernelIdeal.Value.run_blocks m g)
    exact ⟨(hr c).1.trans (final_out m c (queries_finite m h c) (keys_finite m h c) (context_keys_finite m h c)), (hr c).2⟩
  · refine (θ_run Cert.ReferenceIdeal.defs _ _).mono (fun r hr c => ?_) (Cert.ReferenceIdeal.Value.run m' g')
    refine ⟨(hr c).1.trans ?_, (hr c).2⟩
    obtain ⟨e0, e1, e2, e3, e4⟩ := hm c
    rw [Cert.ReferenceIdeal.Read.val_main_v22_eq, e0, e1, e2, e3, e4]
    exact Cert.AttnRef.result_eq _ _ _ _ _ (queries_finite m h c) (keys_finite m h c) (context_keys_finite m h c)

/-! ## The first mixer's input projection -/

theorem reference_frame2 : @quiescent_Reference2Ideal Cert.Reference2Ideal.Gen.facts := fun m g _ =>
  (θ_run Cert.Reference2Ideal.defs _ _).mono (fun r hr => ⟨fun c => (hr c).2.2, sem_eq_zero_of_no_sems (by decide) r.2⟩)
    (Cert.Reference2Ideal.Value.run m g)

theorem algebraic2 :
    @algebraic_Kernel2Ideal_Reference2Ideal Cert.Kernel2Ideal.Gen.facts Cert.Reference2Ideal.Gen.facts := by
  intro m g m' g' _ hm
  refine ⟨fun c => Cert.InProj.firstArr (Cert.InProj.argProj m c), fun c => Cert.InProj.secondArr (Cert.InProj.argProj m c), ?_, ?_⟩
  · refine (θ_run Cert.Kernel2Ideal.defs _ _).mono (fun r hr c => ?_) (Cert.Kernel2Ideal.Value.run_blocks m g)
    exact ⟨(hr c).1.trans (Cert.InProj.final_first m c), (hr c).2.1.trans (Cert.InProj.final_second m c), (hr c).2.2⟩
  · refine (θ_run Cert.Reference2Ideal.defs _ _).mono (fun r hr c => ?_) (Cert.Reference2Ideal.Value.run m' g')
    obtain ⟨e0, e1, e2, e3, e4, e5⟩ := hm c
    refine ⟨(hr c).1.trans ?_, (hr c).2.1.trans ?_, (hr c).2.2⟩
    · rw [Cert.Reference2Ideal.Read.val_main_v56_eq, e0, e1, e2, e3, e4, e5]
      exact Cert.InProjRef.first_eq _ _ _ _ _ _
    · rw [Cert.Reference2Ideal.Read.val_main_v57_eq, e0, e1, e2, e3, e4, e5]
      exact Cert.InProjRef.second_eq _ _ _ _ _ _

/-! ## The second mixer's output projection -/

theorem reference_frame3 : @quiescent_Reference3Ideal Cert.Reference3Ideal.Gen.facts := fun m g _ =>
  (θ_run Cert.Reference3Ideal.defs _ _).mono (fun r hr => ⟨fun c => (hr c).2, sem_eq_zero_of_no_sems (by decide) r.2⟩)
    (Cert.Reference3Ideal.Value.run m g)

theorem algebraic3 :
    @algebraic_Kernel3Ideal_Reference3Ideal Cert.Kernel3Ideal.Gen.facts Cert.Reference3Ideal.Gen.facts := by
  intro m g m' g' _ hm
  refine ⟨fun c => Cert.OutProj.projected (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4)), ?_, ?_⟩
  · refine (θ_run Cert.Kernel3Ideal.defs _ _).mono (fun r hr c => ?_) (Cert.Kernel3Ideal.Value.run_blocks m g)
    exact ⟨(hr c).1.trans (Cert.OutProj.final_out m c), (hr c).2⟩
  · refine (θ_run Cert.Reference3Ideal.defs _ _).mono (fun r hr c => ?_) (Cert.Reference3Ideal.Value.run m' g')
    obtain ⟨e0, e1, e2, e3, e4⟩ := hm c
    refine ⟨(hr c).1.trans ?_, (hr c).2⟩
    rw [Cert.Reference3Ideal.Read.val_main_v11_eq, e0, e1, e2, e3, e4]
    exact Cert.OutProjRef.result_eq _ _ _ _ _

/-! ## The second mixer's input projection -/

theorem reference_frame4 : @quiescent_Reference4Ideal Cert.Reference4Ideal.Gen.facts := fun m g _ =>
  (θ_run Cert.Reference4Ideal.defs _ _).mono (fun r hr => ⟨fun c => (hr c).2.2, sem_eq_zero_of_no_sems (by decide) r.2⟩)
    (Cert.Reference4Ideal.Value.run m g)

theorem algebraic4 :
    @algebraic_Kernel4Ideal_Reference4Ideal Cert.Kernel4Ideal.Gen.facts Cert.Reference4Ideal.Gen.facts := by
  intro m g m' g' _ hm
  refine ⟨fun c => Cert.InProjSecond.firstArr (Cert.InProjSecond.argProj m c), fun c => Cert.InProjSecond.secondArr (Cert.InProjSecond.argProj m c), ?_, ?_⟩
  · refine (θ_run Cert.Kernel4Ideal.defs _ _).mono (fun r hr c => ?_) (Cert.Kernel4Ideal.Value.run_blocks m g)
    exact ⟨(hr c).1.trans (Cert.InProjSecond.final_first m c), (hr c).2.1.trans (Cert.InProjSecond.final_second m c), (hr c).2.2⟩
  · refine (θ_run Cert.Reference4Ideal.defs _ _).mono (fun r hr c => ?_) (Cert.Reference4Ideal.Value.run m' g')
    obtain ⟨e0, e1, e2, e3, e4, e5⟩ := hm c
    refine ⟨(hr c).1.trans ?_, (hr c).2.1.trans ?_, (hr c).2.2⟩
    · rw [Cert.Reference4Ideal.Read.val_main_v56_eq, e0, e1, e2, e3, e4, e5]
      exact Cert.InProjSecondRef.first_eq _ _ _ _ _ _
    · rw [Cert.Reference4Ideal.Read.val_main_v57_eq, e0, e1, e2, e3, e4, e5]
      exact Cert.InProjSecondRef.second_eq _ _ _ _ _ _

/-! ## The first mixer's output projection -/

theorem head_facts : Cert.Pre_finite_heads.Facts := ⟨by decide⟩

theorem reference_frame5 : @quiescent_Reference5Ideal Cert.Reference5Ideal.Gen.facts := fun m g _ =>
  (θ_run Cert.Reference5Ideal.defs _ _).mono (fun r hr => ⟨fun c => (hr c).2, sem_eq_zero_of_no_sems (by decide) r.2⟩)
    (Cert.Reference5Ideal.Value.run m g)

theorem algebraic5 [Cert.Pre_finite_heads.Facts] :
    @algebraic_Kernel5Ideal_Reference5Ideal_pre_finite_heads Cert.Kernel5Ideal.Gen.facts Cert.Reference5Ideal.Gen.facts _ := by
  intro m g m' g' h hm
  refine ⟨fun c => Cert.HeadOut.argResult m c, ?_, ?_⟩
  · refine (θ_run Cert.Kernel5Ideal.defs _ _).mono (fun r hr c => ?_) (Cert.Kernel5Ideal.Value.run_blocks m g)
    exact ⟨(hr c).1.trans (Cert.HeadOut.final_out m c (fun i => real_of_below _ (congrFun (h c).1 i))
      (fun i => real_of_below _ (congrFun (h c).2 i))), (hr c).2⟩
  · refine (θ_run Cert.Reference5Ideal.defs _ _).mono (fun r hr c => ?_) (Cert.Reference5Ideal.Value.run m' g')
    obtain ⟨e0, e1, e2, e3, e4, e5, e6, e7, e8, e9, e10, e11⟩ := hm c
    refine ⟨(hr c).1.trans ?_, (hr c).2⟩
    rw [Cert.Reference5Ideal.Read.val_main_v53_eq, e0, e1, e2, e3, e4, e5, e6, e7, e8, e9, e10, e11]
    exact Cert.HeadOutRef.result_eq _ _ _ _ _ _ _ _ _ _ _ _

/-! ## The preparation of the recurrence -/

theorem prep_facts : Cert.Pre_finite_prep.Facts :=
  ⟨by decide, by decide, by decide, by decide, by decide, by decide⟩

theorem reference_frame6 : @quiescent_Reference6Ideal Cert.Reference6Ideal.Gen.facts := fun m g _ =>
  (θ_run Cert.Reference6Ideal.defs _ _).mono
    (fun r hr => ⟨fun c => (hr c).2.2.2.2.2.2.2.2.2.2.2, sem_eq_zero_of_no_sems (by decide) r.2⟩)
    (Cert.Reference6Ideal.Value.run m g)

theorem algebraic6 [Cert.Pre_finite_prep.Facts] :
    @algebraic_Kernel6Ideal_Reference6Ideal_pre_finite_prep Cert.Kernel6Ideal.Gen.facts Cert.Reference6Ideal.Gen.facts _ := by
  intro m g m' g' h hm
  refine ⟨fun c => Cert.Prep.receptanceArr (Cert.Prep.zArr m c) (Cert.Prep.spArr m c) (Cert.Prep.snArr m c),
    fun c => Cert.Prep.valueArr (Cert.Prep.zArr m c) (Cert.Prep.spArr m c) (Cert.Prep.snArr m c),
    fun c => Cert.Prep.gateArr (Cert.Prep.zArr m c) (Cert.Prep.spArr m c) (Cert.Prep.snArr m c) (Cert.Prep.g2Arr m c),
    fun c => Cert.Prep.bonusArr (Cert.Prep.zArr m c) (Cert.Prep.spArr m c) (Cert.Prep.snArr m c) (Cert.Prep.a0Arr m c)
      (Cert.Prep.a2Arr m c) (Cert.Prep.kaArr m c) (Cert.Prep.rkArr m c),
    fun c => Cert.Prep.unitArr (Cert.Prep.zArr m c) (Cert.Prep.spArr m c) (Cert.Prep.snArr m c) (Cert.Prep.kkArr m c),
    fun c => Cert.Prep.decayArr (Cert.Prep.zArr m c) (Cert.Prep.spArr m c) (Cert.Prep.snArr m c) (Cert.Prep.w0Arr m c)
      (Cert.Prep.w2Arr m c) 0,
    fun c => Cert.Prep.keyArr (Cert.Prep.zArr m c) (Cert.Prep.spArr m c) (Cert.Prep.snArr m c) (Cert.Prep.a0Arr m c)
      (Cert.Prep.a2Arr m c) (Cert.Prep.kaArr m c) 0,
    fun c => Cert.Prep.writtenArr (Cert.Prep.zArr m c) (Cert.Prep.spArr m c) (Cert.Prep.snArr m c) (Cert.Prep.a0Arr m c)
      (Cert.Prep.a2Arr m c) (Cert.Prep.kkArr m c) 0,
    fun c => Cert.Prep.decayArr (Cert.Prep.zArr m c) (Cert.Prep.spArr m c) (Cert.Prep.snArr m c) (Cert.Prep.w0Arr m c)
      (Cert.Prep.w2Arr m c) 1,
    fun c => Cert.Prep.keyArr (Cert.Prep.zArr m c) (Cert.Prep.spArr m c) (Cert.Prep.snArr m c) (Cert.Prep.a0Arr m c)
      (Cert.Prep.a2Arr m c) (Cert.Prep.kaArr m c) 1,
    fun c => Cert.Prep.writtenArr (Cert.Prep.zArr m c) (Cert.Prep.spArr m c) (Cert.Prep.snArr m c) (Cert.Prep.a0Arr m c)
      (Cert.Prep.a2Arr m c) (Cert.Prep.kkArr m c) 1,
    ?_, ?_⟩
  · refine (θ_run Cert.Kernel6Ideal.defs _ _).mono (fun r hr c => ?_) (Cert.Kernel6Ideal.Value.run_blocks m g)
    obtain ⟨pz, pp, pn, pw, pa, pg, pk, pka, pr⟩ := h c
    have hz : ∀ i, Cert.Prep.IsReal (Cert.Prep.zArr m c i) := fun i => real_of_below _ (congrFun pz i)
    have hp : ∀ i, Cert.Prep.IsReal (Cert.Prep.spArr m c i) := fun i => real_of_below _ (congrFun pp i)
    have hn : ∀ i, Cert.Prep.IsReal (Cert.Prep.snArr m c i) := fun i => real_of_below _ (congrFun pn i)
    have hw : ∀ i, Cert.Prep.IsReal (Cert.Prep.w2Arr m c i) := fun i => real_of_below _ (congrFun pw i)
    have ha : ∀ i, Cert.Prep.IsReal (Cert.Prep.a2Arr m c i) := fun i => real_of_below _ (congrFun pa i)
    have hg : ∀ i, Cert.Prep.IsReal (Cert.Prep.g2Arr m c i) := fun i => real_of_below _ (congrFun pg i)
    have hk : ∀ i, Cert.Prep.IsReal (Cert.Prep.kkArr m c i) := fun i => real_of_below _ (congrFun pk i)
    have hka : ∀ i, Cert.Prep.IsReal (Cert.Prep.kaArr m c i) := fun i => real_of_below _ (congrFun pka i)
    have hr' : ∀ i, Cert.Prep.IsReal (Cert.Prep.rkArr m c i) := fun i => real_of_below _ (congrFun pr i)
    obtain ⟨q0, q1, q2, q3, q4, q5, q6, q7, q8, q9, q10, q⟩ := hr c
    exact ⟨q0.trans (Cert.Prep.final_receptance m c), q1.trans (Cert.Prep.final_value m c),
      q2.trans (Cert.Prep.final_gate m c hz hp hn hg), q3.trans (Cert.Prep.final_bonus m c hz hp hn ha hka hr'),
      q4.trans (Cert.Prep.final_unit m c hz hp hn hk), q5.trans (Cert.Prep.final_decay m c hw),
      q6.trans (Cert.Prep.final_key m c hz hp hn ha), q7.trans (Cert.Prep.final_written m c hz hp hn ha hk),
      q8.trans (Cert.Prep.final_decay' m c hw), q9.trans (Cert.Prep.final_key' m c hz hp hn ha),
      q10.trans (Cert.Prep.final_written' m c hz hp hn ha hk), q⟩
  · refine (θ_run Cert.Reference6Ideal.defs _ _).mono (fun r hr c => ?_) (Cert.Reference6Ideal.Value.run m' g')
    obtain ⟨e0, e1, e2, e3, e4, e5, e6, e7, e8, e9, e10⟩ := hm c
    have a0 : StableHlo.launchContents m' c (Proc.devRef .tc Cert.Reference6Ideal.main_arg0) = Cert.Prep.zArr m c := e0
    have a1 : StableHlo.launchContents m' c (Proc.devRef .tc Cert.Reference6Ideal.main_arg1) = Cert.Prep.spArr m c := e1
    have a2 : StableHlo.launchContents m' c (Proc.devRef .tc Cert.Reference6Ideal.main_arg2) = Cert.Prep.snArr m c := e2
    have a3 : StableHlo.launchContents m' c (Proc.devRef .tc Cert.Reference6Ideal.main_arg3) = Cert.Prep.w0Arr m c := e3
    have a4 : StableHlo.launchContents m' c (Proc.devRef .tc Cert.Reference6Ideal.main_arg4) = Cert.Prep.w2Arr m c := e4
    have a5 : StableHlo.launchContents m' c (Proc.devRef .tc Cert.Reference6Ideal.main_arg5) = Cert.Prep.a0Arr m c := e5
    have a6 : StableHlo.launchContents m' c (Proc.devRef .tc Cert.Reference6Ideal.main_arg6) = Cert.Prep.a2Arr m c := e6
    have a7 : StableHlo.launchContents m' c (Proc.devRef .tc Cert.Reference6Ideal.main_arg7) = Cert.Prep.g2Arr m c := e7
    have a8 : StableHlo.launchContents m' c (Proc.devRef .tc Cert.Reference6Ideal.main_arg8) = Cert.Prep.kkArr m c := e8
    have a9 : StableHlo.launchContents m' c (Proc.devRef .tc Cert.Reference6Ideal.main_arg9) = Cert.Prep.kaArr m c := e9
    have a10 : StableHlo.launchContents m' c (Proc.devRef .tc Cert.Reference6Ideal.main_arg10) = Cert.Prep.rkArr m c := e10
    obtain ⟨q0, q1, q2, q3, q4, q5, q6, q7, q8, q9, q10, q⟩ := hr c
    refine ⟨q0.trans ?_, q1.trans ?_, q2.trans ?_, q3.trans ?_, q4.trans ?_, q5.trans ?_, q6.trans ?_, q7.trans ?_,
      q8.trans ?_, q9.trans ?_, q10.trans ?_, q⟩
    · exact (Cert.Reference6Ideal.Read.val_main_v31_eq _).trans ((Cert.PrepRef.receptance_eq _ _ _).trans
        (by rw [a0, a1, a2]))
    · exact (Cert.Reference6Ideal.Read.val_main_v33_eq _).trans ((Cert.PrepRef.value_eq _ _ _).trans
        (by rw [a0, a1, a2]))
    · exact (Cert.Reference6Ideal.Read.val_main_v45_eq _).trans ((Cert.PrepRef.gate_eq _ _ _ _).trans
        (by rw [a0, a1, a2, a7]))
    · exact (Cert.Reference6Ideal.Read.val_main_v173_eq _).trans ((Cert.PrepRef.bonus_eq _ _ _ _ _ _ _).trans
        (by rw [a0, a1, a2, a5, a6, a9, a10]))
    · exact (Cert.Reference6Ideal.Read.val_main_v174_eq _).trans ((Cert.PrepRef.unit_eq _ _ _ _).trans
        (by rw [a0, a1, a2, a8]))
    · exact (Cert.Reference6Ideal.Read.val_main_v102_eq _).trans ((Cert.PrepRef.decay_eq _ _ _ _ _).trans
        (by rw [a0, a1, a2, a3, a4]))
    · exact (Cert.Reference6Ideal.Read.val_main_v103_eq _).trans ((Cert.PrepRef.key_eq _ _ _ _ _ _).trans
        (by rw [a0, a1, a2, a5, a6, a9]))
    · exact (Cert.Reference6Ideal.Read.val_main_v106_eq _).trans ((Cert.PrepRef.written_eq _ _ _ _ _ _).trans
        (by rw [a0, a1, a2, a5, a6, a8]))
    · exact (Cert.Reference6Ideal.Read.val_main_v159_eq _).trans ((Cert.PrepRef.decay'_eq _ _ _ _ _).trans
        (by rw [a0, a1, a2, a3, a4]))
    · exact (Cert.Reference6Ideal.Read.val_main_v160_eq _).trans ((Cert.PrepRef.key'_eq _ _ _ _ _ _).trans
        (by rw [a0, a1, a2, a5, a6, a9]))
    · exact (Cert.Reference6Ideal.Read.val_main_v163_eq _).trans ((Cert.PrepRef.written'_eq _ _ _ _ _ _).trans
        (by rw [a0, a1, a2, a5, a6, a8]))

/-! ## The modulation -/

theorem cond_facts : Cert.Pre_finite_cond.Facts := ⟨by decide, by decide, by decide⟩

theorem reference_frame7 : @quiescent_Reference7Ideal Cert.Reference7Ideal.Gen.facts := fun m g _ =>
  (θ_run Cert.Reference7Ideal.defs _ _).mono (fun r hr => ⟨fun c => (hr c).2, sem_eq_zero_of_no_sems (by decide) r.2⟩)
    (Cert.Reference7Ideal.Value.run m g)

theorem algebraic7 [Cert.Pre_finite_cond.Facts] :
    @algebraic_Kernel7Ideal_Reference7Ideal_pre_finite_cond Cert.Kernel7Ideal.Gen.facts Cert.Reference7Ideal.Gen.facts _ := by
  intro m g m' g' h hm
  refine ⟨fun c => Cert.Cond.argModulated m c, ?_, ?_⟩
  · refine (θ_run Cert.Kernel7Ideal.defs _ _).mono (fun r hr c => ?_) (Cert.Kernel7Ideal.Value.run_blocks m g)
    obtain ⟨pc, pcc, pw⟩ := h c
    exact ⟨(hr c).1.trans (Cert.Cond.final_out m c (fun i => real_of_below _ (congrFun pc i))
      (fun i => real_of_below _ (congrFun pcc i)) (fun i => real_of_below _ (congrFun pw i))), (hr c).2⟩
  · refine (θ_run Cert.Reference7Ideal.defs _ _).mono (fun r hr c => ?_) (Cert.Reference7Ideal.Value.run m' g')
    obtain ⟨e0, e1, e2, e3⟩ := hm c
    refine ⟨(hr c).1.trans ?_, (hr c).2⟩
    exact (Cert.Reference7Ideal.Read.val_main_v10_eq _ _ _ _).trans ((Cert.CondRef.result_eq _ _ _ _).trans
      (by rw [e0, e1, e2, e3]))

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, pre_facts, head_facts, prep_facts, cond_facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ,
  fun m ρ _ => Cert.Kernel2.Gen.frame m ρ, fun m ρ _ => Cert.Kernel2Ideal.Gen.frame m ρ, reference_frame2,
  fun m ρ _ => Cert.Kernel3.Gen.frame m ρ, fun m ρ _ => Cert.Kernel3Ideal.Gen.frame m ρ, reference_frame3,
  fun m ρ _ => Cert.Kernel4.Gen.frame m ρ, fun m ρ _ => Cert.Kernel4Ideal.Gen.frame m ρ, reference_frame4,
  fun m ρ _ => Cert.Kernel5.Gen.frame m ρ, fun m ρ _ => Cert.Kernel5Ideal.Gen.frame m ρ, fun m ρ _ => Cert.Kernel5Ideal.Gen.frame m ρ,
  reference_frame5, fun m ρ _ => reference_frame5 m ρ trivial,
  fun m ρ _ => Cert.Kernel6.Gen.frame m ρ, fun m ρ _ => Cert.Kernel6Ideal.Gen.frame m ρ, fun m ρ _ => Cert.Kernel6Ideal.Gen.frame m ρ,
  reference_frame6, fun m ρ _ => reference_frame6 m ρ trivial,
  fun m ρ _ => Cert.Kernel7.Gen.frame m ρ, fun m ρ _ => Cert.Kernel7Ideal.Gen.frame m ρ, fun m ρ _ => Cert.Kernel7Ideal.Gen.frame m ρ,
  reference_frame7, fun m ρ _ => reference_frame7 m ρ trivial,
  trivial, @algebraic pre_facts, trivial, algebraic2, trivial, algebraic3, trivial, algebraic4, trivial, @algebraic5 head_facts,
  trivial, @algebraic6 prep_facts, trivial, @algebraic7 cond_facts⟩

end Cert.Proof

end
